-- ==== Defs.lean ====
def Pre_Kernel [hPre_names_an_expert : Cert.Pre_names_an_expert.Facts] (m : (ℓ : Loc Cert.Kernel.nD Cert.Kernel.τ Cert.Kernel.sig) → Buf (Elt Bits) ℓ) : Prop :=
  ∀ c : Dev Cert.Kernel.nD,
    (Cert.Pre_names_an_expert.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_names_an_expert : Cert.Pre_names_an_expert.Facts] (m : (ℓ : Loc Cert.KernelIdeal.nD Cert.KernelIdeal.τ Cert.KernelIdeal.sig) → Buf (Elt Ideal) ℓ) : Prop :=
  ∀ c : Dev Cert.KernelIdeal.nD,
    (Cert.Pre_names_an_expert.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_names_an_expert : Cert.Pre_names_an_expert.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_names_an_expert.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] [hPre_names_an_expert : Cert.Pre_names_an_expert.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_names_an_expert : Cert.Pre_names_an_expert.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_names_an_expert : Cert.Pre_names_an_expert.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_names_an_expert : Cert.Pre_names_an_expert.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v5_0)) (v1 : (c : Dev Cert.Kernel5Ideal.nD) → Buf (Elt Ideal) ((c.tc : Thread Cert.Kernel5Ideal.nD Cert.Kernel5Ideal.τ).loc Cert.Kernel5Ideal.main_v5_1)) (v2 : (c : Dev Cert.Kernel5Ideal.nD) → Buf (Elt Ideal) ((c.tc : Thread Cert.Kernel5Ideal.nD Cert.Kernel5Ideal.τ).loc Cert.Kernel5Ideal.main_v5_2)) (v3 : (c : Dev Cert.Kernel5Ideal.nD) → Buf (Elt Ideal) ((c.tc : Thread Cert.Kernel5Ideal.nD Cert.Kernel5Ideal.τ).loc Cert.Kernel5Ideal.main_v5_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v5_0) = v0 c
          ∧ r.2.mem ((c.tc : Thread Cert.Kernel5Ideal.nD Cert.Kernel5Ideal.τ).loc Cert.Kernel5Ideal.main_v5_1) = v1 c
          ∧ r.2.mem ((c.tc : Thread Cert.Kernel5Ideal.nD Cert.Kernel5Ideal.τ).loc Cert.Kernel5Ideal.main_v5_2) = v2 c
          ∧ r.2.mem ((c.tc : Thread Cert.Kernel5Ideal.nD Cert.Kernel5Ideal.τ).loc Cert.Kernel5Ideal.main_v5_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v64) = v1 c
          ∧ r.2.mem ((c.tc : Thread Cert.Reference5Ideal.nD Cert.Reference5Ideal.τ).loc Cert.Reference5Ideal.main_v67) = v2 c
          ∧ r.2.mem ((c.tc : Thread Cert.Reference5Ideal.nD Cert.Reference5Ideal.τ).loc Cert.Reference5Ideal.main_v68) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v10_0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10_0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v20) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v45)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v45) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v62) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_names_an_expert : Cert.Pre_names_an_expert.Facts),
    quiescent_Kernel (hKernel := hKernel) (hPre_names_an_expert := hPre_names_an_expert)
    ∧ quiescent_KernelIdeal (hKernelIdeal := hKernelIdeal) (hPre_names_an_expert := hPre_names_an_expert)
    ∧ quiescent_ReferenceIdeal (hReferenceIdeal := hReferenceIdeal) (hPre_names_an_expert := hPre_names_an_expert)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal (hKernelIdeal := hKernelIdeal) (hReferenceIdeal := hReferenceIdeal) (hPre_names_an_expert := hPre_names_an_expert)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_names_an_expert.lean ====
abbrev S43008x1024 : Shape := ⟨2, ![43008, 1024]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S56 : S_.BroadcastsInDim S56 (![] : Fin 0 → Fin S56.rank)
  reducesTo_S56_S_d0 : S56.ReducesTo [0] S_
  h_S_ : 0 < S_.numel

variable [Facts]

def fn {F : FTy → Type} [FloatOps F] (main_arg0 : FVec F S43008x1024 .bf16) (main_arg1 : IVec S56 32) (main_arg2 : IVec S1 32) (main_arg3 : FVec F S8x1024x3584 .f32) (main_arg4 : FVec F S8x1024x3584 .f32) (main_arg5 : FVec F S8x3584x1024 .f32) : IVec S_ 1 :=
  let main_c : IVec S_ 32 := constantI S_ 32 0#32
  let main_v0 : IVec S56 32 := broadcastInDim S56 ![] bcast_S_S56 main_c
  let main_v1 : IVec S56 1 := cmpi .sge main_arg1 main_v0
  let main_c_0 : IVec S_ 32 := constantI S_ 32 8#32
  let main_v2 : IVec S56 32 := broadcastInDim S56 ![] bcast_S_S56 main_c_0
  let main_v3 : IVec S56 1 := cmpi .slt main_arg1 main_v2
  let main_v4 : IVec S56 1 := andi main_v1 main_v3
  let main_c_1 : IVec S_ 1 := constantI S_ 1 1#1
  let main_v5 : IVec S_ 1 := (fun x v => Host.reduce IntOp.andi x v reducesTo_S56_S_d0 h_S_) main_v4 main_c_1
  main_v5
-- ==== Kernel.lean ====
abbrev S43008x1024 : Shape := ⟨2, ![43008, 1024]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S768x1024 : Shape := ⟨2, ![768, 1024]⟩
abbrev S1x1024x1792 : Shape := ⟨3, ![1, 1024, 1792]⟩
abbrev S1x1792x1024 : Shape := ⟨3, ![1, 1792, 1024]⟩
abbrev S1x1024x256 : Shape := ⟨3, ![1, 1024, 256]⟩
abbrev S1024x256 : Shape := ⟨2, ![1024, 256]⟩
abbrev S768x256 : Shape := ⟨2, ![768, 256]⟩
abbrev S1x256x1024 : Shape := ⟨3, ![1, 256, 1024]⟩
abbrev S256x1024 : Shape := ⟨2, ![256, 1024]⟩

abbrev nBuf : Space → Nat
  | .hbm => 5
  | .vmem => 11
  | .smem => 2
  | _ => 0

abbrev bufTy : (tb : Table) → Fin (tcTables nBuf tb) → BufTy
  | .hbm, ⟨0, _⟩ => ⟨S43008x1024, .bf16⟩
  | .hbm, ⟨1, _⟩ => ⟨S8x1024x3584, .f32⟩
  | .hbm, ⟨2, _⟩ => ⟨S8x1024x3584, .f32⟩
  | .hbm, ⟨3, _⟩ => ⟨S8x3584x1024, .f32⟩
  | .hbm, ⟨4, _⟩ => ⟨S43008x1024, .bf16⟩
  | .local _ .vmem, ⟨0, _⟩ => ⟨S768x1024, .bf16⟩
  | .local _ .vmem, ⟨1, _⟩ => ⟨S768x1024, .bf16⟩
  | .local _ .vmem, ⟨2, _⟩ => ⟨S1x1024x1792, .f32⟩
  | .local _ .vmem, ⟨3, _⟩ => ⟨S1x1024x1792, .f32⟩
  | .local _ .vmem, ⟨4, _⟩ => ⟨S1x1024x1792, .f32⟩
  | .local _ .vmem, ⟨5, _⟩ => ⟨S1x1024x1792, .f32⟩
  | .local _ .vmem, ⟨6, _⟩ => ⟨S1x1792x1024, .f32⟩
  | .local _ .vmem, ⟨7, _⟩ => ⟨S1x1792x1024, .f32⟩
  | .local _ .vmem, ⟨8, _⟩ => ⟨S768x1024, .bf16⟩
  | .local _ .vmem, ⟨9, _⟩ => ⟨S768x1024, .bf16⟩
  | .local _ .vmem, ⟨10, _⟩ => ⟨S768x1024, .f32⟩
  | .local _ .smem, ⟨0, _⟩ => ⟨S56, .i32⟩
  | .local _ .smem, ⟨1, _⟩ => ⟨S1, .i32⟩
  | _, _ => ⟨S43008x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![56, 2], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32 : BitVec 32 := 1#32
  let v203 : BitVec 1 := Scalar.cmpi .eq arg1 c1_i32
  let v204 : BitVec 32 := Scalar.extui v203
  let c0_i32_133 : BitVec 32 := 0#32
  let v205 : BitVec 1 := Scalar.cmpi .ne v204 c0_i32_133
  v205

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c0_i32_1 : BitVec 32 := 0#32
  let v6 : BitVec 1 := Scalar.cmpi .eq arg1 c0_i32_1
  let v7 : BitVec 1 := Scalar.andi v5 v6
  let v8 : BitVec 32 := Scalar.extui v7
  let c0_i32_2 : BitVec 32 := 0#32
  let v9 : BitVec 1 := Scalar.cmpi .ne v8 c0_i32_2
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_i32 : BitVec 32 := 0#32
  let v5 : BitVec 32 := Scalar.maxsi v4 c0_i32
  let c0_0 : Index := 0#32
  let v6 : BitVec 32 := pf.at 1 (Rect.unit (s := S1) ![0] S1.size inb_S1_S1_0) numel1_S1
  let v7 : BitVec 1 := Scalar.cmpi .slt arg0 v6
  let c1_i32_1 : BitVec 32 := 1#32
  let v8 : BitVec 32 := Scalar.select v7 arg1 c1_i32_1
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi v5 v10
  let c0_i32_4 : BitVec 32 := 0#32
  let v12 : BitVec 1 := Scalar.cmpi .ne v11 c0_i32_4
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let v16 : BitVec 1 := Scalar.andi v15 v12
  let v17 : BitVec 32 := Scalar.addi v11 v10
  let v18 : BitVec 32 := Scalar.select v16 v17 v11
  let c0_i32_7 : BitVec 32 := 0#32
  let v19 : BitVec 1 := Scalar.cmpi .eq v18 c0_i32_7
  let c1_i32_8 : BitVec 32 := 1#32
  let v20 : BitVec 32 := Scalar.subi c1_i32_8 v8
  let v21 : BitVec 32 := Scalar.select v19 v8 v20
  let c0_i32_9 : BitVec 32 := 0#32
  let c0_i32_10 : BitVec 32 := 0#32
  ![v1.toNat, c0_i32_9.toNat, v21.toNat]

def cc0_transform_2 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_i32 : BitVec 32 := 0#32
  let v5 : BitVec 32 := Scalar.maxsi v4 c0_i32
  let c0_0 : Index := 0#32
  let v6 : BitVec 32 := pf.at 1 (Rect.unit (s := S1) ![0] S1.size inb_S1_S1_0) numel1_S1
  let v7 : BitVec 1 := Scalar.cmpi .slt arg0 v6
  let c1_i32_1 : BitVec 32 := 1#32
  let v8 : BitVec 32 := Scalar.select v7 arg1 c1_i32_1
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi v5 v10
  let c0_i32_4 : BitVec 32 := 0#32
  let v12 : BitVec 1 := Scalar.cmpi .ne v11 c0_i32_4
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let v16 : BitVec 1 := Scalar.andi v15 v12
  let v17 : BitVec 32 := Scalar.addi v11 v10
  let v18 : BitVec 32 := Scalar.select v16 v17 v11
  let c0_i32_7 : BitVec 32 := 0#32
  let v19 : BitVec 1 := Scalar.cmpi .eq v18 c0_i32_7
  let c1_i32_8 : BitVec 32 := 1#32
  let v20 : BitVec 32 := Scalar.subi c1_i32_8 v8
  let v21 : BitVec 32 := Scalar.select v19 v8 v20
  let c0_i32_9 : BitVec 32 := 0#32
  let c0_i32_10 : BitVec 32 := 0#32
  ![v1.toNat, c0_i32_9.toNat, v21.toNat]

def cc0_transform_3 (k0_off1_inb : ∀ i : grid0.Coords, ∀ a, (k0_off1 i) a + S1.size a ≤ S56.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S56) ![v0.toNat] S1.size (k0_off1_inb i)) numel1_S1
  let c0 : Index := 0#32
  let v2 : BitVec 32 := pf.at 1 (Rect.unit (s := S1) ![0] S1.size inb_S1_S1_0) numel1_S1
  let c1_i32 : BitVec 32 := 1#32
  let v3 : BitVec 32 := Scalar.subi v2 c1_i32
  let v4 : BitVec 32 := Scalar.minsi arg0 v3
  let c0_i32 : BitVec 32 := 0#32
  let v5 : BitVec 32 := Scalar.maxsi v4 c0_i32
  let c0_0 : Index := 0#32
  let v6 : BitVec 32 := pf.at 1 (Rect.unit (s := S1) ![0] S1.size inb_S1_S1_0) numel1_S1
  let v7 : BitVec 1 := Scalar.cmpi .slt arg0 v6
  let c1_i32_1 : BitVec 32 := 1#32
  let v8 : BitVec 32 := Scalar.select v7 arg1 c1_i32_1
  let c2_i32 : BitVec 32 := 2#32
  let c0_i32_2 : BitVec 32 := 0#32
  let v9 : BitVec 1 := Scalar.cmpi .eq c2_i32 c0_i32_2
  let c1_i32_3 : BitVec 32 := 1#32
  let v10 : BitVec 32 := Scalar.select v9 c1_i32_3 c2_i32
  let v11 : BitVec 32 := Scalar.remsi v5 v10
  let c0_i32_4 : BitVec 32 := 0#32
  let v12 : BitVec 1 := Scalar.cmpi .ne v11 c0_i32_4
  let c0_i32_5 : BitVec 32 := 0#32
  let v13 : BitVec 1 := Scalar.cmpi .slt v11 c0_i32_5
  let c0_i32_6 : BitVec 32 := 0#32
  let v14 : BitVec 1 := Scalar.cmpi .slt v10 c0_i32_6
  let v15 : BitVec 1 := Scalar.xori v13 v14
  let v16 : BitVec 1 := Scalar.andi v15 v12
  let v17 : BitVec 32 := Scalar.addi v11 v10
  let v18 : BitVec 32 := Scalar.select v16 v17 v11
  let c0_i32_7 : BitVec 32 := 0#32
  let v19 : BitVec 1 := Scalar.cmpi .eq v18 c0_i32_7
  let c1_i32_8 : BitVec 32 := 1#32
  let v20 : BitVec 32 := Scalar.subi c1_i32_8 v8
  let v21 : BitVec 32 := Scalar.select v19 v8 v20
  let c0_i32_9 : BitVec 32 := 0#32
  let c0_i32_10 : BitVec 32 := 0#32
  ![v1.toNat, v21.toNat, c0_i32_9.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S768x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S43008x1024 : Shape := ⟨2, ![43008, 1024]⟩
abbrev S56 : Shape := ⟨1, ![56]⟩
abbrev S1 : Shape := ⟨1, ![1]⟩
abbrev S8x1024x3584 : Shape := ⟨3, ![8, 1024, 3584]⟩
abbrev S8x3584x1024 : Shape := ⟨3, ![8, 3584, 1024]⟩
abbrev S_ : Shape := ⟨0, ![]⟩
abbrev S56x1 : Shape := ⟨2, ![56, 1]⟩
abbrev S56x768 : Shape := ⟨2, ![56, 768]⟩
abbrev S43008 : Shape := ⟨1, ![43008]⟩
abbrev S43008x1 : Shape := ⟨2, ![43008, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S43008x3584 : Shape := ⟨2, ![43008, 3584]⟩

abbrev nBuf : Space → Nat
  | .hbm => 236
  | .vmem => 0
  | .smem => 0
  | _ => 0

abbrev hbmTy0_0 (i : Nat) : BufTy := match i % 128 with
  | 0 => ⟨S43008x1024, .bf16⟩
  | 1 => ⟨S56, .i32⟩
  | 2 => ⟨S1, .i32⟩
  | 3 => ⟨S8x1024x3584, .f32⟩
  | 4 => ⟨S8x1024x3584, .f32⟩
  | 5 => ⟨S8x3584x1024, .f32⟩
  | 6 => ⟨S43008x1024, .f32⟩
  | 7 => ⟨S56, .i32⟩
  | 8 => ⟨S56, .i32⟩
  | 9 => ⟨S56, .i1⟩
  | 10 => ⟨S_, .i32⟩
  | 11 => ⟨S_, .i32⟩
  | 12 => ⟨S56, .i32⟩
  | 13 => ⟨S56, .i32⟩
  | 14 => ⟨S56x1, .i32⟩
  | 15 => ⟨S56x768, .i32⟩
  | 16 => ⟨S43008, .i32⟩
  | 17 => ⟨S_, .f32⟩
  | 18 => ⟨S43008x1024, .f32⟩
  | 19 => ⟨S_, .i32⟩
  | 20 => ⟨S43008, .i32⟩
  | 21 => ⟨S43008, .i1⟩
  | 22 => ⟨S43008, .f32⟩
  | 23 => ⟨S43008x1, .f32⟩
  | 24 => ⟨S1x1024x3584, .f32⟩
  | 25 => ⟨S1024x3584, .f32⟩
  | 26 => ⟨S1x1024x3584, .f32⟩
  | 27 => ⟨S1024x3584, .f32⟩
  | 28 => ⟨S1x3584x1024, .f32⟩
  | 29 => ⟨S3584x1024, .f32⟩
  | 30 => ⟨S43008x3584, .f32⟩
  | 31 => ⟨S43008x3584, .f32⟩
  | 32 => ⟨S43008x3584, .f32⟩
  | 33 => ⟨S_, .f32⟩
  | 34 => ⟨S43008x3584, .f32⟩
  | 35 => ⟨S43008x3584, .f32⟩
  | 36 => ⟨S_, .f32⟩
  | 37 => ⟨S43008x3584, .f32⟩
  | 38 => ⟨S43008x3584, .f32⟩
  | 39 => ⟨S43008x3584, .f32⟩
  | 40 => ⟨S43008x3584, .f32⟩
  | 41 => ⟨S43008x3584, .f32⟩
  | 42 => ⟨S43008x1024, .f32⟩
  | 43 => ⟨S43008x1024, .f32⟩
  | 44 => ⟨S43008x1024, .f32⟩
  | 45 => ⟨S43008x1024, .f32⟩
  | 46 => ⟨S_, .i32⟩
  | 47 => ⟨S43008, .i32⟩
  | 48 => ⟨S43008, .i1⟩
  | 49 => ⟨S43008, .f32⟩
  | 50 => ⟨S43008x1, .f32⟩
  | 51 => ⟨S1x1024x3584, .f32⟩
  | 52 => ⟨S1024x3584, .f32⟩
  | 53 => ⟨S1x1024x3584, .f32⟩
  | 54 => ⟨S1024x3584, .f32⟩
  | 55 => ⟨S1x3584x1024, .f32⟩
  | 56 => ⟨S3584x1024, .f32⟩
  | 57 => ⟨S43008x3584, .f32⟩
  | 58 => ⟨S43008x3584, .f32⟩
  | 59 => ⟨S43008x3584, .f32⟩
  | 60 => ⟨S_, .f32⟩
  | 61 => ⟨S43008x3584, .f32⟩
  | 62 => ⟨S43008x3584, .f32⟩
  | 63 => ⟨S_, .f32⟩
  | 64 => ⟨S43008x3584, .f32⟩
  | 65 => ⟨S43008x3584, .f32⟩
  | 66 => ⟨S43008x3584, .f32⟩
  | 67 => ⟨S43008x3584, .f32⟩
  | 68 => ⟨S43008x3584, .f32⟩
  | 69 => ⟨S43008x1024, .f32⟩
  | 70 => ⟨S43008x1024, .f32⟩
  | 71 => ⟨S43008x1024, .f32⟩
  | 72 => ⟨S43008x1024, .f32⟩
  | 73 => ⟨S_, .i32⟩
  | 74 => ⟨S43008, .i32⟩
  | 75 => ⟨S43008, .i1⟩
  | 76 => ⟨S43008, .f32⟩
  | 77 => ⟨S43008x1, .f32⟩
  | 78 => ⟨S1x1024x3584, .f32⟩
  | 79 => ⟨S1024x3584, .f32⟩
  | 80 => ⟨S1x1024x3584, .f32⟩
  | 81 => ⟨S1024x3584, .f32⟩
  | 82 => ⟨S1x3584x1024, .f32⟩
  | 83 => ⟨S3584x1024, .f32⟩
  | 84 => ⟨S43008x3584, .f32⟩
  | 85 => ⟨S43008x3584, .f32⟩
  | 86 => ⟨S43008x3584, .f32⟩
  | 87 => ⟨S_, .f32⟩
  | 88 => ⟨S43008x3584, .f32⟩
  | 89 => ⟨S43008x3584, .f32⟩
  | 90 => ⟨S_, .f32⟩
  | 91 => ⟨S43008x3584, .f32⟩
  | 92 => ⟨S43008x3584, .f32⟩
  | 93 => ⟨S43008x3584, .f32⟩
  | 94 => ⟨S43008x3584, .f32⟩
  | 95 => ⟨S43008x3584, .f32⟩
  | 96 => ⟨S43008x1024, .f32⟩
  | 97 => ⟨S43008x1024, .f32⟩
  | 98 => ⟨S43008x1024, .f32⟩
  | 99 => ⟨S43008x1024, .f32⟩
  | 100 => ⟨S_, .i32⟩
  | 101 => ⟨S43008, .i32⟩
  | 102 => ⟨S43008, .i1⟩
  | 103 => ⟨S43008, .f32⟩
  | 104 => ⟨S43008x1, .f32⟩
  | 105 => ⟨S1x1024x3584, .f32⟩
  | 106 => ⟨S1024x3584, .f32⟩
  | 107 => ⟨S1x1024x3584, .f32⟩
  | 108 => ⟨S1024x3584, .f32⟩
  | 109 => ⟨S1x3584x1024, .f32⟩
  | 110 => ⟨S3584x1024, .f32⟩
  | 111 => ⟨S43008x3584, .f32⟩
  | 112 => ⟨S43008x3584, .f32⟩
  | 113 => ⟨S43008x3584, .f32⟩
  | 114 => ⟨S_, .f32⟩
  | 115 => ⟨S43008x3584, .f32⟩
  | 116 => ⟨S43008x3584, .f32⟩
  | 117 => ⟨S_, .f32⟩
  | 118 => ⟨S43008x3584, .f32⟩
  | 119 => ⟨S43008x3584, .f32⟩
  | 120 => ⟨S43008x3584, .f32⟩
  | 121 => ⟨S43008x3584, .f32⟩
  | 122 => ⟨S43008x3584, .f32⟩
  | 123 => ⟨S43008x1024, .f32⟩
  | 124 => ⟨S43008x1024, .f32⟩
  | 125 => ⟨S43008x1024, .f32⟩
  | 126 => ⟨S43008x1024, .f32⟩
  | 127 => ⟨S_, .i32⟩
  | _ => ⟨S43008x1024, .bf16⟩

abbrev hbmTy0_1 (i : Nat) : BufTy := match i % 128 with
  | 0 => ⟨S43008, .i32⟩
  | 1 => ⟨S43008, .i1⟩
  | 2 => ⟨S43008, .f32⟩
  | 3 => ⟨S43008x1, .f32⟩
  | 4 => ⟨S1x1024x3584, .f32⟩
  | 5 => ⟨S1024x3584, .f32⟩
  | 6 => ⟨S1x1024x3584, .f32⟩
  | 7 => ⟨S1024x3584, .f32⟩
  | 8 => ⟨S1x3584x1024, .f32⟩
  | 9 => ⟨S3584x1024, .f32⟩
  | 10 => ⟨S43008x3584, .f32⟩
  | 11 => ⟨S43008x3584, .f32⟩
  | 12 => ⟨S43008x3584, .f32⟩
  | 13 => ⟨S_, .f32⟩
  | 14 => ⟨S43008x3584, .f32⟩
  | 15 => ⟨S43008x3584, .f32⟩
  | 16 => ⟨S_, .f32⟩
  | 17 => ⟨S43008x3584, .f32⟩
  | 18 => ⟨S43008x3584, .f32⟩
  | 19 => ⟨S43008x3584, .f32⟩
  | 20 => ⟨S43008x3584, .f32⟩
  | 21 => ⟨S43008x3584, .f32⟩
  | 22 => ⟨S43008x1024, .f32⟩
  | 23 => ⟨S43008x1024, .f32⟩
  | 24 => ⟨S43008x1024, .f32⟩
  | 25 => ⟨S43008x1024, .f32⟩
  | 26 => ⟨S_, .i32⟩
  | 27 => ⟨S43008, .i32⟩
  | 28 => ⟨S43008, .i1⟩
  | 29 => ⟨S43008, .f32⟩
  | 30 => ⟨S43008x1, .f32⟩
  | 31 => ⟨S1x1024x3584, .f32⟩
  | 32 => ⟨S1024x3584, .f32⟩
  | 33 => ⟨S1x1024x3584, .f32⟩
  | 34 => ⟨S1024x3584, .f32⟩
  | 35 => ⟨S1x3584x1024, .f32⟩
  | 36 => ⟨S3584x1024, .f32⟩
  | 37 => ⟨S43008x3584, .f32⟩
  | 38 => ⟨S43008x3584, .f32⟩
  | 39 => ⟨S43008x3584, .f32⟩
  | 40 => ⟨S_, .f32⟩
  | 41 => ⟨S43008x3584, .f32⟩
  | 42 => ⟨S43008x3584, .f32⟩
  | 43 => ⟨S_, .f32⟩
  | 44 => ⟨S43008x3584, .f32⟩
  | 45 => ⟨S43008x3584, .f32⟩
  | 46 => ⟨S43008x3584, .f32⟩
  | 47 => ⟨S43008x3584, .f32⟩
  | 48 => ⟨S43008x3584, .f32⟩
  | 49 => ⟨S43008x1024, .f32⟩
  | 50 => ⟨S43008x1024, .f32⟩
  | 51 => ⟨S43008x1024, .f32⟩
  | 52 => ⟨S43008x1024, .f32⟩
  | 53 => ⟨S_, .i32⟩
  | 54 => ⟨S43008, .i32⟩
  | 55 => ⟨S43008, .i1⟩
  | 56 => ⟨S43008, .f32⟩
  | 57 => ⟨S43008x1, .f32⟩
  | 58 => ⟨S1x1024x3584, .f32⟩
  | 59 => ⟨S1024x3584, .f32⟩
  | 60 => ⟨S1x1024x3584, .f32⟩
  | 61 => ⟨S1024x3584, .f32⟩
  | 62 => ⟨S1x3584x1024, .f32⟩
  | 63 => ⟨S3584x1024, .f32⟩
  | 64 => ⟨S43008x3584, .f32⟩
  | 65 => ⟨S43008x3584, .f32⟩
  | 66 => ⟨S43008x3584, .f32⟩
  | 67 => ⟨S_, .f32⟩
  | 68 => ⟨S43008x3584, .f32⟩
  | 69 => ⟨S43008x3584, .f32⟩
  | 70 => ⟨S_, .f32⟩
  | 71 => ⟨S43008x3584, .f32⟩
  | 72 => ⟨S43008x3584, .f32⟩
  | 73 => ⟨S43008x3584, .f32⟩
  | 74 => ⟨S43008x3584, .f32⟩
  | 75 => ⟨S43008x3584, .f32⟩
  | 76 => ⟨S43008x1024, .f32⟩
  | 77 => ⟨S43008x1024, .f32⟩
  | 78 => ⟨S43008x1024, .f32⟩
  | 79 => ⟨S43008x1024, .f32⟩
  | 80 => ⟨S_, .i32⟩
  | 81 => ⟨S43008, .i32⟩
  | 82 => ⟨S43008, .i1⟩
  | 83 => ⟨S43008, .f32⟩
  | 84 => ⟨S43008x1, .f32⟩
  | 85 => ⟨S1x1024x3584, .f32⟩
  | 86 => ⟨S1024x3584, .f32⟩
  | 87 => ⟨S1x1024x3584, .f32⟩
  | 88 => ⟨S1024x3584, .f32⟩
  | 89 => ⟨S1x3584x1024, .f32⟩
  | 90 => ⟨S3584x1024, .f32⟩
  | 91 => ⟨S43008x3584, .f32⟩
  | 92 => ⟨S43008x3584, .f32⟩
  | 93 => ⟨S43008x3584, .f32⟩
  | 94 => ⟨S_, .f32⟩
  | 95 => ⟨S43008x3584, .f32⟩
  | 96 => ⟨S43008x3584, .f32⟩
  | 97 => ⟨S_, .f32⟩
  | 98 => ⟨S43008x3584, .f32⟩
  | 99 => ⟨S43008x3584, .f32⟩
  | 100 => ⟨S43008x3584, .f32⟩
  | 101 => ⟨S43008x3584, .f32⟩
  | 102 => ⟨S43008x3584, .f32⟩
  | 103 => ⟨S43008x1024, .f32⟩
  | 104 => ⟨S43008x1024, .f32⟩
  | 105 => ⟨S43008x1024, .f32⟩
  | 106 => ⟨S43008x1024, .f32⟩
  | 107 => ⟨S43008x1024, .bf16⟩
  | _ => ⟨S43008x1024, .bf16⟩

abbrev hbmTy (i : Nat) : BufTy := match i / 128 with
  | 0 => hbmTy0_0 i
  | 1 => hbmTy0_1 i
  | _ => ⟨S43008x1024, .bf16⟩

abbrev bufTy : (tb : Table) → Fin (tcTables nBuf tb) → BufTy
  | .hbm, ⟨i, _⟩ => hbmTy i
  | _, _ => ⟨S43008x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_1 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call2_v0 : Ref sig .tc := ⟨.hbm, 58, rfl⟩
abbrev main_call2_v1 : Ref sig .tc := ⟨.hbm, 59, rfl⟩
abbrev main_call2_cst : Ref sig .tc := ⟨.hbm, 60, rfl⟩
abbrev main_call2_v2 : Ref sig .tc := ⟨.hbm, 61, rfl⟩
abbrev main_call2_v3 : Ref sig .tc := ⟨.hbm, 62, rfl⟩
abbrev main_call2_cst_0 : Ref sig .tc := ⟨.hbm, 63, rfl⟩
abbrev main_call2_v4 : Ref sig .tc := ⟨.hbm, 64, rfl⟩
abbrev main_call2_v5 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_c_2 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_c_3 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_call4_v0 : Ref sig .tc := ⟨.hbm, 112, rfl⟩
abbrev main_call4_v1 : Ref sig .tc := ⟨.hbm, 113, rfl⟩
abbrev main_call4_cst : Ref sig .tc := ⟨.hbm, 114, rfl⟩
abbrev main_call4_v2 : Ref sig .tc := ⟨.hbm, 115, rfl⟩
abbrev main_call4_v3 : Ref sig .tc := ⟨.hbm, 116, rfl⟩
abbrev main_call4_cst_0 : Ref sig .tc := ⟨.hbm, 117, rfl⟩
abbrev main_call4_v4 : Ref sig .tc := ⟨.hbm, 118, rfl⟩
abbrev main_call4_v5 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_c_4 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_call5_v0 : Ref sig .tc := ⟨.hbm, 139, rfl⟩
abbrev main_call5_v1 : Ref sig .tc := ⟨.hbm, 140, rfl⟩
abbrev main_call5_cst : Ref sig .tc := ⟨.hbm, 141, rfl⟩
abbrev main_call5_v2 : Ref sig .tc := ⟨.hbm, 142, rfl⟩
abbrev main_call5_v3 : Ref sig .tc := ⟨.hbm, 143, rfl⟩
abbrev main_call5_cst_0 : Ref sig .tc := ⟨.hbm, 144, rfl⟩
abbrev main_call5_v4 : Ref sig .tc := ⟨.hbm, 145, rfl⟩
abbrev main_call5_v5 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_c_5 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_call6_v0 : Ref sig .tc := ⟨.hbm, 166, rfl⟩
abbrev main_call6_v1 : Ref sig .tc := ⟨.hbm, 167, rfl⟩
abbrev main_call6_cst : Ref sig .tc := ⟨.hbm, 168, rfl⟩
abbrev main_call6_v2 : Ref sig .tc := ⟨.hbm, 169, rfl⟩
abbrev main_call6_v3 : Ref sig .tc := ⟨.hbm, 170, rfl⟩
abbrev main_call6_cst_0 : Ref sig .tc := ⟨.hbm, 171, rfl⟩
abbrev main_call6_v4 : Ref sig .tc := ⟨.hbm, 172, rfl⟩
abbrev main_call6_v5 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_v116 : Ref sig .tc := ⟨.hbm, 180, rfl⟩
abbrev main_c_6 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_v125 : Ref sig .tc := ⟨.hbm, 190, rfl⟩
abbrev main_v126 : Ref sig .tc := ⟨.hbm, 191, rfl⟩
abbrev main_v127 : Ref sig .tc := ⟨.hbm, 192, rfl⟩
abbrev main_call7_v0 : Ref sig .tc := ⟨.hbm, 193, rfl⟩
abbrev main_call7_v1 : Ref sig .tc := ⟨.hbm, 194, rfl⟩
abbrev main_call7_cst : Ref sig .tc := ⟨.hbm, 195, rfl⟩
abbrev main_call7_v2 : Ref sig .tc := ⟨.hbm, 196, rfl⟩
abbrev main_call7_v3 : Ref sig .tc := ⟨.hbm, 197, rfl⟩
abbrev main_call7_cst_0 : Ref sig .tc := ⟨.hbm, 198, rfl⟩
abbrev main_call7_v4 : Ref sig .tc := ⟨.hbm, 199, rfl⟩
abbrev main_call7_v5 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_c_7 : Ref sig .tc := ⟨.hbm, 208, rfl⟩
abbrev main_v135 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_v139 : Ref sig .tc := ⟨.hbm, 213, rfl⟩
abbrev main_v140 : Ref sig .tc := ⟨.hbm, 214, rfl⟩
abbrev main_v141 : Ref sig .tc := ⟨.hbm, 215, rfl⟩
abbrev main_v142 : Ref sig .tc := ⟨.hbm, 216, rfl⟩
abbrev main_v143 : Ref sig .tc := ⟨.hbm, 217, rfl⟩
abbrev main_v144 : Ref sig .tc := ⟨.hbm, 218, rfl⟩
abbrev main_v145 : Ref sig .tc := ⟨.hbm, 219, rfl⟩
abbrev main_call8_v0 : Ref sig .tc := ⟨.hbm, 220, rfl⟩
abbrev main_call8_v1 : Ref sig .tc := ⟨.hbm, 221, rfl⟩
abbrev main_call8_cst : Ref sig .tc := ⟨.hbm, 222, rfl⟩
abbrev main_call8_v2 : Ref sig .tc := ⟨.hbm, 223, rfl⟩
abbrev main_call8_v3 : Ref sig .tc := ⟨.hbm, 224, rfl⟩
abbrev main_call8_cst_0 : Ref sig .tc := ⟨.hbm, 225, rfl⟩
abbrev main_call8_v4 : Ref sig .tc := ⟨.hbm, 226, rfl⟩
abbrev main_call8_v5 : Ref sig .tc := ⟨.hbm, 227, rfl⟩
abbrev main_v146 : Ref sig .tc := ⟨.hbm, 228, rfl⟩
abbrev main_v147 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩

abbrev nD : Nat := 1
abbrev τ : Topo := Topo.v7x

variable {F : FTy → Type} [FloatOps F]
-- ==== Kernel2.lean ====
abbrev S8x2048x1024 : Shape := ⟨3, ![8, 2048, 1024]⟩
abbrev S1024 : Shape := ⟨1, ![1024]⟩
abbrev S8x1x1024 : Shape := ⟨3, ![8, 1, 1024]⟩
abbrev S1024x2816 : Shape := ⟨2, ![1024, 2816]⟩
abbrev S2816x1024 : Shape := ⟨2, ![2816, 1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1024 : Shape := ⟨2, ![1024, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 12
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S1024x2816, .bf16⟩
  | .hbm, ⟨9, _⟩ => ⟨S1024x2816, .bf16⟩
  | .hbm, ⟨10, _⟩ => ⟨S1x1024, .f32⟩
  | .hbm, ⟨11, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x2816, .bf16⟩
  | .local _ .vmem, ⟨10, _⟩ => ⟨S1024x2816, .bf16⟩
  | .local _ .vmem, ⟨11, _⟩ => ⟨S2816x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference2Ideal.lean ====
abbrev S8x2048x1024 : Shape := ⟨3, ![8, 2048, 1024]⟩
abbrev S1024 : Shape := ⟨1, ![1024]⟩
abbrev S8x1x1024 : Shape := ⟨3, ![8, 1, 1024]⟩
abbrev S1024x2816 : Shape := ⟨2, ![1024, 2816]⟩
abbrev S2816x1024 : Shape := ⟨2, ![2816, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x2816 : Shape := ⟨3, ![8, 2048, 2816]⟩

abbrev nBuf : Space → Nat
  | .hbm => 47
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S1024x2816, .f32⟩
  | .hbm, ⟨6, _⟩ => ⟨S1024x2816, .f32⟩
  | .hbm, ⟨7, _⟩ => ⟨S2816x1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x1024, .f32⟩
  | .hbm, ⟨31, _⟩ => ⟨S8x2048x2816, .f32⟩
  | .hbm, ⟨32, _⟩ => ⟨S8x2048x2816, .f32⟩
  | .hbm, ⟨33, _⟩ => ⟨S8x2048x2816, .f32⟩
  | .hbm, ⟨34, _⟩ => ⟨S_, .f32⟩
  | .hbm, ⟨35, _⟩ => ⟨S8x2048x2816, .f32⟩
  | .hbm, ⟨36, _⟩ => ⟨S8x2048x2816, .f32⟩
  | .hbm, ⟨37, _⟩ => ⟨S_, .f32⟩
  | .hbm, ⟨38, _⟩ => ⟨S8x2048x2816, .f32⟩
  | .hbm, ⟨39, _⟩ => ⟨S8x2048x2816, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_call0_v5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel3.lean ====
abbrev S8x2048x1024 : Shape := ⟨3, ![8, 2048, 1024]⟩
abbrev S1024 : Shape := ⟨1, ![1024]⟩
abbrev S8x1x1024 : Shape := ⟨3, ![8, 1, 1024]⟩
abbrev S1024x1280 : Shape := ⟨2, ![1024, 1280]⟩
abbrev S1x1024 : Shape := ⟨2, ![1, 1024]⟩
abbrev S8x2048x1280 : Shape := ⟨3, ![8, 2048, 1280]⟩
abbrev S1x1024x1024 : Shape := ⟨3, ![1, 1024, 1024]⟩
abbrev S1x1x1024 : Shape := ⟨3, ![1, 1, 1024]⟩
abbrev S1x1024x1280 : Shape := ⟨3, ![1, 1024, 1280]⟩
abbrev S1024x1024 : Shape := ⟨2, ![1024, 1024]⟩
abbrev S1024x1 : Shape := ⟨2, ![1024, 1]⟩
abbrev S1024x256 : Shape := ⟨2, ![1024, 256]⟩
abbrev S1x1024x256 : Shape := ⟨3, ![1, 1024, 256]⟩

abbrev nBuf : Space → Nat
  | .hbm => 8
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1280, .f32⟩
  | .hbm, ⟨5, _⟩ => ⟨S1024x1280, .bf16⟩
  | .hbm, ⟨6, _⟩ => ⟨S1x1024, .f32⟩
  | .hbm, ⟨7, _⟩ => ⟨S8x2048x1280, .bf16⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1280, .bf16⟩
  | .local _ .vmem, ⟨8, _⟩ => ⟨S1x1024x1280, .bf16⟩
  | .local _ .vmem, ⟨9, _⟩ => ⟨S1x1024x1280, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1280 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8x2048x1024 : Shape := ⟨3, ![8, 2048, 1024]⟩
abbrev S1024 : Shape := ⟨1, ![1024]⟩
abbrev S8x1x1024 : Shape := ⟨3, ![8, 1, 1024]⟩
abbrev S1024x1280 : Shape := ⟨2, ![1024, 1280]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x1280 : Shape := ⟨3, ![8, 2048, 1280]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x1280, .f32⟩
  | .hbm, ⟨5, _⟩ => ⟨S8x2048x1024, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x1024, .f32⟩
  | .hbm, ⟨17, _⟩ => ⟨S8x2048x1024, .f32⟩
  | .hbm, ⟨18, _⟩ => ⟨S1x1x1024, .f32⟩
  | .hbm, ⟨19, _⟩ => ⟨S8x2048x1024, .f32⟩
  | .hbm, ⟨20, _⟩ => ⟨S8x2048x1024, .f32⟩
  | .hbm, ⟨21, _⟩ => ⟨S_, .f32⟩
  | .hbm, ⟨22, _⟩ => ⟨S8x1x1024, .f32⟩
  | .hbm, ⟨23, _⟩ => ⟨S8x1x1024, .f32⟩
  | .hbm, ⟨24, _⟩ => ⟨S8x2048x1024, .f32⟩
  | .hbm, ⟨25, _⟩ => ⟨S8x2048x1024, .f32⟩
  | .hbm, ⟨26, _⟩ => ⟨S8x2048x1024, .f32⟩
  | .hbm, ⟨27, _⟩ => ⟨S8x2048x1024, .f32⟩
  | .hbm, ⟨28, _⟩ => ⟨S8x2048x1280, .f32⟩
  | .hbm, ⟨29, _⟩ => ⟨S8x2048x1280, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel4.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x1x1024 : Shape := ⟨3, ![8, 1, 1024]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1024x512 : Shape := ⟨2, ![1024, 512]⟩
abbrev S512x1024 : Shape := ⟨2, ![512, 1024]⟩
abbrev S1x1024 : Shape := ⟨2, ![1, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S1024x1024, .f32⟩
  | .hbm, ⟨3, _⟩ => ⟨S8x2048x1024, .f32⟩
  | .hbm, ⟨4, _⟩ => ⟨S8x1x1024, .f32⟩
  | .hbm, ⟨5, _⟩ => ⟨S1024x1024, .bf16⟩
  | .hbm, ⟨6, _⟩ => ⟨S8x2048x1024, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1024x1024, .f32⟩
  | .local _ .vmem, ⟨10, _⟩ => ⟨S1x1024x1024, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8x2048x512 : Shape := ⟨3, ![8, 2048, 512]⟩
abbrev S1024x1024 : Shape := ⟨2, ![1024, 1024]⟩
abbrev S8x2048x1024 : Shape := ⟨3, ![8, 2048, 1024]⟩
abbrev S8x1x1024 : Shape := ⟨3, ![8, 1, 1024]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S1024x1024, .f32⟩
  | .hbm, ⟨3, _⟩ => ⟨S8x2048x1024, .f32⟩
  | .hbm, ⟨4, _⟩ => ⟨S8x1x1024, .f32⟩
  | .hbm, ⟨5, _⟩ => ⟨S8x2048x512, .f32⟩
  | .hbm, ⟨6, _⟩ => ⟨S8x2048x512, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x1024, .f32⟩
  | .hbm, ⟨11, _⟩ => ⟨S8x2048x1024, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S8x1x1024 : Shape := ⟨3, ![8, 1, 1024]⟩
abbrev S1024x5184 : Shape := ⟨2, ![1024, 5184]⟩
abbrev S5x3072 : Shape := ⟨2, ![5, 3072]⟩
abbrev S3072 : Shape := ⟨1, ![3072]⟩
abbrev S1x1024 : Shape := ⟨2, ![1, 1024]⟩
abbrev S1024x64 : Shape := ⟨2, ![1024, 64]⟩
abbrev S64x1024 : Shape := ⟨2, ![64, 1024]⟩
abbrev S1x3072 : Shape := ⟨2, ![1, 3072]⟩
abbrev S8x2048x2048 : Shape := ⟨3, ![8, 2048, 2048]⟩
abbrev S8x64x2048 : Shape := ⟨3, ![8, 64, 2048]⟩
abbrev S1x1024x1024 : Shape := ⟨3, ![1, 1024, 1024]⟩
abbrev S1x16x1024 : Shape := ⟨3, ![1, 16, 1024]⟩
abbrev S1x1x1024 : Shape := ⟨3, ![1, 1, 1024]⟩
abbrev S1024x1024 : Shape := ⟨2, ![1024, 1024]⟩
abbrev S1x1024x2048 : Shape := ⟨3, ![1, 1024, 2048]⟩
abbrev S1x64x1024 : Shape := ⟨3, ![1, 64, 1024]⟩
abbrev S1024x1 : Shape := ⟨2, ![1024, 1]⟩
abbrev S16x1024 : Shape := ⟨2, ![16, 1024]⟩
abbrev S16 : Shape := ⟨1, ![16]⟩
abbrev S16x1 : Shape := ⟨2, ![16, 1]⟩
abbrev S1056x1024 : Shape := ⟨2, ![1056, 1024]⟩
abbrev S1024x256 : Shape := ⟨2, ![1024, 256]⟩
abbrev S1056x256 : Shape := ⟨2, ![1056, 256]⟩
abbrev S1x1024x256 : Shape := ⟨3, ![1, 1024, 256]⟩
abbrev S1x256 : Shape := ⟨2, ![1, 256]⟩

abbrev nBuf : Space → Nat
  | .hbm => 16
  | .vmem => 27
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5184, .f32⟩
  | .hbm, ⟨5, _⟩ => ⟨S5x3072, .f32⟩
  | .hbm, ⟨6, _⟩ => ⟨S3072, .f32⟩
  | .hbm, ⟨7, _⟩ => ⟨S1024x5184, .bf16⟩
  | .hbm, ⟨8, _⟩ => ⟨S1x1024, .f32⟩
  | .hbm, ⟨9, _⟩ => ⟨S1024x64, .bf16⟩
  | .hbm, ⟨10, _⟩ => ⟨S64x1024, .bf16⟩
  | .hbm, ⟨11, _⟩ => ⟨S1x3072, .f32⟩
  | .hbm, ⟨12, _⟩ => ⟨S8x2048x2048, .bf16⟩
  | .hbm, ⟨13, _⟩ => ⟨S8x2048x2048, .f32⟩
  | .hbm, ⟨14, _⟩ => ⟨S8x2048x1024, .bf16⟩
  | .hbm, ⟨15, _⟩ => ⟨S8x64x2048, .f32⟩
  | .local _ .vmem, ⟨0, _⟩ => ⟨S1x1024x1024, .f32⟩
  | .local _ .vmem, ⟨1, _⟩ => ⟨S1x1024x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S64x1024, .bf16⟩
  | .local _ .vmem, ⟨17, _⟩ => ⟨S5x3072, .f32⟩
  | .local _ .vmem, ⟨18, _⟩ => ⟨S1x3072, .f32⟩
  | .local _ .vmem, ⟨19, _⟩ => ⟨S1x1024x2048, .bf16⟩
  | .local _ .vmem, ⟨20, _⟩ => ⟨S1x1024x2048, .bf16⟩
  | .local _ .vmem, ⟨21, _⟩ => ⟨S1x1024x2048, .f32⟩
  | .local _ .vmem, ⟨22, _⟩ => ⟨S1x1024x2048, .f32⟩
  | .local _ .vmem, ⟨23, _⟩ => ⟨S1x1024x1024, .bf16⟩
  | .local _ .vmem, ⟨24, _⟩ => ⟨S1x1024x1024, .bf16⟩
  | .local _ .vmem, ⟨25, _⟩ => ⟨S1x64x1024, .f32⟩
  | .local _ .vmem, ⟨26, _⟩ => ⟨S1x64x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c127_i32 : BitVec 32 := 127#32
  let v2 : BitVec 32 := Scalar.minsi v1 c127_i32
  let c0_i32 : BitVec 32 := 0#32
  let c0_i32_0 : BitVec 32 := 0#32
  ![arg0.toNat, v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S5x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x1024x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1024x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1024x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x64x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== Reference5Ideal.lean ====
abbrev S8x2048x1024 : Shape := ⟨3, ![8, 2048, 1024]⟩
abbrev S1024 : Shape := ⟨1, ![1024]⟩
abbrev S8x1x1024 : Shape := ⟨3, ![8, 1, 1024]⟩
abbrev S1024x5184 : Shape := ⟨2, ![1024, 5184]⟩
abbrev S5x3072 : Shape := ⟨2, ![5, 3072]⟩
abbrev S3072 : Shape := ⟨1, ![3072]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x5184 : Shape := ⟨3, ![8, 2048, 5184]⟩
abbrev S8x2048x2048 : Shape := ⟨3, ![8, 2048, 2048]⟩
abbrev S8x2048x3072 : Shape := ⟨3, ![8, 2048, 3072]⟩
abbrev S8x2048x64 : Shape := ⟨3, ![8, 2048, 64]⟩
abbrev S8x2052x3072 : Shape := ⟨3, ![8, 2052, 3072]⟩
abbrev S1x3072 : Shape := ⟨2, ![1, 3072]⟩
abbrev S1x1x3072 : Shape := ⟨3, ![1, 1, 3072]⟩
abbrev S8x64x2048 : Shape := ⟨3, ![8, 64, 2048]⟩

abbrev nBuf : Space → Nat
  | .hbm => 91
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x5184, .f32⟩
  | .hbm, ⟨5, _⟩ => ⟨S5x3072, .f32⟩
  | .hbm, ⟨6, _⟩ => ⟨S3072, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x5184, .f32⟩
  | .hbm, ⟨31, _⟩ => ⟨S8x2048x2048, .f32⟩
  | .hbm, ⟨32, _⟩ => ⟨S8x2048x3072, .f32⟩
  | .hbm, ⟨33, _⟩ => ⟨S8x2048x64, .f32⟩
  | .hbm, ⟨34, _⟩ => ⟨S_, .i32⟩
  | .hbm, ⟨35, _⟩ => ⟨S_, .f32⟩
  | .hbm, ⟨36, _⟩ => ⟨S8x2052x3072, .f32⟩
  | .hbm, ⟨37, _⟩ => ⟨S8x2048x3072, .f32⟩
  | .hbm, ⟨38, _⟩ => ⟨S1x3072, .f32⟩
  | .hbm, ⟨39, _⟩ => ⟨S3072, .f32⟩
  | .hbm, ⟨40, _⟩ => ⟨S1x1x3072, .f32⟩
  | .hbm, ⟨41, _⟩ => ⟨S8x2048x3072, .f32⟩
  | .hbm, ⟨42, _⟩ => ⟨S8x2048x3072, .f32⟩
  | .hbm, ⟨43, _⟩ => ⟨S_, .f32⟩
  | .hbm, ⟨44, _⟩ => ⟨S8x2048x3072, .f32⟩
  | .hbm, ⟨45, _⟩ => ⟨S8x2048x3072, .f32⟩
  | .hbm, ⟨46, _⟩ => ⟨S8x2048x3072, .f32⟩
  | .hbm, ⟨47, _⟩ => ⟨S1x3072, .f32⟩
  | .hbm, ⟨48, _⟩ => ⟨S3072, .f32⟩
  | .hbm, ⟨49, _⟩ => ⟨S1x1x3072, .f32⟩
  | .hbm, ⟨50, _⟩ => ⟨S8x2048x3072, .f32⟩
  | .hbm, ⟨51, _⟩ => ⟨S8x2048x3072, .f32⟩
  | .hbm, ⟨52, _⟩ => ⟨S8x2048x3072, .f32⟩
  | .hbm, ⟨53, _⟩ => ⟨S8x2048x3072, .f32⟩
  | .hbm, ⟨54, _⟩ => ⟨S1x3072, .f32⟩
  | .hbm, ⟨55, _⟩ => ⟨S3072, .f32⟩
  | .hbm, ⟨56, _⟩ => ⟨S1x1x3072, .f32⟩
  | .hbm, ⟨57, _⟩ => ⟨S8x2048x3072, .f32⟩
  | .hbm, ⟨58, _⟩ => ⟨S8x2048x3072, .f32⟩
  | .hbm, ⟨59, _⟩ => ⟨S8x2048x3072, .f32⟩
  | .hbm, ⟨60, _⟩ => ⟨S8x2048x3072, .f32⟩
  | .hbm, ⟨61, _⟩ => ⟨S1x3072, .f32⟩
  | .hbm, ⟨62, _⟩ => ⟨S3072, .f32⟩
  | .hbm, ⟨63, _⟩ => ⟨S1x1x3072, .f32⟩
  | .hbm, ⟨64, _⟩ => ⟨S8x2048x3072, .f32⟩
  | .hbm, ⟨65, _⟩ => ⟨S8x2048x3072, .f32⟩
  | .hbm, ⟨66, _⟩ => ⟨S8x2048x3072, .f32⟩
  | .hbm, ⟨67, _⟩ => ⟨S8x2048x3072, .f32⟩
  | .hbm, ⟨68, _⟩ => ⟨S1x3072, .f32⟩
  | .hbm, ⟨69, _⟩ => ⟨S3072, .f32⟩
  | .hbm, ⟨70, _⟩ => ⟨S1x1x3072, .f32⟩
  | .hbm, ⟨71, _⟩ => ⟨S8x2048x3072, .f32⟩
  | .hbm, ⟨72, _⟩ => ⟨S8x2048x3072, .f32⟩
  | .hbm, ⟨73, _⟩ => ⟨S8x2048x3072, .f32⟩
  | .hbm, ⟨74, _⟩ => ⟨S1x1x3072, .f32⟩
  | .hbm, ⟨75, _⟩ => ⟨S8x2048x3072, .f32⟩
  | .hbm, ⟨76, _⟩ => ⟨S8x2048x3072, .f32⟩
  | .hbm, ⟨77, _⟩ => ⟨S8x2048x3072, .f32⟩
  | .hbm, ⟨78, _⟩ => ⟨S8x2048x3072, .f32⟩
  | .hbm, ⟨79, _⟩ => ⟨S_, .f32⟩
  | .hbm, ⟨80, _⟩ => ⟨S8x2048x3072, .f32⟩
  | .hbm, ⟨81, _⟩ => ⟨S8x2048x3072, .f32⟩
  | .hbm, ⟨82, _⟩ => ⟨S_, .f32⟩
  | .hbm, ⟨83, _⟩ => ⟨S8x2048x3072, .f32⟩
  | .hbm, ⟨84, _⟩ => ⟨S8x2048x3072, .f32⟩
  | .hbm, ⟨85, _⟩ => ⟨S8x2048x3072, .f32⟩
  | .hbm, ⟨86, _⟩ => ⟨S8x2048x2048, .f32⟩
  | .hbm, ⟨87, _⟩ => ⟨S8x2048x1024, .f32⟩
  | .hbm, ⟨88, _⟩ => ⟨S8x2048x2048, .bf16⟩
  | .hbm, ⟨89, _⟩ => ⟨S8x2048x1024, .bf16⟩
  | .hbm, ⟨90, _⟩ => ⟨S8x64x2048, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩

abbrev nD : Nat := 1
abbrev τ : Topo := Topo.v7x

variable {F : FTy → Type} [FloatOps F]
-- ==== Kernel6.lean ====
abbrev S8x2048x2048 : Shape := ⟨3, ![8, 2048, 2048]⟩
abbrev S2048 : Shape := ⟨1, ![2048]⟩
abbrev S2048x1024 : Shape := ⟨2, ![2048, 1024]⟩
abbrev S8x2048x1024 : Shape := ⟨3, ![8, 2048, 1024]⟩
abbrev S8x1x1024 : Shape := ⟨3, ![8, 1, 1024]⟩
abbrev S1024 : Shape := ⟨1, ![1024]⟩
abbrev S1024x8 : Shape := ⟨2, ![1024, 8]⟩
abbrev S8 : Shape := ⟨1, ![8]⟩
abbrev S512x1024 : Shape := ⟨2, ![512, 1024]⟩
abbrev S_ : Shape := ⟨0, ![]⟩
abbrev S1x2048 : Shape := ⟨2, ![1, 2048]⟩
abbrev S1x1024 : Shape := ⟨2, ![1, 1024]⟩
abbrev S8x1024 : Shape := ⟨2, ![8, 1024]⟩
abbrev S8x1 : Shape := ⟨2, ![8, 1]⟩
abbrev S2x16384 : Shape := ⟨2, ![2, 16384]⟩
abbrev S32x8x128 : Shape := ⟨3, ![32, 8, 128]⟩
abbrev S1x512x2048 : Shape := ⟨3, ![1, 512, 2048]⟩
abbrev S1x512x1024 : Shape := ⟨3, ![1, 512, 1024]⟩
abbrev S1x1x1024 : Shape := ⟨3, ![1, 1, 1024]⟩
abbrev S2x512 : Shape := ⟨2, ![2, 512]⟩
abbrev S1x8x128 : Shape := ⟨3, ![1, 8, 128]⟩
abbrev S512x1 : Shape := ⟨2, ![512, 1]⟩
abbrev S1x512x256 : Shape := ⟨3, ![1, 512, 256]⟩
abbrev S512x256 : Shape := ⟨2, ![512, 256]⟩
abbrev S512 : Shape := ⟨1, ![512]⟩
abbrev S1x256 : Shape := ⟨2, ![1, 256]⟩
abbrev S256x1024 : Shape := ⟨2, ![256, 1024]⟩
abbrev S8x512 : Shape := ⟨2, ![8, 512]⟩
abbrev S1x512 : Shape := ⟨2, ![1, 512]⟩
abbrev S8x128 : Shape := ⟨2, ![8, 128]⟩

abbrev nBuf : Space → Nat
  | .hbm => 29
  | .vmem => 27
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S2048, .f32⟩
  | .hbm, ⟨3, _⟩ => ⟨S2048x1024, .f32⟩
  | .hbm, ⟨4, _⟩ => ⟨S8x2048x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x8, .f32⟩
  | .hbm, ⟨10, _⟩ => ⟨S8, .f32⟩
  | .hbm, ⟨11, _⟩ => ⟨S2048x1024, .bf16⟩
  | .hbm, ⟨12, _⟩ => ⟨S512x1024, .i32⟩
  | .hbm, ⟨13, _⟩ => ⟨S512x1024, .i32⟩
  | .hbm, ⟨14, _⟩ => ⟨S512x1024, .i1⟩
  | .hbm, ⟨15, _⟩ => ⟨S_, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S512x1024, .bf16⟩
  | .hbm, ⟨21, _⟩ => ⟨S1x2048, .f32⟩
  | .hbm, ⟨22, _⟩ => ⟨S1x1024, .f32⟩
  | .hbm, ⟨23, _⟩ => ⟨S8x1024, .f32⟩
  | .hbm, ⟨24, _⟩ => ⟨S8x1, .f32⟩
  | .hbm, ⟨25, _⟩ => ⟨S8x2048x1024, .f32⟩
  | .hbm, ⟨26, _⟩ => ⟨S2x16384, .i32⟩
  | .hbm, ⟨27, _⟩ => ⟨S2x16384, .f32⟩
  | .hbm, ⟨28, _⟩ => ⟨S32x8x128, .i32⟩
  | .local _ .vmem, ⟨0, _⟩ => ⟨S1x512x2048, .bf16⟩
  | .local _ .vmem, ⟨1, _⟩ => ⟨S1x512x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x2048, .f32⟩
  | .local _ .vmem, ⟨5, _⟩ => ⟨S2048x1024, .bf16⟩
  | .local _ .vmem, ⟨6, _⟩ => ⟨S1x512x1024, .f32⟩
  | .local _ .vmem, ⟨7, _⟩ => ⟨S1x512x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S8x1024, .f32⟩
  | .local _ .vmem, ⟨16, _⟩ => ⟨S8x1, .f32⟩
  | .local _ .vmem, ⟨17, _⟩ => ⟨S512x1024, .bf16⟩
  | .local _ .vmem, ⟨18, _⟩ => ⟨S1x512x1024, .f32⟩
  | .local _ .vmem, ⟨19, _⟩ => ⟨S1x512x1024, .f32⟩
  | .local _ .vmem, ⟨20, _⟩ => ⟨S2x512, .i32⟩
  | .local _ .vmem, ⟨21, _⟩ => ⟨S2x512, .i32⟩
  | .local _ .vmem, ⟨22, _⟩ => ⟨S2x512, .f32⟩
  | .local _ .vmem, ⟨23, _⟩ => ⟨S2x512, .f32⟩
  | .local _ .vmem, ⟨24, _⟩ => ⟨S1x8x128, .i32⟩
  | .local _ .vmem, ⟨25, _⟩ => ⟨S1x8x128, .i32⟩
  | .local _ .vmem, ⟨26, _⟩ => ⟨S512x1024, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_v10_2 : Ref sig .tc := ⟨.hbm, 27, rfl⟩
abbrev main_v10_3 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S8x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S2x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S2x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x8x128 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference6Ideal.lean ====
abbrev S8x2048x2048 : Shape := ⟨3, ![8, 2048, 2048]⟩
abbrev S2048 : Shape := ⟨1, ![2048]⟩
abbrev S2048x1024 : Shape := ⟨2, ![2048, 1024]⟩
abbrev S8x2048x1024 : Shape := ⟨3, ![8, 2048, 1024]⟩
abbrev S8x1x1024 : Shape := ⟨3, ![8, 1, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S8x2048x2048, .bf16⟩
  | .hbm, ⟨2, _⟩ => ⟨S2048, .f32⟩
  | .hbm, ⟨3, _⟩ => ⟨S2048x1024, .f32⟩
  | .hbm, ⟨4, _⟩ => ⟨S8x2048x1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x8, .f32⟩
  | .hbm, ⟨10, _⟩ => ⟨S8, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S_, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S_, .f32⟩
  | .hbm, ⟨31, _⟩ => ⟨S8x2048x1, .f32⟩
  | .hbm, ⟨32, _⟩ => ⟨S8x2048x1, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S1x1x2048, .f32⟩
  | .hbm, ⟨37, _⟩ => ⟨S8x2048x2048, .f32⟩
  | .hbm, ⟨38, _⟩ => ⟨S8x2048x2048, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S8x2048x1024, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_v6 : Ref sig .tc := ⟨.hbm, 26, rfl⟩
abbrev main_cst_0 : Ref sig .tc := ⟨.hbm, 27, rfl⟩
abbrev main_v7 : Ref sig .tc := ⟨.hbm, 28, rfl⟩
abbrev main_v8 : Ref sig .tc := ⟨.hbm, 29, rfl⟩
abbrev main_cst_1 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩

abbrev nD : Nat := 1
abbrev τ : Topo := Topo.v7x

variable {F : FTy → Type} [FloatOps F]
-- ==== Kernel7.lean ====
abbrev S8x1024 : Shape := ⟨2, ![8, 1024]⟩
abbrev S1024x6144 : Shape := ⟨2, ![1024, 6144]⟩
abbrev S6144 : Shape := ⟨1, ![6144]⟩
abbrev S1x6144 : Shape := ⟨2, ![1, 6144]⟩
abbrev S6x8x1x1024 : Shape := ⟨4, ![6, 8, 1, 1024]⟩
abbrev S1024x1024 : Shape := ⟨2, ![1024, 1024]⟩
abbrev S1x1024 : Shape := ⟨2, ![1, 1024]⟩
abbrev S1x8x1x1024 : Shape := ⟨4, ![1, 8, 1, 1024]⟩
abbrev S1x1x1x1024 : Shape := ⟨4, ![1, 1, 1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S6x8x1x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1x8x1x1024, .f32⟩
  | .local _ .vmem, ⟨6, _⟩ => ⟨S1x8x1x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S8x1024 : Shape := ⟨2, ![8, 1024]⟩
abbrev S1024x6144 : Shape := ⟨2, ![1024, 6144]⟩
abbrev S6144 : Shape := ⟨1, ![6144]⟩
abbrev S_ : Shape := ⟨0, ![]⟩
abbrev S8x6144 : Shape := ⟨2, ![8, 6144]⟩
abbrev S1x6144 : Shape := ⟨2, ![1, 6144]⟩
abbrev S1x8x1024 : Shape := ⟨3, ![1, 8, 1024]⟩
abbrev S6x8x1024 : Shape := ⟨3, ![6, 8, 1024]⟩
abbrev S6x8x1x1024 : Shape := ⟨4, ![6, 8, 1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024x6144, .f32⟩
  | .hbm, ⟨2, _⟩ => ⟨S6144, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x6144, .f32⟩
  | .hbm, ⟨13, _⟩ => ⟨S1x6144, .f32⟩
  | .hbm, ⟨14, _⟩ => ⟨S8x6144, .f32⟩
  | .hbm, ⟨15, _⟩ => ⟨S8x6144, .f32⟩
  | .hbm, ⟨16, _⟩ => ⟨S8x1024, .f32⟩
  | .hbm, ⟨17, _⟩ => ⟨S8x1024, .f32⟩
  | .hbm, ⟨18, _⟩ => ⟨S8x1024, .f32⟩
  | .hbm, ⟨19, _⟩ => ⟨S8x1024, .f32⟩
  | .hbm, ⟨20, _⟩ => ⟨S8x1024, .f32⟩
  | .hbm, ⟨21, _⟩ => ⟨S8x1024, .f32⟩
  | .hbm, ⟨22, _⟩ => ⟨S1x8x1024, .f32⟩
  | .hbm, ⟨23, _⟩ => ⟨S1x8x1024, .f32⟩
  | .hbm, ⟨24, _⟩ => ⟨S1x8x1024, .f32⟩
  | .hbm, ⟨25, _⟩ => ⟨S1x8x1024, .f32⟩
  | .hbm, ⟨26, _⟩ => ⟨S1x8x1024, .f32⟩
  | .hbm, ⟨27, _⟩ => ⟨S1x8x1024, .f32⟩
  | .hbm, ⟨28, _⟩ => ⟨S6x8x1024, .f32⟩
  | .hbm, ⟨29, _⟩ => ⟨S6x8x1x1024, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩

abbrev nD : Nat := 1
abbrev τ : Topo := Topo.v7x

variable {F : FTy → Type} [FloatOps F]
-- ==== Kernel8.lean ====
abbrev S8x2048x1280 : Shape := ⟨3, ![8, 2048, 1280]⟩
abbrev S128x128 : Shape := ⟨2, ![128, 128]⟩
abbrev S_ : Shape := ⟨0, ![]⟩
abbrev S128x256 : Shape := ⟨2, ![128, 256]⟩
abbrev S2048x2048 : Shape := ⟨2, ![2048, 2048]⟩
abbrev S2048x4096 : Shape := ⟨2, ![2048, 4096]⟩
abbrev S8x2048x512 : Shape := ⟨3, ![8, 2048, 512]⟩
abbrev S1x2048x512 : Shape := ⟨3, ![1, 2048, 512]⟩
abbrev S1024x4096 : Shape := ⟨2, ![1024, 4096]⟩
abbrev S1x1024x512 : Shape := ⟨3, ![1, 1024, 512]⟩
abbrev S4096x512 : Shape := ⟨2, ![4096, 512]⟩
abbrev S1x2048x128 : Shape := ⟨3, ![1, 2048, 128]⟩
abbrev S2048x128 : Shape := ⟨2, ![2048, 128]⟩
abbrev S2048x256 : Shape := ⟨2, ![2048, 256]⟩
abbrev S1024x512 : Shape := ⟨2, ![1024, 512]⟩

abbrev nBuf : Space → Nat
  | .hbm => 61
  | .vmem => 8
  | .smem => 0
  | _ => 0

abbrev bufTy : (tb : Table) → Fin (tcTables nBuf tb) → BufTy
  | .hbm, ⟨0, _⟩ => ⟨S8x2048x1280, .bf16⟩
  | .hbm, ⟨1, _⟩ => ⟨S128x128, .i32⟩
  | .hbm, ⟨2, _⟩ => ⟨S128x128, .i32⟩
  | .hbm, ⟨3, _⟩ => ⟨S128x128, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .i32⟩
  | .hbm, ⟨9, _⟩ => ⟨S128x128, .i32⟩
  | .hbm, ⟨10, _⟩ => ⟨S128x128, .i32⟩
  | .hbm, ⟨11, _⟩ => ⟨S128x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S128x128, .f32⟩
  | .hbm, ⟨28, _⟩ => ⟨S128x256, .f32⟩
  | .hbm, ⟨29, _⟩ => ⟨S128x256, .bf16⟩
  | .hbm, ⟨30, _⟩ => ⟨S2048x2048, .i32⟩
  | .hbm, ⟨31, _⟩ => ⟨S2048x2048, .i32⟩
  | .hbm, ⟨32, _⟩ => ⟨S2048x2048, .i32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i32⟩
  | .hbm, ⟨38, _⟩ => ⟨S2048x2048, .i32⟩
  | .hbm, ⟨39, _⟩ => ⟨S2048x2048, .i32⟩
  | .hbm, ⟨40, _⟩ => ⟨S2048x2048, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048x2048, .f32⟩
  | .hbm, ⟨46, _⟩ => ⟨S2048x2048, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S2048x2048, .f32⟩
  | .hbm, ⟨58, _⟩ => ⟨S2048x4096, .f32⟩
  | .hbm, ⟨59, _⟩ => ⟨S2048x4096, .bf16⟩
  | .hbm, ⟨60, _⟩ => ⟨S8x2048x512, .bf16⟩
  | .local _ .vmem, ⟨0, _⟩ => ⟨S1x2048x512, .bf16⟩
  | .local _ .vmem, ⟨1, _⟩ => ⟨S1x2048x512, .bf16⟩
  | .local _ .vmem, ⟨2, _⟩ => ⟨S128x256, .bf16⟩
  | .local _ .vmem, ⟨3, _⟩ => ⟨S1024x4096, .bf16⟩
  | .local _ .vmem, ⟨4, _⟩ => ⟨S1024x4096, .bf16⟩
  | .local _ .vmem, ⟨5, _⟩ => ⟨S1x1024x512, .bf16⟩
  | .local _ .vmem, ⟨6, _⟩ => ⟨S1x1024x512, .bf16⟩
  | .local _ .vmem, ⟨7, _⟩ => ⟨S4096x512, .bf16⟩
  | _, _ => ⟨S8x2048x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_5 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_c_7 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_8 : Ref sig .tc := ⟨.hbm, 41, rfl⟩
abbrev main_v30 : Ref sig .tc := ⟨.hbm, 42, rfl⟩
abbrev main_cst_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_10 : Ref sig .tc := ⟨.hbm, 47, rfl⟩
abbrev main_v34 : Ref sig .tc := ⟨.hbm, 48, rfl⟩
abbrev main_cst_11 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8x2048x1280 : Shape := ⟨3, ![8, 2048, 1280]⟩
abbrev S8x2048x512 : Shape := ⟨3, ![8, 2048, 512]⟩
abbrev S8x2048x4x128 : Shape := ⟨4, ![8, 2048, 4, 128]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x4x128x2048 : Shape := ⟨4, ![8, 4, 128, 2048]⟩

abbrev nBuf : Space → Nat
  | .hbm => 80
  | .vmem => 0
  | .smem => 0
  | _ => 0

abbrev bufTy : (tb : Table) → Fin (tcTables nBuf tb) → BufTy
  | .hbm, ⟨0, _⟩ => ⟨S8x2048x1280, .bf16⟩
  | .hbm, ⟨1, _⟩ => ⟨S8x2048x512, .bf16⟩
  | .hbm, ⟨2, _⟩ => ⟨S8x2048x512, .f32⟩
  | .hbm, ⟨3, _⟩ => ⟨S8x2048x4x128, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S128, .i32⟩
  | .hbm, ⟨11, _⟩ => ⟨S128, .i32⟩
  | .hbm, ⟨12, _⟩ => ⟨S128x1, .i32⟩
  | .hbm, ⟨13, _⟩ => ⟨S1x128, .i32⟩
  | .hbm, ⟨14, _⟩ => ⟨S128x128, .i32⟩
  | .hbm, ⟨15, _⟩ => ⟨S128x128, .i32⟩
  | .hbm, ⟨16, _⟩ => ⟨S128x128, .i32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S128x128, .f32⟩
  | .hbm, ⟨29, _⟩ => ⟨S128x128, .f32⟩
  | .hbm, ⟨30, _⟩ => ⟨S128x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S128x128, .f32⟩
  | .hbm, ⟨36, _⟩ => ⟨S128x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S2048, .i32⟩
  | .hbm, ⟨44, _⟩ => ⟨S2048, .i32⟩
  | .hbm, ⟨45, _⟩ => ⟨S2048x1, .i32⟩
  | .hbm, ⟨46, _⟩ => ⟨S1x2048, .i32⟩
  | .hbm, ⟨47, _⟩ => ⟨S2048x2048, .i32⟩
  | .hbm, ⟨48, _⟩ => ⟨S2048x2048, .i32⟩
  | .hbm, ⟨49, _⟩ => ⟨S2048x2048, .i32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S_, .f32⟩
  | .hbm, ⟨54, _⟩ => ⟨S2048x2048, .f32⟩
  | .hbm, ⟨55, _⟩ => ⟨S2048x2048, .f32⟩
  | .hbm, ⟨56, _⟩ => ⟨S2048x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S2048x2048, .f32⟩
  | .hbm, ⟨69, _⟩ => ⟨S2048x2048, .f32⟩
  | .hbm, ⟨70, _⟩ => ⟨S8x2048x4x128, .f32⟩
  | .hbm, ⟨71, _⟩ => ⟨S8x4x128x2048, .f32⟩
  | .hbm, ⟨72, _⟩ => ⟨S8x2048x4x128, .f32⟩
  | .hbm, ⟨73, _⟩ => ⟨S2048x2048, .f32⟩
  | .hbm, ⟨74, _⟩ => ⟨S8x2048x4x128, .f32⟩
  | .hbm, ⟨75, _⟩ => ⟨S8x4x128x2048, .f32⟩
  | .hbm, ⟨76, _⟩ => ⟨S8x2048x4x128, .f32⟩
  | .hbm, ⟨77, _⟩ => ⟨S8x2048x4x128, .f32⟩
  | .hbm, ⟨78, _⟩ => ⟨S8x2048x512, .f32⟩
  | .hbm, ⟨79, _⟩ => ⟨S8x2048x512, .bf16⟩
  | _, _ => ⟨S8x2048x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_2 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_3 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_cst_6 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_7 : Ref sig .tc := ⟨.hbm, 37, rfl⟩
abbrev main_v28 : Ref sig .tc := ⟨.hbm, 38, rfl⟩
abbrev main_cst_8 : Ref sig .tc := ⟨.hbm, 39, rfl⟩
abbrev main_v29 : Ref sig .tc := ⟨.hbm, 40, rfl⟩
abbrev main_cst_9 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_10 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_11 : Ref sig .tc := ⟨.hbm, 57, rfl⟩
abbrev main_v44 : Ref sig .tc := ⟨.hbm, 58, rfl⟩
abbrev main_cst_12 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_13 : Ref sig .tc := ⟨.hbm, 64, rfl⟩
abbrev main_v49 : Ref sig .tc := ⟨.hbm, 65, rfl⟩
abbrev main_cst_14 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩

abbrev nD : Nat := 1
abbrev τ : Topo := Topo.v7x

variable {F : FTy → Type} [FloatOps F]
-- ==== Proof.Moe.Kit.lean ====
/-
  The setting of the experts' kernel: its tables read off the launch memory, the pipeline at those tables, the blocks
  its windows hold, and the two conditions its body branches on, all for any element values.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The memory the region starts from, and its tables -/

/-- Core `c`'s buffers when the pipeline starts: as launched. -/
abbrev V (c : Dev nD) (b : Ref sig .tc) : Buf (Elt F) ((c : Thread nD τ).loc b) := m ((c : Thread nD τ).loc b)

set_option maxHeartbeats 800000 in
/-- The program is the one region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

/-- The two tables' contents: the expert of each tile of rows, and the number of tiles in use. -/
def tbl : pre0.Contents (Elt F) := fun j => V m (0 : Dev nD) (pre0.ref j)

/-- There is one device, so these are every device's tables. -/
theorem V_pre (c : Dev nD) (j : Fin 2) : V m c (pre0.ref j) = tbl m j := by
  obtain rfl : c = 0 := Subsingleton.elim _ _; rfl

/-- The blocks the tables select lie inside their arrays. -/
abbrev Ok : Prop := ok0 (F := F) (tbl m)
/-- The tables, admissible, and the pipeline at them. -/
abbrev adm (hO : Ok m) : (pcfg0 (F := F)).Adm := ⟨tbl m, hO⟩
abbrev cfgM (hO : Ok m) : Pipeline.Cfg sig Λ₀ := cfg0 (adm m hO)

/-- The tables as the body is handed them. -/
abbrev teM : Memref sig .tc .smem S56 .i32 := Memref.whole main_arg1
abbrev hteM : teM.IsWhole := Memref.isWhole_whole _
abbrev nuM : Memref sig .tc .smem S1 .i32 := Memref.whole main_arg2
abbrev hnuM : nuM.IsWhole := Memref.isWhole_whole _

/-- A table's buffer on core `c`, and that buffer held (to read) at contents `f`. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- What the region hands the body of the tables, table by table. -/
theorem PhiT_eq (c : Dev nD) : (Pipeline.ΦT pre0 (tbl m) c : sProp 𝕄) = iprop(tbPt c teM (tbl m 0) ∗ tbPt c nuM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The conditions the body branches on -/

/-- The number of tiles in use, as the body loads it from contents `x` of the second table. -/
abbrev nuOf {c : Dev nD} (x : TbBuf (F := F) c nuM) : BitVec 32 :=
  nuM.view.readAt (Elt F) (Rect.unit (s := S1) ![0] S1.size inb_S1_S1_0).toLoadRect x (Shape.Idx.first (numel1_S1.symm ▸ Nat.one_pos))

/-- The number of tiles in use at launch. -/
abbrev nu : BitVec 32 := (tbl m).atD 1 ![0]

theorem nuOf_tbl (c : Dev nD) : nuOf (c := c) (tbl m 1) = nu m := by
  unfold nuOf nu Pipeline.Prefetch.Contents.atD
  rfl

/-- "This is the first step over the hidden columns", as the body computes it. -/
abbrev first (i : grid0.Coords) : Prop := (Scalar.cmpi .ne (Scalar.extui (Scalar.cmpi .eq (BitVec.ofNat 32 (i 1).val) 0#32)) 0#32) = 1#1

/-- A point's two coordinates: the tile and the step over the hidden columns. -/
theorem coords0 (t : Fin grid0.N) : (grid0.coords t 0).val = t.val / 2 := by
  have ht : t.val < 112 := Nat.lt_of_lt_of_eq t.isLt N_0
  have e : (grid0.coords t 0).val = t.val / 2 % 56 := Pipeline.Grid.coords_val t 0 (by decide) rfl
  omega
theorem coords1 (t : Fin grid0.N) : (grid0.coords t 1).val = t.val % 2 := by
  have e : (grid0.coords t 1).val = t.val / 1 % 2 := Pipeline.Grid.coords_val t 1 (by decide) rfl
  omega

theorem first_iff (t : Fin grid0.N) : first (grid0.coords t) ↔ t.val % 2 = 0 := by
  have ht : t.val < 112 := Nat.lt_of_lt_of_eq t.isLt N_0
  simp only [first, coords1]
  word_cmp

theorem last_iff (t : Fin grid0.N) : k0_cond3 (grid0.coords t) = 1#1 ↔ t.val % 2 = 1 := by
  have ht : t.val < 112 := Nat.lt_of_lt_of_eq t.isLt N_0
  simp only [k0_cond3, coords1]
  word_cmp

/-- "The tile is in use": its number, a signed word, is below the number of tiles in use. -/
theorem used_iff (t : Fin grid0.N) (w : BitVec 32) : k0_cond1 (grid0.coords t) w = 1#1 ↔ ((t.val / 2 : ℕ) : ℤ) < w.toInt := by
  have ht : t.val < 112 := Nat.lt_of_lt_of_eq t.isLt N_0
  simp only [k0_cond1, coords0, Scalar.cmpi, WordCmp.cmpi_slt_eq, WordCmp.toInt_ofNat_of_lt (w := 32) (show t.val / 2 < 2 ^ (32 - 1) by omega)]
  word_cmp

/-- The zeros are stored at the first step of a tile not in use. -/
theorem blank_iff (t : Fin grid0.N) (w : BitVec 32) : k0_cond4 (grid0.coords t) w = 1#1 ↔ (¬ k0_cond1 (grid0.coords t) w = 1#1 ∧ t.val % 2 = 0) := by
  have ht : t.val < 112 := Nat.lt_of_lt_of_eq t.isLt N_0
  rw [used_iff]
  have h0 : (BitVec.ofNat 32 (t.val / 2)).toInt = ((t.val / 2 : ℕ) : ℤ) := WordCmp.toInt_ofNat_of_lt (w := 32) (show t.val / 2 < 2 ^ (32 - 1) by omega)
  simp only [k0_cond4, coords0, coords1, Scalar.cmpi, WordCmp.cmpi_sge_eq, h0]
  by_cases hw : ((t.val / 2 : ℕ) : ℤ) < w.toInt
  · rw [decide_eq_false (by omega : ¬ w.toInt ≤ ((t.val / 2 : ℕ) : ℤ))]
    simp only [hw, not_true, false_and, iff_false]
    have := Nat.mod_two_eq_zero_or_one t.val
    rcases this with h | h <;> rw [h] <;> decide
  · rw [decide_eq_true (by omega : w.toInt ≤ ((t.val / 2 : ℕ) : ℤ))]
    simp only [hw, not_false_eq_true, true_and]
    have := Nat.mod_two_eq_zero_or_one t.val
    rcases this with h | h <;> rw [h] <;> decide

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point, whatever proof data keep it there. -/
theorem before_of (hO : Ok m) {c : Dev nD} (dat : Dat τ (Elt F) Unit ℕ (UR sig nD τ) ℕ (cfgM m hO) c)
    (hA : ∀ w, dat.A w = V m c (Pipeline.arrRef spec0 w)) :
    ((∀ t, dat.after 0 t = iblk m hO c 0 t) → ∀ t d, dat.before 0 t d = iblk m hO c 0 t) ∧
    ((∀ t, dat.after 1 t = iblk m hO c 1 t) → ∀ t d, dat.before 1 t d = iblk m hO c 1 t) ∧
    ((∀ t, dat.after 2 t = iblk m hO c 2 t) → ∀ t d, dat.before 2 t d = iblk m hO c 2 t) ∧
    ((∀ t, dat.after 3 t = iblk m hO c 3 t) → ∀ t d, dat.before 3 t d = iblk m hO c 3 t) := by
  refine ⟨fun ha t d => ?_, fun ha t d => ?_, fun ha t d => ?_, fun ha t d => ?_⟩ <;>
  refine (dat.before_in_eq_fetched _ rfl (fun _ => rfl) (fun _ _ _ => rfl)
    (fun t => by rw [ha]; unfold Dat.blockOf iblk; rw [hA]) t d).trans
    (by unfold Dat.fetched Dat.blockOf iblk; rw [hA]; rfl)

/-- The written window goes back to its array after every second point. -/
theorem flush4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-! ## The buffers the body works on -/

/-- The accumulator, and one of the written window's buffers. -/
abbrev accM : Memref sig .tc .vmem S768x1024 .f32 := Memref.whole cc0_scratch0
abbrev VAcc : View sig .tc .vmem S768x1024 .f32 := accM.view
abbrev VOut : View sig .tc .vmem S768x1024 .bf16 := (Memref.whole cc0_stg4_0 : Memref sig .tc .vmem S768x1024 .bf16).view

/-- The windows' current buffers at point `t`. -/
abbrev ms0 (hO : Ok m) (t : Fin (cfgM m hO).N) : Memref sig .tc .vmem S768x1024 .bf16 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1024x1792 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1024x1792 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1792x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S768x1024 .bf16 := spec0_4.stage ((cfgM m hO).slots t 4)
abbrev hs4 (hO : Ok m) (t : Fin (cfgM m hO).N) : (ms4 m hO t).IsWhole := hstage0_4 (((cfgM m hO).slots t 4).cast nbuf0_4)

/-- The body at point `t`. -/
abbrev bodyAt (hO : Ok m) (t : Fin (cfgM m hO).N) : Prog (TpuEff nD τ sig (Elt F) Λ₀ .tc) PUnit :=
  cc0_moe_experts (grid0.coords t) teM hteM nuM hnuM (ms0 m hO t) (hs0 m hO t) (ms1 m hO t) (hs1 m hO t) (ms2 m hO t) (hs2 m hO t)
    (ms3 m hO t) (hs3 m hO t) (ms4 m hO t) (hs4 m hO t) accM (Memref.isWhole_whole _)

/-- The kernel's own memory between points: the accumulator at some contents, and the generator's register. -/
theorem PhiA_eq (c : Dev nD) :
    (Pipeline.ΦA spec0 c : sProp 𝕄) = iprop(iprop((∃ d, owns (c : Thread nD τ) accM fullShare d)) ∗ (∃ r, prngReg c r)) := by
  unfold Pipeline.ΦA; rw [scopedRest0_eq]; simp only [accM, owns_whole]; try rfl

end Cert.KernelIdeal.Moe

end
-- ==== Proof.Moe.Runs.lean ====
/-
  What one run of the experts' body does, in each of the four cases of its two conditions (the tile is in use or not;
  the step over the hidden columns is the first or the second), on whole buffers holding anything.
-/
module

public import proofs.«01_k».proof.Proof.Moe.Kit
public import Idealize.ShloMosaic.Lib.Pipeline.FrameBody
public import Idealize.ShloMosaic.Lib.Tactic

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg4 : Memref sig .tc .vmem S768x1024 .bf16) (harg4 : arg4.IsWhole)
variable (arg5 : Memref sig .tc .vmem S1x1024x1792 .f32) (harg5 : arg5.IsWhole)
variable (arg6 : Memref sig .tc .vmem S1x1024x1792 .f32) (harg6 : arg6.IsWhole)
variable (arg7 : Memref sig .tc .vmem S1x1792x1024 .f32) (harg7 : arg7.IsWhole)
variable (arg8 : Memref sig .tc .vmem S768x1024 .bf16) (harg8 : arg8.IsWhole)
variable (arg9 : Memref sig .tc .vmem S768x1024 .f32) (harg9 : arg9.IsWhole)
variable (x0 : Vec F S768x1024 .bf16) (x1 : Vec F S1x1024x1792 .f32) (x2 : Vec F S1x1024x1792 .f32) (x3 : Vec F S1x1792x1024 .f32)
variable (xte : TbBuf (F := F) c teM) (xnu : TbBuf (F := F) c nuM)

/-- The four operand buffers at their contents. -/
abbrev operands : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3)

/-- The buffer of `M` with the pieces `L` (last first) written over some contents. -/
abbrev wrote {S : Shape} {e : EltTy} (M : Memref sig .tc .vmem S e) (L : List (View.Piece (Elt F) S e)) : sProp 𝕄 :=
  iprop(∃ f, M.view.loc (c : Thread nD τ) ↦[M.view.set]{fullShare} M.view.writes (Elt F) f L)

/-- The body runs from the operands, the two tables and `Pre` to the operands, the two tables and `Post`. -/
abbrev Runs (Pre Post : sProp 𝕄) : Prop :=
  ∀ (E : Set ℕ) (K : PUnit → sProp 𝕄),
    iprop(operands c arg4 arg5 arg6 arg7 x0 x1 x2 x3 ∗ tbPt c teM xte ∗ tbPt c nuM xnu ∗ Pre
        ∗ (iprop(operands c arg4 arg5 arg6 arg7 x0 x1 x2 x3 ∗ tbPt c teM xte ∗ tbPt c nuM xnu ∗ Post) -∗ K ⟨⟩))
      ⊢ wp frame (wpE (defs₀ (F := F)) Variants.none c none) E (cc0_moe_experts i teM hteM nuM hnuM arg4 harg4 arg5 harg5 arg6 harg6 arg7 harg7 arg8 harg8 arg9 harg9) K

/-- A run leaves alone whatever else is held. -/
theorem Runs.keep {c : Dev nD} {i : grid0.Coords} {arg4 : Memref sig .tc .vmem S768x1024 .bf16} {harg4 : arg4.IsWhole}
    {arg5 : Memref sig .tc .vmem S1x1024x1792 .f32} {harg5 : arg5.IsWhole} {arg6 : Memref sig .tc .vmem S1x1024x1792 .f32} {harg6 : arg6.IsWhole}
    {arg7 : Memref sig .tc .vmem S1x1792x1024 .f32} {harg7 : arg7.IsWhole} {arg8 : Memref sig .tc .vmem S768x1024 .bf16} {harg8 : arg8.IsWhole}
    {arg9 : Memref sig .tc .vmem S768x1024 .f32} {harg9 : arg9.IsWhole} {x0 : Vec F S768x1024 .bf16} {x1 x2 : Vec F S1x1024x1792 .f32}
    {x3 : Vec F S1x1792x1024 .f32} {xte : TbBuf (F := F) c teM} {xnu : TbBuf (F := F) c nuM} {Pre Post : sProp 𝕄}
    (h : Runs c i arg4 harg4 arg5 harg5 arg6 harg6 arg7 harg7 arg8 harg8 arg9 harg9 x0 x1 x2 x3 xte xnu Pre Post) (P : sProp 𝕄) :
    Runs c i arg4 harg4 arg5 harg5 arg6 harg6 arg7 harg7 arg8 harg8 arg9 harg9 x0 x1 x2 x3 xte xnu iprop(Pre ∗ P) iprop(Post ∗ P) := by
  intro E K
  iintro ⟨Hx, HT0, HT1, ⟨Hp, HP⟩, Hk⟩
  iapply (h E K)
  isplitl [Hx]; · iexact Hx
  isplitl [HT0]; · iexact HT0
  isplitl [HT1]; · iexact HT1
  isplitl [Hp]; · iexact Hp
  iintro ⟨Hx, HT0, HT1, Hq⟩
  iapply Hk
  isplitl [Hx]; · iexact Hx
  isplitl [HT0]; · iexact HT0
  isplitl [HT1]; · iexact HT1
  isplitl [Hq]; · iexact Hq
  iexact HP

set_option maxHeartbeats 1000000 in
/-- A tile not in use, first step: the result's buffer is written (zeros); the accumulator is left at some contents. -/
def runC (hu : ¬ k0_cond1 i (nuOf xnu) = 1#1) (hb : k0_cond4 i (nuOf xnu) = 1#1) :
    { L : List (View.Piece (Elt F) S768x1024 .bf16) // Runs c i arg4 harg4 arg5 harg5 arg6 harg6 arg7 harg7 arg8 harg8 arg9 harg9 x0 x1 x2 x3 xte xnu
      iprop((∃ d, owns (c : Thread nD τ) arg8 fullShare d))
      iprop(wrote c arg8 L) } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold operands owns
    iintro ⟨⟨⟨%f0, %hf0, H0⟩, ⟨%f1, %hf1, H1⟩, ⟨%f2, %hf2, H2⟩, ⟨%f3, %hf3, H3⟩⟩, HT0, HT1, ⟨%d8, %f8, -, H8⟩, Hk⟩
    obtain rfl := harg4.eq_unread hf0; obtain rfl := harg5.eq_unread hf1; obtain rfl := harg6.eq_unread hf2; obtain rfl := harg7.eq_unread hf3
    sl_exec (disch := first | sl_exact hu | sl_exact hb)
    sl_step
    iapply Hk
    isplitl [H0 H1 H2 H3]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      iexists _; isplitr; · ipureintro; exact harg7.read_unread _
      iexact H3
    isplitl [HT0]; · iexact HT0
    isplitl [HT1]; · iexact HT1
    iexists _; iexact H8

set_option maxHeartbeats 1000000 in
/-- A tile not in use, second step: nothing is written. -/
theorem runD (hu : ¬ k0_cond1 i (nuOf xnu) = 1#1) (hb : ¬ k0_cond4 i (nuOf xnu) = 1#1) (P : sProp 𝕄) :
    Runs c i arg4 harg4 arg5 harg5 arg6 harg6 arg7 harg7 arg8 harg8 arg9 harg9 x0 x1 x2 x3 xte xnu
      iprop(P)
      iprop(P) := by
  intro E K
  simp only [cc0_moe_experts_eq_skeleton]; unfold cc0_moe_experts_skel
  simp only [k0_part1_eq_skeleton, k0_part2_eq_skeleton, k0_part3_eq_skeleton, k0_part4_eq_skeleton, k0_part5_eq_skeleton]
  unfold operands owns
  iintro ⟨⟨⟨%f0, %hf0, H0⟩, ⟨%f1, %hf1, H1⟩, ⟨%f2, %hf2, H2⟩, ⟨%f3, %hf3, H3⟩⟩, HT0, HT1, HP, Hk⟩
  obtain rfl := harg4.eq_unread hf0; obtain rfl := harg5.eq_unread hf1; obtain rfl := harg6.eq_unread hf2; obtain rfl := harg7.eq_unread hf3
  sl_exec (disch := first | sl_exact hu | sl_exact hb)
  sl_step
  iapply Hk
  isplitl [H0 H1 H2 H3]
  · isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    iexists _; isplitr; · ipureintro; exact harg7.read_unread _
    iexact H3
  isplitl [HT0]; · iexact HT0
  isplitl [HT1]; · iexact HT1
  iexact HP

end Cert.KernelIdeal.Moe

end
-- ==== Proof.Moe.RunA.lean ====
/-
  What the experts' body does at the first step over the hidden columns, for a tile in use.
-/
module

public import proofs.«01_k».proof.Proof.Moe.Runs

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg4 : Memref sig .tc .vmem S768x1024 .bf16) (harg4 : arg4.IsWhole)
variable (arg5 : Memref sig .tc .vmem S1x1024x1792 .f32) (harg5 : arg5.IsWhole)
variable (arg6 : Memref sig .tc .vmem S1x1024x1792 .f32) (harg6 : arg6.IsWhole)
variable (arg7 : Memref sig .tc .vmem S1x1792x1024 .f32) (harg7 : arg7.IsWhole)
variable (arg8 : Memref sig .tc .vmem S768x1024 .bf16) (harg8 : arg8.IsWhole)
variable (arg9 : Memref sig .tc .vmem S768x1024 .f32) (harg9 : arg9.IsWhole)
variable (x0 : Vec F S768x1024 .bf16) (x1 : Vec F S1x1024x1792 .f32) (x2 : Vec F S1x1024x1792 .f32) (x3 : Vec F S1x1792x1024 .f32)
variable (xte : TbBuf (F := F) c teM) (xnu : TbBuf (F := F) c nuM)

set_option maxHeartbeats 1000000 in
/-- A tile in use, first step: the accumulator is written, from zeros; the result's buffer (at `d8`) is left as it was. -/
def runA (hu : k0_cond1 i (nuOf xnu) = 1#1) (hf : first i) (hl : ¬ k0_cond3 i = 1#1) (hb : ¬ k0_cond4 i (nuOf xnu) = 1#1) :
    { L : List (View.Piece (Elt F) S768x1024 .f32) // ∀ d8, Runs c i arg4 harg4 arg5 harg5 arg6 harg6 arg7 harg7 arg8 harg8 arg9 harg9 x0 x1 x2 x3 xte xnu
      iprop(owns (c : Thread nD τ) arg8 fullShare d8 ∗ (∃ d, owns (c : Thread nD τ) arg9 fullShare d))
      iprop(owns (c : Thread nD τ) arg8 fullShare d8 ∗ wrote c arg9 L) } := by
  refine ⟨?_, fun d8 E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold operands owns
    iintro ⟨⟨⟨%f0, %hf0, H0⟩, ⟨%f1, %hf1, H1⟩, ⟨%f2, %hf2, H2⟩, ⟨%f3, %hf3, H3⟩⟩, HT0, HT1, ⟨⟨%f8, %hf8, H8⟩, ⟨%d9, %f9, -, H9⟩⟩, Hk⟩
    obtain rfl := harg4.eq_unread hf0; obtain rfl := harg5.eq_unread hf1; obtain rfl := harg6.eq_unread hf2; obtain rfl := harg7.eq_unread hf3
    sl_exec (disch := first | sl_exact hu | sl_exact hf | sl_exact hl | sl_exact hb)
    sl_step
    iapply Hk
    isplitl [H0 H1 H2 H3]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      iexists _; isplitr; · ipureintro; exact harg7.read_unread _
      iexact H3
    isplitl [HT0]; · iexact HT0
    isplitl [HT1]; · iexact HT1
    isplitl [H8]
    · iexists f8; isplitr; · ipureintro; exact hf8
      iexact H8
    iexists _; iexact H9

end Cert.KernelIdeal.Moe

end
-- ==== Proof.Moe.RunB.lean ====
/-
  What the experts' body does at the second step over the hidden columns, for a tile in use.
-/
module

public import proofs.«01_k».proof.Proof.Moe.Runs

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
variable (arg4 : Memref sig .tc .vmem S768x1024 .bf16) (harg4 : arg4.IsWhole)
variable (arg5 : Memref sig .tc .vmem S1x1024x1792 .f32) (harg5 : arg5.IsWhole)
variable (arg6 : Memref sig .tc .vmem S1x1024x1792 .f32) (harg6 : arg6.IsWhole)
variable (arg7 : Memref sig .tc .vmem S1x1792x1024 .f32) (harg7 : arg7.IsWhole)
variable (arg8 : Memref sig .tc .vmem S768x1024 .bf16) (harg8 : arg8.IsWhole)
variable (arg9 : Memref sig .tc .vmem S768x1024 .f32) (harg9 : arg9.IsWhole)
variable (x0 : Vec F S768x1024 .bf16) (x1 : Vec F S1x1024x1792 .f32) (x2 : Vec F S1x1024x1792 .f32) (x3 : Vec F S1x1792x1024 .f32)
variable (xte : TbBuf (F := F) c teM) (xnu : TbBuf (F := F) c nuM)

set_option maxHeartbeats 1000000 in
/-- A tile in use, second step: the accumulator, found at `xs`, is added to, and its rounding written to the result's buffer. -/
def runB (hu : k0_cond1 i (nuOf xnu) = 1#1) (hf : ¬ first i) (hl : k0_cond3 i = 1#1) (hb : ¬ k0_cond4 i (nuOf xnu) = 1#1) (xs : Vec F S768x1024 .f32) :
    { L : List (View.Piece (Elt F) S768x1024 .bf16) // Runs c i arg4 harg4 arg5 harg5 arg6 harg6 arg7 harg7 arg8 harg8 arg9 harg9 x0 x1 x2 x3 xte xnu
      iprop((∃ d, owns (c : Thread nD τ) arg8 fullShare d) ∗ owns (c : Thread nD τ) arg9 fullShare xs)
      iprop(wrote c arg8 L ∗ (∃ f, arg9.view.loc (c : Thread nD τ) ↦[arg9.view.set]{fullShare} f)) } := by
  refine ⟨?_, fun E K => ?run⟩
  case run =>
    simp only [cc0_moe_experts_eq_skeleton]; unfold cc0_moe_experts_skel
    simp only [k0_part1_eq_skeleton, k0_part2_eq_skeleton, k0_part3_eq_skeleton, k0_part4_eq_skeleton, k0_part5_eq_skeleton]
    unfold operands owns
    iintro ⟨⟨⟨%f0, %hf0, H0⟩, ⟨%f1, %hf1, H1⟩, ⟨%f2, %hf2, H2⟩, ⟨%f3, %hf3, H3⟩⟩, HT0, HT1, ⟨⟨%d8, %f8, -, H8⟩, ⟨%f9, %hf9, H9⟩⟩, Hk⟩
    obtain rfl := harg4.eq_unread hf0; obtain rfl := harg5.eq_unread hf1; obtain rfl := harg6.eq_unread hf2; obtain rfl := harg7.eq_unread hf3
    obtain rfl := harg9.eq_unread hf9
    sl_exec (disch := first | sl_exact hu | sl_exact hf | sl_exact hl | sl_exact hb)
    sl_step
    iapply Hk
    isplitl [H0 H1 H2 H3]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      iexists _; isplitr; · ipureintro; exact harg7.read_unread _
      iexact H3
    isplitl [HT0]; · iexact HT0
    isplitl [HT1]; · iexact HT1
    isplitl [H8]; · iexists _; iexact H8
    iexists _; iexact H9

end Cert.KernelIdeal.Moe

end
-- ==== Proof.Moe.Reads.lean ====
/-
  What the two runs of a tile in use leave, as plain functions of the buffers' contents: a step over the hidden columns
  adds seven chunks to the accumulator.
-/
module

public import proofs.«01_k».proof.Proof.Moe.RunA
public import proofs.«01_k».proof.Proof.Moe.RunB
public import Idealize.ShloMosaic.Lib.VecWindow
public import Idealize.ShloMosaic.Lib.Pipeline.ValueKit.Basic

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A window of 256 hidden columns of a gate or up block, and of 256 hidden rows of a down block. -/
abbrev colsAt (x : Vec F S1x1024x1792 .f32) (o : ℕ) (h : ∀ a, (![0, 0, o] : Fin 3 → ℕ) a + S1x1024x256.size a ≤ S1x1024x1792.size a) : Vec F S1x1024x256 .f32 :=
  View.ld x (Rect.unit (s := S1x1024x1792) ![0, 0, o] S1x1024x256.size h)
abbrev rowsAt (x : Vec F S1x1792x1024 .f32) (o : ℕ) (h : ∀ a, (![0, o, 0] : Fin 3 → ℕ) a + S1x256x1024.size a ≤ S1x1792x1024.size a) : Vec F S1x256x1024 .f32 :=
  View.ld x (Rect.unit (s := S1x1792x1024) ![0, o, 0] S1x256x1024.size h)

/-- The accumulator after a step's seven chunks, from contents `a` before them. -/
def step (x0 : Vec F S768x1024 .bf16) (x1 x2 : Vec F S1x1024x1792 .f32) (x3 : Vec F S1x1792x1024 .f32) (a : Vec F S768x1024 .f32) : Vec F S768x1024 .f32 :=
  k0_pay5 x0 (colsAt x1 1536 inb_S1x1024x1792_S1x1024x256_0_0_1536) (colsAt x2 1536 inb_S1x1024x1792_S1x1024x256_0_0_1536)
    (k0_pay5 x0 (colsAt x1 1280 inb_S1x1024x1792_S1x1024x256_0_0_1280) (colsAt x2 1280 inb_S1x1024x1792_S1x1024x256_0_0_1280)
    (k0_pay5 x0 (colsAt x1 1024 inb_S1x1024x1792_S1x1024x256_0_0_1024) (colsAt x2 1024 inb_S1x1024x1792_S1x1024x256_0_0_1024)
    (k0_pay5 x0 (colsAt x1 768 inb_S1x1024x1792_S1x1024x256_0_0_768) (colsAt x2 768 inb_S1x1024x1792_S1x1024x256_0_0_768)
    (k0_pay5 x0 (colsAt x1 512 inb_S1x1024x1792_S1x1024x256_0_0_512) (colsAt x2 512 inb_S1x1024x1792_S1x1024x256_0_0_512)
    (k0_pay5 x0 (colsAt x1 256 inb_S1x1024x1792_S1x1024x256_0_0_256) (colsAt x2 256 inb_S1x1024x1792_S1x1024x256_0_0_256)
    (k0_pay5 x0 (colsAt x1 0 inb_S1x1024x1792_S1x1024x256_0_0_0) (colsAt x2 0 inb_S1x1024x1792_S1x1024x256_0_0_0)
    (a) (rowsAt x3 0 inb_S1x1792x1024_S1x256x1024_0_0_0)) (rowsAt x3 256 inb_S1x1792x1024_S1x256x1024_0_256_0)) (rowsAt x3 512 inb_S1x1792x1024_S1x256x1024_0_512_0)) (rowsAt x3 768 inb_S1x1792x1024_S1x256x1024_0_768_0)) (rowsAt x3 1024 inb_S1x1792x1024_S1x256x1024_0_1024_0)) (rowsAt x3 1280 inb_S1x1792x1024_S1x256x1024_0_1280_0)) (rowsAt x3 1536 inb_S1x1792x1024_S1x256x1024_0_1536_0)

/-! The last store of a whole buffer is what it holds, and what a load of it reads. -/

section
variable {e : EltTy} (v : View sig .tc .vmem S768x1024 e) (w : S768x1024.Idx → Elt F e) (L : List (View.Piece (Elt F) S768x1024 e))

theorem read_stored (f) : v.read (Elt F) (v.writes (Elt F) f (⟨Rect.unit ![0, 0] ![768, 1024] inb_S768x1024_S768x1024_0_0, w⟩ :: L)) = w :=
  View.read_writes_full v f inb_S768x1024_S768x1024_0_0 w L

theorem load_stored : v.readCov (⟨Rect.unit ![0, 0] ![768, 1024] inb_S768x1024_S768x1024_0_0, w⟩ :: L)
    (Rect.unit (s := S768x1024) ![0, 0] ![768, 1024] inb_S768x1024_S768x1024_0_0).toLoadRect = w :=
  View.readCov_full v inb_S768x1024_S768x1024_0_0 inb_S768x1024_S768x1024_0_0 w L
end

theorem load_unread {S : Shape} {e : EltTy} (M : Memref sig .tc .vmem S e) (h : M.IsWhole) (X : S.Idx → Elt F e) (r : Rect S) :
    M.view.readAt (Elt F) r.toLoadRect (h.unread X) = View.ld X r := by
  rw [View.readAt_eq_ld, h.read_unread]

theorem load_whole {e : EltTy} (X : S768x1024.Idx → Elt F e) :
    View.ld X (Rect.unit (s := S768x1024) ![0, 0] ![768, 1024] inb_S768x1024_S768x1024_0_0) = X :=
  View.ld_unit_lit inb_S768x1024_S768x1024_0_0 X (by decide)

variable (c : Dev nD) (i : grid0.Coords)
variable (arg4 : Memref sig .tc .vmem S768x1024 .bf16) (harg4 : arg4.IsWhole)
variable (arg5 : Memref sig .tc .vmem S1x1024x1792 .f32) (harg5 : arg5.IsWhole)
variable (arg6 : Memref sig .tc .vmem S1x1024x1792 .f32) (harg6 : arg6.IsWhole)
variable (arg7 : Memref sig .tc .vmem S1x1792x1024 .f32) (harg7 : arg7.IsWhole)
variable (arg8 : Memref sig .tc .vmem S768x1024 .bf16) (harg8 : arg8.IsWhole)
variable (arg9 : Memref sig .tc .vmem S768x1024 .f32) (harg9 : arg9.IsWhole)
variable (x0 : Vec F S768x1024 .bf16) (x1 : Vec F S1x1024x1792 .f32) (x2 : Vec F S1x1024x1792 .f32) (x3 : Vec F S1x1792x1024 .f32)
variable (xte : TbBuf (F := F) c teM) (xnu : TbBuf (F := F) c nuM)

set_option maxHeartbeats 1000000 in
/-- The first step leaves the seven chunks added to zeros in the accumulator. -/
theorem runA_reads (hu : k0_cond1 i (nuOf xnu) = 1#1) (hf : first i) (hl : ¬ k0_cond3 i = 1#1) (hb : ¬ k0_cond4 i (nuOf xnu) = 1#1) (f : Buf (Elt F) (arg9.view.loc (c : Thread nD τ))) :
    arg9.view.read (Elt F) (arg9.view.writes (Elt F) f (runA c i arg4 harg4 arg5 harg5 arg6 harg6 arg7 harg7 arg8 harg8 arg9 harg9 x0 x1 x2 x3 xte xnu hu hf hl hb).1)
      = step x0 x1 x2 x3 k0_pay4 := by
  unfold runA
  dsimp only
  simp only [read_stored, load_stored, load_unread, load_whole, runA.sl.v59, runA.sl.v86, runA.sl.v113, runA.sl.v140, runA.sl.v167, runA.sl.v194, runA.sl.r, runA.sl.r_1, runA.sl.r_2, runA.sl.r_3, runA.sl.r_4, runA.sl.r_5, runA.sl.r_6, runA.sl.r_7, runA.sl.cst_50, runA.sl.v32, runA.sl.H9_1, runA.sl.H9_2, runA.sl.H9_3, runA.sl.H9_4, runA.sl.H9_5, runA.sl.H9_6, runA.sl.H9_7]
  rfl

set_option maxHeartbeats 1000000 in
/-- The second step leaves the rounded sum in the result's buffer. -/
theorem runB_reads (hu : k0_cond1 i (nuOf xnu) = 1#1) (hf : ¬ first i) (hl : k0_cond3 i = 1#1) (hb : ¬ k0_cond4 i (nuOf xnu) = 1#1) (xs : Vec F S768x1024 .f32) (f : Buf (Elt F) (arg8.view.loc (c : Thread nD τ))) :
    arg8.view.read (Elt F) (arg8.view.writes (Elt F) f (runB c i arg4 harg4 arg5 harg5 arg6 harg6 arg7 harg7 arg8 harg8 arg9 harg9 x0 x1 x2 x3 xte xnu hu hf hl hb xs).1)
      = k0_pay2 (step x0 x1 x2 x3 xs) := by
  unfold runB
  dsimp only
  simp only [read_stored, load_stored, load_unread, load_whole, runB.sl.v59, runB.sl.v86, runB.sl.v113, runB.sl.v140, runB.sl.v167, runB.sl.v194, runB.sl.r, runB.sl.r_1, runB.sl.r_2, runB.sl.r_3, runB.sl.r_4, runB.sl.r_5, runB.sl.r_6, runB.sl.r_7, runB.sl.cst_50, runB.sl.v206, runB.sl.H9_1, runB.sl.H9_2, runB.sl.H9_3, runB.sl.H9_4, runB.sl.H9_5, runB.sl.H9_6, runB.sl.H9_7]
  rfl

/-- A tile not in use has zeros stored. -/
theorem runC_reads (hu : ¬ k0_cond1 i (nuOf xnu) = 1#1) (hb : k0_cond4 i (nuOf xnu) = 1#1) (f : Buf (Elt F) (arg8.view.loc (c : Thread nD τ))) :
    arg8.view.read (Elt F) (arg8.view.writes (Elt F) f (runC c i arg4 harg4 arg5 harg5 arg6 harg6 arg7 harg7 arg8 harg8 arg9 harg9 x0 x1 x2 x3 xte xnu hu hb).1)
      = k0_pay3 := by
  unfold runC
  dsimp only
  exact read_stored _ _ _ _

end Cert.KernelIdeal.Moe

end
-- ==== Proof.Moe.Frame.lean ====
/-
  The experts' kernel runs from any memory whose tables select blocks inside their arrays: what each point of its grid
  leaves in the buffers, the body's obligation from that, the launch, and the arguments' frame.
-/
module

public import proofs.«01_k».proof.Proof.Moe.Reads
public import Idealize.ShloMosaic.Lib.Pipeline.FrameBody

@[expose] public section

set_option maxRecDepth 16384

noncomputable section

namespace Cert.KernelIdeal.Moe

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each point leaves -/

/-- Tile `i` is in use. -/
abbrev used (i : ℕ) : Prop := (i : ℤ) < (nu m).toInt

theorem cond1_iff (c : Dev nD) (t : Fin grid0.N) : k0_cond1 (grid0.coords t) (nuOf (c := c) (tbl m 1)) = 1#1 ↔ used m (t.val / 2) := used_iff t _
theorem cond4_iff (c : Dev nD) (t : Fin grid0.N) : k0_cond4 (grid0.coords t) (nuOf (c := c) (tbl m 1)) = 1#1 ↔ (¬ used m (t.val / 2) ∧ t.val % 2 = 0) :=
  (blank_iff t _).trans (and_congr_left' (not_congr (used_iff t _)))

/-- The step at point `t`, from accumulator contents `a`. -/
def stepAt (hO : Ok m) (c : Dev nD) (t : Fin (cfgM m hO).N) (a : Vec F S768x1024 .f32) : Vec F S768x1024 .f32 :=
  step (iblk m hO c 0 t) (iblk m hO c 1 t) (iblk m hO c 2 t) (iblk m hO c 3 t) a

/-- The accumulator before point `n`, where that is a used tile's second step: its first step, from zeros. -/
def accAt (hO : Ok m) (c : Dev nD) (n : ℕ) : Vec F S768x1024 .f32 :=
  if h : n - 1 < (cfgM m hO).N then stepAt m hO c ⟨n - 1, h⟩ k0_pay4 else k0_pay4

theorem accAt_succ (hO : Ok m) (c : Dev nD) (t : Fin (cfgM m hO).N) : accAt m hO c (t.val + 1) = stepAt m hO c t k0_pay4 := by
  unfold accAt
  rw [dif_pos (show t.val + 1 - 1 < (cfgM m hO).N from t.isLt)]
  rfl

/-- What the result's buffer holds after point `t`: a used tile's rounded sum, or zeros. -/
def outAt (hO : Ok m) (c : Dev nD) (t : Fin (cfgM m hO).N) : Vec F S768x1024 .bf16 :=
  open Classical in if used m (t.val / 2) then k0_pay2 (stepAt m hO c t (accAt m hO c t.val)) else k0_pay3

/-- What is known of the accumulator before point `n`. -/
def accPhi (hO : Ok m) (c : Dev nD) (n : ℕ) : sProp 𝕄 :=
  open Classical in
  if n % 2 = 1 ∧ used m (n / 2) then owns (c : Thread nD τ) accM fullShare (accAt m hO c n)
  else iprop(∃ d, owns (c : Thread nD τ) accM fullShare d)

theorem accPhi_named (hO : Ok m) (c : Dev nD) (n : ℕ) (h : n % 2 = 1) (hu : used m (n / 2)) :
    accPhi m hO c n = owns (c : Thread nD τ) accM fullShare (accAt m hO c n) := if_pos ⟨h, hu⟩
theorem accPhi_even (hO : Ok m) (c : Dev nD) (n : ℕ) (h : n % 2 = 0) :
    accPhi m hO c n = iprop(∃ d, owns (c : Thread nD τ) accM fullShare d) := if_neg (by omega)
theorem accPhi_blank (hO : Ok m) (c : Dev nD) (n : ℕ) (h : ¬ used m (n / 2)) :
    accPhi m hO c n = iprop(∃ d, owns (c : Thread nD τ) accM fullShare d) := if_neg (fun hh => h hh.2)

/-- The invariant before point `n`. -/
def Phi (hO : Ok m) (c : Dev nD) (n : ℕ) : sProp 𝕄 :=
  iprop(iprop(accPhi m hO c n ∗ (∃ r, prngReg c r)) ∗ Pipeline.ΦT pre0 (tbl m) c)

/-- The proof data: the arrays as launched, the operands' buffers at their blocks, the result's at `outAt`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := Phi m hO c t.val
  q _ := fullShare
  owed _ := 0

theorem A_eq (hO : Ok m) (c : Dev nD) (w : Fin (cfgM m hO).W) : (dats m hO 0 c).A w = V m c (Pipeline.arrRef spec0 w) := by dsimp only [dats]; try rfl

theorem after0 (hO : Ok m) (c : Dev nD) (t : Fin (cfgM m hO).N) : (dats m hO 0 c).after 0 t = iblk m hO c 0 t := by dsimp only [dats]; try rfl
theorem after1 (hO : Ok m) (c : Dev nD) (t : Fin (cfgM m hO).N) : (dats m hO 0 c).after 1 t = iblk m hO c 1 t := by dsimp only [dats]; try rfl
theorem after2 (hO : Ok m) (c : Dev nD) (t : Fin (cfgM m hO).N) : (dats m hO 0 c).after 2 t = iblk m hO c 2 t := by dsimp only [dats]; try rfl
theorem after3 (hO : Ok m) (c : Dev nD) (t : Fin (cfgM m hO).N) : (dats m hO 0 c).after 3 t = iblk m hO c 3 t := by dsimp only [dats]; try rfl
theorem after4 (hO : Ok m) (c : Dev nD) (t : Fin (cfgM m hO).N) : (dats m hO 0 c).after 4 t = outAt m hO c t := by dsimp only [dats]; try rfl

theorem before0 (hO : Ok m) (c : Dev nD) (t : Fin (cfgM m hO).N) (d) : (dats m hO 0 c).before 0 t d = iblk m hO c 0 t :=
  (before_of m hO (dats m hO 0 c) (A_eq m hO c)).1 (after0 m hO c) t d
theorem before1 (hO : Ok m) (c : Dev nD) (t : Fin (cfgM m hO).N) (d) : (dats m hO 0 c).before 1 t d = iblk m hO c 1 t :=
  (before_of m hO (dats m hO 0 c) (A_eq m hO c)).2.1 (after1 m hO c) t d
theorem before2 (hO : Ok m) (c : Dev nD) (t : Fin (cfgM m hO).N) (d) : (dats m hO 0 c).before 2 t d = iblk m hO c 2 t :=
  (before_of m hO (dats m hO 0 c) (A_eq m hO c)).2.2.1 (after2 m hO c) t d
theorem before3 (hO : Ok m) (c : Dev nD) (t : Fin (cfgM m hO).N) (d) : (dats m hO 0 c).before 3 t d = iblk m hO c 3 t :=
  (before_of m hO (dats m hO 0 c) (A_eq m hO c)).2.2.2 (after3 m hO c) t d

/-! ## The result's window: where it is left untouched, and what it then holds -/

/-- It is untouched exactly at a used tile's first step and an unused tile's second. -/
theorem idle4 (hO : Ok m) (t : Fin (cfgM m hO).N) :
    (cfgM m hO).idle 4 ((cfgM m hO).grid.coords t) = true ↔ (used m (t.val / 2) ↔ t.val % 2 = 0) := by
  have h1 := used_iff t (nu m)
  have h3 := last_iff t
  have h4 := blank_iff t (nu m)
  rw [h1] at h4
  show ((!(k0_cond1 (grid0.coords t) (nu m) == 1#1 && k0_cond3 (grid0.coords t) == 1#1) && !(k0_cond4 (grid0.coords t) (nu m) == 1#1)) = true) ↔ _
  simp only [Bool.and_eq_true, Bool.not_eq_true', Bool.and_eq_false_iff, beq_eq_false_iff_ne, ne_eq, h1, h3, h4]
  have := Nat.mod_two_eq_zero_or_one t.val
  by_cases hu : ((t.val / 2 : ℕ) : ℤ) < (nu m).toInt <;> rcases this with h | h <;> simp [used, hu, h]

/-- Before an unused tile's second step its buffer holds the zeros of the first. -/
theorem before4_blank (hO : Ok m) (c : Dev nD) (t : Fin (cfgM m hO).N) (hu : ¬ used m (t.val / 2)) (ho : t.val % 2 = 1) (d) :
    (dats m hO 0 c).before 4 t d = k0_pay3 := by
  have hN : t.val < 112 := lt_of_lt_of_eq t.isLt (show (cfgM m hO).N = 112 from N_0)
  have hd : (t.val - 1) / 2 = t.val / 2 := by omega
  let t' : Fin (cfgM m hO).N := ⟨t.val - 1, Nat.lt_of_le_of_lt (Nat.sub_le _ _) t.isLt⟩
  have hf : ¬ ((cfgM m hO).win 4).flush t' = true := by rw [flush4 (adm m hO) t']; show ¬ (t.val - 1) % 2 = 1; omega
  have hi : (cfgM m hO).idle 4 ((cfgM m hO).grid.coords t') = false := by
    rw [← Bool.not_eq_true, idle4 m hO t']
    show ¬ (used m ((t.val - 1) / 2) ↔ (t.val - 1) % 2 = 0)
    rw [hd]; intro h; exact hu (h.mpr (by omega))
  rw [(dats m hO 0 c).before_of_pos 4 t (by omega) rfl d, if_neg hf]
  unfold Dat.left
  rw [hi]
  show (dats m hO 0 c).after 4 t' = _
  rw [after4]
  exact if_neg (by show ¬ used m ((t.val - 1) / 2); rwa [hd])

/-! ## The body obligation -/

/-- What the body is called with at point `t`, window by window, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ (dats m hO 0 c).leavesExact 4 t)

/-- A run of the body at point `t`, on the point's operands. -/
abbrev RunsAt (hO : Ok m) (c : Dev nD) (t : Fin (cfgM m hO).N) (Pre Post : sProp 𝕄) : Prop :=
  Runs c (grid0.coords t) (ms0 m hO t) (hs0 m hO t) (ms1 m hO t) (hs1 m hO t) (ms2 m hO t) (hs2 m hO t) (ms3 m hO t) (hs3 m hO t)
    (ms4 m hO t) (hs4 m hO t) accM (Memref.isWhole_whole _) (iblk m hO c 0 t) (iblk m hO c 1 t) (iblk m hO c 2 t) (iblk m hO c 3 t) (tbl m 0) (tbl m 1) Pre Post

/-- A run that takes the accumulator and the result's buffer as the point finds them to what the point leaves is all
    there is to show: the operands and the tables are read only, and nothing is owed. -/
theorem of_runs (hO : Ok m) (c : Dev nD) (t : Fin (cfgM m hO).N)
    (h : ∀ d, ∃ Pre Post, RunsAt m hO c t Pre Post
      ∧ (iprop(accPhi m hO c t.val ∗ owns (c : Thread nD τ) (ms4 m hO t) fullShare ((dats m hO 0 c).before 4 t d)) ⊢ Pre)
      ∧ (Post ⊢ iprop(accPhi m hO c (t.val + 1) ∗ (dats m hO 0 c).leavesExact 4 t))) :
    bodyPre m hO c t ⊢ wp frame (wpE (defs₀ (F := F)) Variants.none c none) Set.univ (bodyAt m hO t) (fun _ => bodyPost m hO c t) := by
  unfold bodyPre bodyPost bodyAt
  simp only [before0, before1, before2, before3]
  rw [show (dats m hO 0 c).owesAt () t.succ = (dats m hO 0 c).owesAt () t.castSucc from rfl, after0, after1, after2, after3,
    show (dats m hO 0 c).Φ t.succ = Phi m hO c (t.val + 1) from rfl, show (dats m hO 0 c).Φ t.castSucc = Phi m hO c t.val from rfl]
  unfold Phi
  rw [PhiT_eq]
  iintro ⟨⟨⟨HS, Hg⟩, ⟨HT0, HT1⟩⟩, Ho, ⟨%d0, H0⟩, ⟨%d1, H1⟩, ⟨%d2, H2⟩, ⟨%d3, H3⟩, ⟨%d4, H4⟩⟩
  obtain ⟨Pre, Post, hrun, hpre, hpost⟩ := h d4
  iapply (hrun Set.univ _)
  isplitl [H0 H1 H2 H3]
  · isplitl [H0]; · iexact H0
    isplitl [H1]; · iexact H1
    isplitl [H2]; · iexact H2
    iexact H3
  isplitl [HT0]; · iexact HT0
  isplitl [HT1]; · iexact HT1
  isplitl [HS H4]
  · iapply hpre
    isplitl [HS]; · iexact HS
    iexact H4
  iintro ⟨⟨H0, H1, H2, H3⟩, HT0, HT1, HP⟩
  ihave HP := hpost $$ HP
  icases HP with ⟨HS, H4⟩
  isplitl [HS Hg HT0 HT1]
  · isplitl [HS Hg]
    · isplitl [HS]; · iexact HS
      iexact Hg
    isplitl [HT0]; · iexact HT0
    iexact HT1
  isplitl [Ho]; · iexact Ho
  isplitl [H0]; · iexact H0
  isplitl [H1]; · iexact H1
  isplitl [H2]; · iexact H2
  isplitl [H3]; · iexact H3
  iexact H4

/-- What the result's window is left at, where it is not left untouched or is written back. -/
theorem leaves_after (hO : Ok m) (c : Dev nD) (t : Fin (cfgM m hO).N) (h : ¬ (used m (t.val / 2) ∧ t.val % 2 = 0)) :
    (dats m hO 0 c).leavesExact 4 t = owns (c : Thread nD τ) (ms4 m hO t) fullShare (outAt m hO c t) := by
  unfold Dat.leavesExact
  rcases hi : (cfgM m hO).idle 4 ((cfgM m hO).grid.coords t) with _ | _
  · rfl
  · have h2 := (idle4 m hO t).mp hi
    have hf : ((cfgM m hO).win 4).flush t = true := (flush4 (adm m hO) t).mpr (by
      have := Nat.mod_two_eq_zero_or_one t.val
      by_contra h1
      exact h ⟨h2.mpr (by omega), by omega⟩)
    rw [hf]
    rfl

/-- At a used tile's first step it is left as found. -/
theorem leaves_found (hO : Ok m) (c : Dev nD) (t : Fin (cfgM m hO).N) (hu : used m (t.val / 2)) (he : t.val % 2 = 0) :
    (dats m hO 0 c).leavesExact 4 t = iprop(∃ d, owns (c : Thread nD τ) (ms4 m hO t) fullShare ((dats m hO 0 c).before 4 t d)) :=
  (dats m hO 0 c).leavesExact_idle 4 t ((idle4 m hO t).mpr (iff_of_true hu he))
    (by rw [← Bool.not_eq_true, flush4 (adm m hO) t]; omega)

/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  have hN : t.val < 112 := lt_of_lt_of_eq t.isLt (show (cfgM m hO).N = 112 from N_0)
  have h1 := cond1_iff m c t
  have h4 := cond4_iff m c t
  have h2 := first_iff t
  have h3 := last_iff t
  refine of_runs m hO c t fun d => ?_
  by_cases hu : used m (t.val / 2)
  · by_cases he : t.val % 2 = 0
    · have run := (runA c (grid0.coords t) (ms0 m hO t) (hs0 m hO t) (ms1 m hO t) (hs1 m hO t) (ms2 m hO t) (hs2 m hO t) (ms3 m hO t) (hs3 m hO t)
        (ms4 m hO t) (hs4 m hO t) accM (Memref.isWhole_whole _) (iblk m hO c 0 t) (iblk m hO c 1 t) (iblk m hO c 2 t) (iblk m hO c 3 t) (tbl m 0) (tbl m 1)
        (h1.mpr hu) (h2.mpr he) (mt h3.mp (by omega)) (mt h4.mp fun h => h.1 hu)).2 ((dats m hO 0 c).before 4 t d)
      refine ⟨_, _, run, ?_, ?_⟩
      · rw [accPhi_even m hO c _ he]
        iintro ⟨HS, H4⟩
        isplitl [H4]; · iexact H4
        iexact HS
      · rw [leaves_found m hO c t hu he, accPhi_named m hO c _ (by omega) (by rw [show (t.val + 1) / 2 = t.val / 2 by omega]; exact hu)]
        iintro ⟨H4, ⟨%f, HS⟩⟩
        isplitl [HS]
        · unfold owns; iexists _; isplitr
          swap; · iexact HS
          ipureintro
          exact (runA_reads c _ _ _ _ _ _ _ _ _ _ _ _ _ _ _ _ _ _ _ _ _ _ _ _).trans
            (accAt_succ m hO c t).symm
        · iexists d; iexact H4
    · have run := (runB c (grid0.coords t) (ms0 m hO t) (hs0 m hO t) (ms1 m hO t) (hs1 m hO t) (ms2 m hO t) (hs2 m hO t) (ms3 m hO t) (hs3 m hO t)
        (ms4 m hO t) (hs4 m hO t) accM (Memref.isWhole_whole _) (iblk m hO c 0 t) (iblk m hO c 1 t) (iblk m hO c 2 t) (iblk m hO c 3 t) (tbl m 0) (tbl m 1)
        (h1.mpr hu) (mt h2.mp he) (h3.mpr (by omega)) (mt h4.mp fun h => h.1 hu) (accAt m hO c t.val)).2
      refine ⟨_, _, run, ?_, ?_⟩
      · rw [accPhi_named m hO c _ (by omega) hu]
        iintro ⟨HS, H4⟩
        isplitl [H4]; · iexists _; iexact H4
        iexact HS
      · rw [leaves_after m hO c t (by tauto), accPhi_even m hO c _ (by omega)]
        iintro ⟨⟨%f, H4⟩, ⟨%g, HS⟩⟩
        isplitl [HS]
        · iexists _; unfold owns; iexists _; isplitr
          swap; · iexact HS
          ipureintro; rfl
        · unfold owns; iexists _; isplitr
          swap; · iexact H4
          ipureintro
          exact (runB_reads c _ _ _ _ _ _ _ _ _ _ _ _ _ _ _ _ _ _ _ _ _ _ _ _ _).trans (if_pos hu).symm
  · by_cases he : t.val % 2 = 0
    · have run := (runC c (grid0.coords t) (ms0 m hO t) (hs0 m hO t) (ms1 m hO t) (hs1 m hO t) (ms2 m hO t) (hs2 m hO t) (ms3 m hO t) (hs3 m hO t)
        (ms4 m hO t) (hs4 m hO t) accM (Memref.isWhole_whole _) (iblk m hO c 0 t) (iblk m hO c 1 t) (iblk m hO c 2 t) (iblk m hO c 3 t) (tbl m 0) (tbl m 1)
        (mt h1.mp hu) (h4.mpr ⟨hu, he⟩)).2
      have run' : RunsAt m hO c t iprop((∃ d, owns (c : Thread nD τ) (ms4 m hO t) fullShare d) ∗ (∃ d, owns (c : Thread nD τ) accM fullShare d)) _ :=
        run.keep _
      refine ⟨_, _, run', ?_, ?_⟩
      · rw [accPhi_blank m hO c _ hu]
        iintro ⟨HS, H4⟩
        isplitl [H4]; · iexists _; iexact H4
        iexact HS
      · rw [leaves_after m hO c t (fun h => hu h.1), accPhi_blank m hO c _ (by rw [show (t.val + 1) / 2 = t.val / 2 by omega]; exact hu)]
        iintro ⟨⟨%f, H4⟩, HS⟩
        isplitl [HS]; · iexact HS
        unfold owns; iexists _; isplitr
        swap; · iexact H4
        ipureintro
        exact (runC_reads c _ _ _ _ _ _ _ _ _ _ _ _ _ _ _ _ _ _ _ _ _ _).trans (if_neg hu).symm
    · refine ⟨_, _, runD c (grid0.coords t) (ms0 m hO t) (hs0 m hO t) (ms1 m hO t) (hs1 m hO t) (ms2 m hO t) (hs2 m hO t) (ms3 m hO t) (hs3 m hO t)
        (ms4 m hO t) (hs4 m hO t) accM (Memref.isWhole_whole _) (iblk m hO c 0 t) (iblk m hO c 1 t) (iblk m hO c 2 t) (iblk m hO c 3 t) (tbl m 0) (tbl m 1) (mt h1.mp hu) (mt h4.mp fun h => he h.2)
        iprop(owns (c : Thread nD τ) (ms4 m hO t) fullShare ((dats m hO 0 c).before 4 t d) ∗ (∃ d, owns (c : Thread nD τ) accM fullShare d)), ?_, ?_⟩
      · rw [accPhi_blank m hO c _ hu]
        iintro ⟨HS, H4⟩
        isplitl [H4]; · iexact H4
        iexact HS
      · rw [leaves_after m hO c t (by tauto), accPhi_even m hO c _ (by omega), before4_blank m hO c t hu (by omega), show outAt m hO c t = k0_pay3 from if_neg hu]
        iintro ⟨H4, HS⟩
        isplitl [HS]; · iexact HS
        iexact H4

/-! ## The launch -/

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The library's body obligation, at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = Phi m hO c 0 from rfl, PhiA_eq]
  unfold Phi
  rw [accPhi_even m hO c 0 rfl]

theorem hout (hO : Ok m) (c : Dev nD) : (dats m hO 0 c).Φ (Fin.last (cfgM m hO).N) ⊢ Pipeline.ΦA spec0 c := by
  rw [show (dats m hO 0 c).Φ (Fin.last (cfgM m hO).N) = Phi m hO c (cfgM m hO).N from rfl, PhiA_eq]
  unfold Phi
  rw [accPhi_even m hO c _ (by rw [show (cfgM m hO).N = 112 from N_0])]
  iintro ⟨H, -⟩
  iexact H

set_option backward.isDefEq.respectTransparency.types false in
/-- Every weakly fair execution terminates with the pipeline's arrays at what the proof data say, every other array as
    launched, and every counter at zero. -/
theorem run_main (hO : Ok m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: the arguments end as they began, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨
      ((h.1 c).1 0).trans ((dats m hO 0 c).arrAt_in 0 rfl _),
      (h.1 c).2 main_arg1 (by decide : main_arg1 ∈ Pipeline.restRefs sig spec0),
      (h.1 c).2 main_arg2 (by decide : main_arg2 ∈ Pipeline.restRefs sig spec0),
      ((h.1 c).1 1).trans ((dats m hO 0 c).arrAt_in 1 rfl _),
      ((h.1 c).1 2).trans ((dats m hO 0 c).arrAt_in 2 rfl _),
      ((h.1 c).1 3).trans ((dats m hO 0 c).arrAt_in 3 rfl _)⟩, h.2⟩) (run_main m ρ hO)

end Cert.KernelIdeal.Moe

end
-- ==== Proof.Moe.Tables.lean ====
/-
  The tables' admissible contents: from "every entry of the experts' table is the number of an expert", the blocks that
  the windows' index maps select lie inside their arrays; and which blocks those are at a tile in use.
-/
module

public import proofs.«01_k».proof.Proof.Moe.Kit
public import proofs.«01_k».proof.Pre_names_an_expert
public import Idealize.ShloMosaic.Lib.ReduceAll
public import Idealize.ShloMosaic.Lib.Pointwise

@[expose] public section

set_option maxRecDepth 16384

noncomputable section

namespace Cert.KernelIdeal.Moe

open Cert.KernelIdeal.Gen
open Idealize.ShloMosaic Idealize.ShloMosaic.TcCoe
open Idealize.SL.Sem

variable {F : FTy → Type} [FloatOps F]

/-! ## The words the index maps compute -/

/-- The row block of tile `i` when `n` tiles are in use: `i`, held between 0 and `n - 1`. -/
def rowW (i : ℕ) (n : BitVec 32) : BitVec 32 :=
  Scalar.maxsi (Scalar.minsi (BitVec.ofNat 32 i) (Scalar.subi n 1#32)) 0#32

/-- The step over the hidden columns: `f` at a tile in use, else the last. -/
def stepW (i f : ℕ) (n : BitVec 32) : BitVec 32 :=
  Scalar.select (Scalar.cmpi .slt (BitVec.ofNat 32 i) n) (BitVec.ofNat 32 f) 1#32

/-- The half of the hidden columns taken at step `s` of row block `r`: `s`, reversed when `r` is odd. -/
def halfW (r s : BitVec 32) : BitVec 32 :=
  let d : BitVec 32 := Scalar.select (Scalar.cmpi .eq 2#32 0#32) 1#32 2#32
  let q : BitVec 32 := Scalar.remsi r d
  let wrap : BitVec 1 := Scalar.andi (Scalar.xori (Scalar.cmpi .slt q 0#32) (Scalar.cmpi .slt d 0#32)) (Scalar.cmpi .ne q 0#32)
  Scalar.select (Scalar.cmpi .eq (Scalar.select wrap (Scalar.addi q d) q) 0#32) s (Scalar.subi 1#32 s)

/-- A row block is a number no greater than the tile's. -/
theorem rowW_le {i : ℕ} (hi : i < 56) (n : BitVec 32) : ∃ k ≤ i, rowW i n = BitVec.ofNat 32 k := by
  have e : (BitVec.ofNat 32 i).toInt = i := WordCmp.toInt_ofNat_of_lt (by omega)
  have key : ∀ y : BitVec 32, y.toInt ≤ i → ∃ k ≤ i, IntOp.maxsi y 0#32 = BitVec.ofNat 32 k := by
    intro y hy
    unfold IntOp.maxsi
    by_cases h : (0#32).slt y = true
    · rw [if_pos h]
      rw [BitVec.slt_iff_toInt_lt] at h
      have h0 : (0#32 : BitVec 32).toInt = 0 := rfl
      have hn : y.toInt = y.toNat := BitVec.toInt_eq_toNat_of_lt (by have := BitVec.toInt_eq_toNat_cond y; split at this <;> omega)
      exact ⟨y.toNat, by omega, (BitVec.ofNat_toNat 32 y).trans (BitVec.setWidth_eq y) |>.symm⟩
    · rw [if_neg h]
      exact ⟨0, Nat.zero_le _, rfl⟩
  refine key _ ?_
  show (IntOp.minsi _ _).toInt ≤ _
  unfold IntOp.minsi
  split
  · exact e.le
  · rename_i h
    rw [BitVec.slt_iff_toInt_lt] at h
    omega

/-- At a tile in use it is the tile's own number. -/
theorem rowW_used {i : ℕ} (hi : i < 56) {n : BitVec 32} (hn : (i : ℤ) < n.toInt) : rowW i n = BitVec.ofNat 32 i := by
  have e : (BitVec.ofNat 32 i).toInt = i := WordCmp.toInt_ofNat_of_lt (by omega)
  have e1 : (n - 1#32).toInt = n.toInt - 1 := by
    rw [BitVec.toInt_sub, show (1#32 : BitVec 32).toInt = 1 from rfl]
    have := n.toInt_lt
    exact Int.bmod_eq_of_le (by omega) (by omega)
  show IntOp.maxsi (IntOp.minsi _ (n - 1#32)) _ = _
  have h1 : IntOp.minsi (BitVec.ofNat 32 i) (n - 1#32) = BitVec.ofNat 32 i := by
    unfold IntOp.minsi
    split
    · rfl
    · rename_i h
      rw [BitVec.slt_iff_toInt_lt] at h
      exact BitVec.eq_of_toInt_eq (by omega)
  rw [h1]
  unfold IntOp.maxsi
  split
  · rfl
  · rename_i h
    rw [BitVec.slt_iff_toInt_lt] at h
    exact BitVec.eq_of_toInt_eq (by rw [e]; have h0 : (0#32 : BitVec 32).toInt = 0 := rfl; omega)

theorem stepW_lt {i f : ℕ} (hf : f < 2) (n : BitVec 32) : ∃ s < 2, stepW i f n = BitVec.ofNat 32 s := by
  unfold stepW Scalar.select
  split
  · exact ⟨f, hf, rfl⟩
  · exact ⟨1, by omega, rfl⟩

theorem stepW_used {i f : ℕ} (hi : i < 56) {n : BitVec 32} (hn : (i : ℤ) < n.toInt) : stepW i f n = BitVec.ofNat 32 f := by
  unfold stepW Scalar.select
  rw [if_pos]
  show IntOp.cmpi .slt _ _ = 1#1
  rw [IntOp.cmpi_slt, WordCmp.toInt_ofNat_of_lt (w := 32) (by omega)]
  exact hn

/-- The half, of small numbers. -/
theorem halfW_eq : ∀ k < 56, ∀ s < 2, halfW (BitVec.ofNat 32 k) (BitVec.ofNat 32 s) = BitVec.ofNat 32 (if k % 2 = 0 then s else 1 - s) := by
  decide +kernel

/-! ## The index maps at the tables -/

variable (m : (ℓ : Loc nD τ sig) → Buf (Elt F) ℓ)

/-- The expert of tile `i`, as the table gives it at launch. -/
def te (i : Fin 56) : BitVec 32 := (tbl m 0 : IVec S56 32) (ix1 i)

theorem at_te (i : grid0.Coords) :
    (tbl m).at 0 (Rect.unit (s := S56) ![(Scalar.indexCast (BitVec.ofNat 32 (i 0).val) : Index).toNat] S1.size (k0_off1_inb i)) numel1_S1 = te m (i 0) := by
  unfold te
  refine congrArg (tbl m 0 : IVec S56 32) (funext fun (a : Fin 1) => ?_)
  obtain rfl : a = 0 := Subsingleton.elim _ _
  refine Fin.ext ?_
  have h56 : (i 0).val < 56 := (i 0).isLt
  have e : (Scalar.indexCast (BitVec.ofNat 32 (i 0).val) : Index).toNat = (i 0).val := WordCmp.toNat_ofNat_of_lt (by omega)
  show (Scalar.indexCast (BitVec.ofNat 32 (i 0).val) : Index).toNat + 0 * 1 = (i 0).val
  omega

theorem at_nu : (tbl m).at 1 (Rect.unit (s := S1) ![0] S1.size inb_S1_S1_0) numel1_S1 = nu m := rfl

theorem map0 (i : grid0.Coords) : cc0_transform_0 inb_S1_S1_0 numel1_S1 (tbl m) i = ![(rowW (i 0).val (nu m)).toNat, 0] := rfl

theorem map1 (i : grid0.Coords) : cc0_transform_1 k0_off1_inb numel1_S1 inb_S1_S1_0 (tbl m) i
    = ![(te m (i 0)).toNat, 0, (halfW (rowW (i 0).val (nu m)) (stepW (i 0).val (i 1).val (nu m))).toNat] := by
  rw [← at_te]; rfl

theorem map2 (i : grid0.Coords) : cc0_transform_2 k0_off1_inb numel1_S1 inb_S1_S1_0 (tbl m) i
    = ![(te m (i 0)).toNat, 0, (halfW (rowW (i 0).val (nu m)) (stepW (i 0).val (i 1).val (nu m))).toNat] := by
  rw [← at_te]; rfl

theorem map3 (i : grid0.Coords) : cc0_transform_3 k0_off1_inb numel1_S1 inb_S1_S1_0 (tbl m) i
    = ![(te m (i 0)).toNat, (halfW (rowW (i 0).val (nu m)) (stepW (i 0).val (i 1).val (nu m))).toNat, 0] := by
  rw [← at_te]; rfl

/-- A half is the first or the second. -/
theorem half_lt (i : grid0.Coords) : (halfW (rowW (i 0).val (nu m)) (stepW (i 0).val (i 1).val (nu m))).toNat < 2 := by
  obtain ⟨k, hk, ek⟩ := rowW_le (i := (i 0).val) (i 0).isLt (nu m)
  obtain ⟨s, hs, es⟩ := stepW_lt (i := (i 0).val) (i 1).isLt (nu m)
  have h56 : (i 0).val < 56 := (i 0).isLt
  rw [ek, es, halfW_eq k (by omega) s hs, BitVec.toNat_ofNat]
  split <;> omega

/-- Tables whose first gives experts' numbers are admissible. -/
theorem ok_of (h : ∀ i, (te m i).toNat < 8) : Ok m := by
  have row (i : grid0.Coords) : (rowW (i 0).val (nu m)).toNat < 56 := by
    obtain ⟨k, hk, ek⟩ := rowW_le (i := (i 0).val) (i 0).isLt (nu m)
    have h56 : (i 0).val < 56 := (i 0).isLt
    rw [ek, BitVec.toNat_ofNat]
    omega
  refine ⟨fun i => ?_, fun i => ?_, fun i => ?_, fun i => ?_⟩
  · rw [map0]
    have := row i
    exact ⟨fun a => by fin_cases a <;> simp [S768x1024, S43008x1024] <;> omega,
      .inr (Affine.block_words_dvd (s := S43008x1024) (p := EltTy.packing .bf16) (by decide) (by decide))⟩
  · rw [map1]
    have := half_lt m i
    have := h (i 0)
    exact ⟨fun a => by fin_cases a <;> simp [S1x1024x1792, S8x1024x3584] <;> omega, .inl rfl⟩
  · rw [map2]
    have := half_lt m i
    have := h (i 0)
    exact ⟨fun a => by fin_cases a <;> simp [S1x1024x1792, S8x1024x3584] <;> omega, .inl rfl⟩
  · rw [map3]
    have := half_lt m i
    have := h (i 0)
    exact ⟨fun a => by fin_cases a <;> simp [S1x1792x1024, S8x3584x1024] <;> omega, .inl rfl⟩

/-- The stated precondition, read: every entry is from 0 to 7. -/
theorem te_lt [Cert.Pre_names_an_expert.Facts] {a0 : FVec F S43008x1024 .bf16} {a1 : IVec S56 32} {a2 : IVec S1 32} {a3 a4 : FVec F S8x1024x3584 .f32}
    {a5 : FVec F S8x3584x1024 .f32} (h : Cert.Pre_names_an_expert.fn (F := F) a0 a1 a2 a3 a4 a5 = (fun _ => 1#1)) (i : S56.Idx) :
    (a1 i).toNat < 8 := by
  have e := congrFun h (Shape.Idx.first (by decide))
  dsimp only [Cert.Pre_names_an_expert.fn] at e
  have : Subsingleton Cert.Pre_names_an_expert.S_.Idx := ⟨fun x y => funext fun a => a.elim0⟩
  have e := Host.reduce_andi_all _ _ _ _ _ e i
  have ⟨e1, e2⟩ := IntOp.andi_eq_one.1 e
  have e1 : (0 : ℤ) ≤ (a1 i).toInt := IntOp.cmpi_sge.1 e1
  have e2 : (a1 i).toInt < 8 := IntOp.cmpi_slt.1 e2
  have := BitVec.toInt_eq_toNat_cond (a1 i)
  split at this <;> omega

end Cert.KernelIdeal.Moe

end
-- ==== Proof.Moe.Claims.lean ====
/-
  The two frame claims of the experts' kernel, from the frame at any element values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_names_an_expert
public import proofs.«01_k».proof.Proof.Moe.Frame
public import proofs.«01_k».proof.Proof.Moe.Tables

@[expose] public section

set_option maxRecDepth 16384

noncomputable section

namespace Cert.KernelIdeal.Moe

open Idealize.ShloMosaic Idealize.ShloMosaic.TcCoe Idealize.SL.Sem

/-- The kernel over the extended reals, from a table of experts' numbers. -/
theorem ideal_frame : Cert.quiescent_KernelIdeal (hKernelIdeal := Gen.facts) (hPre_names_an_expert := Cert.Pre_names_an_expert.Gen.facts) :=
  fun m ρ h => frame m ρ (ok_of m fun i => te_lt (h 0) (ix1 i))

/-- The two printed texts of the kernel, over words and over the extended reals, are one text at any element values: so
    the frame proved of the second is the frame of the first. -/
theorem word_frame_of (m : (ℓ : Loc Cert.Kernel.nD Cert.Kernel.τ Cert.Kernel.sig) → Buf (Elt Bits) ℓ) (ρ : Dev Cert.Kernel.nD → PrngReg)
    (Q : PUnit × MemSt Cert.Kernel.nD Cert.Kernel.τ Cert.Kernel.sig (Elt Bits) → Prop) :
    (θ_run (Cert.Kernel.defs (F := Bits)) (onTc (τ := Cert.Kernel.τ) (Cert.Kernel.main (F := Bits))) ⟨m, fun _ => 0, ρ⟩ Q : Prop)
      = (θ_run (defs (F := Bits)) (onTc (τ := τ) (main (F := Bits))) ⟨m, fun _ => 0, ρ⟩ Q : Prop) := by sl_kernel_rfl

/-- The kernel over words: the same program text. -/
theorem word_frame : Cert.quiescent_Kernel (hKernel := Cert.Kernel.Gen.facts) (hPre_names_an_expert := Cert.Pre_names_an_expert.Gen.facts) :=
  fun m ρ h => (word_frame_of m ρ _).mpr (frame (F := Bits) m ρ (ok_of (F := Bits) m fun i => te_lt (h 0) (ix1 i)))

end Cert.KernelIdeal.Moe

end
-- ==== Proof.Sums.lean ====
/-
  Sums over the extended reals that the kernels' proofs share.
-/
module

public import Idealize.ShloMosaic.PureOps.Ideal
public import Mathlib.Logic.Equiv.Fin.Basic

@[expose] public section

noncomputable section

namespace Cert.Sums

open Idealize.ShloMosaic

/-- The gate `g` through its logistic, times `u`. -/
def gated (g u : EReal) : EReal := g * Ideal.div 1 (1 + Ideal.exp (0 - g)) * u

/-- A row `x` of 1024 channels normalised by its root mean square, weighted by `nw`, scaled by `1 + sc` and shifted by `sh`. -/
def normed (x nw sh sc : Fin 1024 → EReal) (j : Fin 1024) : EReal :=
  x j * Ideal.rsqrt (Ideal.div (∑ k, x k * x k) (Ideal.ofBits .f32 1149239296#32) + Ideal.ofBits .f32 897988541#32) * nw j * (1 + sc j) + sh j

/-- The gated product of a row `h`, at output column `q`: hidden column `k` contributes its gate times its value times the
    last weights' row `k`. -/
def hiddenAt {n : ℕ} (h : Fin 1024 → EReal) (w1 w3 : Fin 1024 → Fin n → EReal) (w2 : Fin n → Fin 1024 → EReal) (q : Fin 1024) (k : Fin n) : EReal :=
  gated (∑ j, h j * w1 j k) (∑ j, h j * w3 j k) * w2 k q

/-- The feed-forward part of a row: the row, plus `g` times the gated product of the normalised row. -/
def ffnRow (x nw sh sc g : Fin 1024 → EReal) (w1 w3 : Fin 1024 → Fin 2816 → EReal) (w2 : Fin 2816 → Fin 1024 → EReal) (q : Fin 1024) : EReal :=
  x q + g q * ∑ k, hiddenAt (normed x nw sh sc) w1 w3 w2 q k

/-- A sum over `a * b` indices, in `a` runs of `b`. -/
theorem sum_runs (a b n : ℕ) (h : a * b = n) (f : Fin n → EReal) :
    ∑ k, f k = ∑ i : Fin a, ∑ k : Fin b, f ⟨b * i.val + k.val, by
      have h1 := Nat.mul_le_mul_left b (Nat.succ_le_of_lt i.isLt)
      have h2 := k.isLt
      rw [Nat.mul_succ, Nat.mul_comm b a, h] at h1
      omega⟩ := by
  subst h
  rw [← Fintype.sum_prod_type' (f := fun (i : Fin a) (k : Fin b) => f _)]
  refine (Fintype.sum_equiv finProdFinEquiv _ _ fun x => ?_).symm
  refine congrArg f (Fin.ext ?_)
  show b * x.1.val + x.2.val = x.2.val + b * x.1.val
  omega

end Cert.Sums

end
-- ==== Proof.Moe.Algebra.lean ====
/-
  The experts' kernel over the extended reals, step by step: what one chunk of 256 hidden columns adds to the
  accumulator, and what a step's seven chunks add to it.
-/
module

public import proofs.«01_k».proof.Proof.Moe.Reads
public import Idealize.ShloMosaic.Lib.Pointwise
public import Idealize.ShloMosaic.PureOps.Ideal
public import proofs.«01_k».proof.Proof.Sums

@[expose] public section

set_option maxRecDepth 16384

noncomputable section

namespace Cert.KernelIdeal.Moe

open Cert.KernelIdeal.Gen Cert.Sums
open Idealize.ShloMosaic
open Idealize.SL.Sem

/-- One chunk: the accumulator, plus the chunk's gated products with the rows of the last weights. -/
theorem pay5_apply (x0 : Vec Ideal S768x1024 .bf16) (a b : Vec Ideal S1x1024x256 .f32) (acc : Vec Ideal S768x1024 .f32)
    (d : Vec Ideal S1x256x1024 .f32) (r : Fin 768) (q : Fin 1024) :
    k0_pay5 (F := Ideal) x0 a b acc d (ix2 r q) = acc (ix2 r q)
      + ∑ k : Fin 256, gated (∑ j : Fin 1024, x0 (ix2 r j) * a (ix3 0 j k)) (∑ j : Fin 1024, x0 (ix2 r j) * b (ix3 0 j k)) * d (ix3 0 k q) := by
  unfold k0_pay5
  pointwise
  rfl

theorem pay4_apply (i : S768x1024.Idx) : k0_pay4 (F := Ideal) i = 0 := by
  unfold k0_pay4
  pointwise

theorem pay3_apply (i : S768x1024.Idx) : k0_pay3 (F := Ideal) i = 0 := by
  unfold k0_pay3
  pointwise

theorem pay2_apply (x : Vec Ideal S768x1024 .f32) (r : Fin 768) (q : Fin 1024) : k0_pay2 (F := Ideal) x (ix2 r q) = x (ix2 r q) := by
  unfold k0_pay2
  pointwise

/-- A chunk of the hidden columns, and of the last weights' rows, at an index. -/
theorem colsAt_apply (x : Vec Ideal S1x1024x1792 .f32) (o : ℕ) (h) (j : Fin 1024) (k : Fin 256) (hk : o + k.val < 1792) :
    colsAt x o h (ix3 0 j k) = x (ix3 0 j ⟨o + k.val, hk⟩) := by
  refine congrArg x (funext fun a => Fin.ext ?_)
  match a with
  | ⟨0, _⟩ => rfl
  | ⟨1, _⟩ => show 0 + 1 * j.val = j.val; omega
  | ⟨2, _⟩ => show o + 1 * k.val = o + k.val; omega

theorem rowsAt_apply (x : Vec Ideal S1x1792x1024 .f32) (o : ℕ) (h) (k : Fin 256) (q : Fin 1024) (hk : o + k.val < 1792) :
    rowsAt x o h (ix3 0 k q) = x (ix3 0 ⟨o + k.val, hk⟩ q) := by
  refine congrArg x (funext fun a => Fin.ext ?_)
  match a with
  | ⟨0, _⟩ => rfl
  | ⟨1, _⟩ => show o + 1 * k.val = o + k.val; omega
  | ⟨2, _⟩ => show 0 + 1 * q.val = q.val; omega

/-- What hidden column `k` of a step's blocks contributes to the result's row `r` and column `q`. -/
def part (x0 : Vec Ideal S768x1024 .bf16) (x1 x2 : Vec Ideal S1x1024x1792 .f32) (x3 : Vec Ideal S1x1792x1024 .f32)
    (r : Fin 768) (q : Fin 1024) (k : Fin 1792) : EReal :=
  gated (∑ j : Fin 1024, x0 (ix2 r j) * x1 (ix3 0 j k)) (∑ j : Fin 1024, x0 (ix2 r j) * x2 (ix3 0 j k)) * x3 (ix3 0 k q)

/-- One chunk of a step. -/
theorem chunk_apply (x0 : Vec Ideal S768x1024 .bf16) (x1 x2 : Vec Ideal S1x1024x1792 .f32) (x3 : Vec Ideal S1x1792x1024 .f32)
    (acc : Vec Ideal S768x1024 .f32) (r : Fin 768) (q : Fin 1024) (o : ℕ) (ho : o + 256 ≤ 1792) (h1) (h2) (h3) :
    k0_pay5 (F := Ideal) x0 (colsAt x1 o h1) (colsAt x2 o h2) acc (rowsAt x3 o h3) (ix2 r q)
      = acc (ix2 r q) + ∑ k : Fin 256, part x0 x1 x2 x3 r q ⟨o + k.val, by omega⟩ := by
  rw [pay5_apply]
  refine congrArg _ (Finset.sum_congr rfl fun k _ => ?_)
  have hk : o + k.val < 1792 := by omega
  unfold part
  rw [rowsAt_apply x3 o h3 k q hk]
  simp only [colsAt_apply x1 o h1 _ k hk, colsAt_apply x2 o h2 _ k hk]

/-- A step adds the contributions of all its hidden columns. -/
theorem step_apply (x0 : Vec Ideal S768x1024 .bf16) (x1 x2 : Vec Ideal S1x1024x1792 .f32) (x3 : Vec Ideal S1x1792x1024 .f32)
    (acc : Vec Ideal S768x1024 .f32) (r : Fin 768) (q : Fin 1024) :
    step (F := Ideal) x0 x1 x2 x3 acc (ix2 r q) = acc (ix2 r q) + ∑ k, part x0 x1 x2 x3 r q k := by
  unfold step
  rw [chunk_apply x0 x1 x2 x3 _ r q 1536 (by decide), chunk_apply x0 x1 x2 x3 _ r q 1280 (by decide),
    chunk_apply x0 x1 x2 x3 _ r q 1024 (by decide), chunk_apply x0 x1 x2 x3 _ r q 768 (by decide),
    chunk_apply x0 x1 x2 x3 _ r q 512 (by decide), chunk_apply x0 x1 x2 x3 _ r q 256 (by decide),
    chunk_apply x0 x1 x2 x3 _ r q 0 (by decide), sum_runs 7 256 1792 (by decide), Fin.sum_univ_seven]
  simp only [add_assoc]
  rfl

end Cert.KernelIdeal.Moe

end
-- ==== Proof.Moe.Blocks.lean ====
/-
  The experts' blocks at coordinates: at a tile in use, each operand's block is the tile's rows of the activations, or a
  half of the hidden columns of the tile's expert's weights.
-/
module

public import proofs.«01_k».proof.Proof.Moe.Frame
public import proofs.«01_k».proof.Proof.Moe.Tables
public import Idealize.ShloMosaic.Lib.Pipeline.ValueKit.Geometry

@[expose] public section

set_option maxRecDepth 16384

noncomputable section

namespace Cert.KernelIdeal.Moe

open Cert.KernelIdeal.Gen
open Idealize.ShloMosaic Idealize.ShloMosaic.TcCoe
open Idealize.SL.Sem

variable {F : FTy → Type} [FloatOps F]
variable (m : (ℓ : Loc nD τ sig) → Buf (Elt F) ℓ)

/-- The tile and the half of the hidden columns at point `t`. -/
def tileAt (t : Fin grid0.N) : Fin 56 := grid0.coords t 0
def halfAt (t : Fin grid0.N) : Fin 2 := ⟨if t.val / 2 % 2 = 0 then t.val % 2 else 1 - t.val % 2, by split <;> omega⟩

theorem tileAt_val (t : Fin grid0.N) : (tileAt t).val = t.val / 2 := coords0 t

/-- At a used tile the words the index maps compute are its number and its half. -/
theorem row_at (t : Fin grid0.N) (hu : used m (t.val / 2)) : (rowW (grid0.coords t 0).val (nu m)).toNat = t.val / 2 := by
  have ht : t.val < 112 := Nat.lt_of_lt_of_eq t.isLt N_0
  rw [coords0, rowW_used (by omega) hu, BitVec.toNat_ofNat]
  omega

theorem half_at (t : Fin grid0.N) (hu : used m (t.val / 2)) :
    (halfW (rowW (grid0.coords t 0).val (nu m)) (stepW (grid0.coords t 0).val (grid0.coords t 1).val (nu m))).toNat = (halfAt t).val := by
  have ht : t.val < 112 := Nat.lt_of_lt_of_eq t.isLt N_0
  rw [coords0, coords1, rowW_used (by omega) hu, stepW_used (by omega) hu, halfW_eq _ (by omega) _ (by omega), BitVec.toNat_ofNat]
  unfold halfAt
  dsimp only
  split <;> omega

/-- The activations' block. -/
theorem block0 (hO : Ok m) (c : Dev nD) (t : Fin grid0.N) (hu : used m (t.val / 2)) (r : Fin 768) (j : Fin 1024) :
    (iblk m hO c 0 t : Vec F S768x1024 .bf16) (ix2 r j) = (V m c main_arg0 : Vec F S43008x1024 .bf16)
      (ix2 ⟨768 * (tileAt t).val + r.val, by have := (tileAt t).isLt; omega⟩ j) := by
  refine congrArg (V m c main_arg0 : Vec F S43008x1024 .bf16) (funext fun a => Fin.ext ?_)
  have e : cc0_transform_0 inb_S1_S1_0 numel1_S1 (tbl m) (grid0.coords t) = ![t.val / 2, 0] := by rw [map0, row_at m t hu]
  match a with
  | ⟨0, _⟩ =>
    show cc0_transform_0 inb_S1_S1_0 numel1_S1 (tbl m) (grid0.coords t) 0 * 768 + 1 * r.val = 768 * (tileAt t).val + r.val
    rw [e, tileAt_val]
    show t.val / 2 * 768 + 1 * r.val = _
    omega
  | ⟨1, _⟩ =>
    show cc0_transform_0 inb_S1_S1_0 numel1_S1 (tbl m) (grid0.coords t) 1 * 1024 + 1 * j.val = j.val
    rw [e]
    show 0 * 1024 + 1 * j.val = _
    omega

/-- The gate weights' block. -/
theorem block1 (hO : Ok m) (h : ∀ i, (te m i).toNat < 8) (c : Dev nD) (t : Fin grid0.N) (hu : used m (t.val / 2)) (j : Fin 1024) (k : Fin 1792) :
    (iblk m hO c 1 t : Vec F S1x1024x1792 .f32) (ix3 0 j k) = (V m c main_arg3 : Vec F S8x1024x3584 .f32)
      (ix3 ⟨(te m (tileAt t)).toNat, h _⟩ j ⟨1792 * (halfAt t).val + k.val, by have := (halfAt t).isLt; omega⟩) := by
  refine congrArg (V m c main_arg3 : Vec F S8x1024x3584 .f32) (funext fun a => Fin.ext ?_)
  have e : cc0_transform_1 k0_off1_inb numel1_S1 inb_S1_S1_0 (tbl m) (grid0.coords t) = ![(te m (tileAt t)).toNat, 0, (halfAt t).val] := by rw [map1, half_at m t hu]; rfl
  match a with
  | ⟨0, _⟩ =>
    show cc0_transform_1 k0_off1_inb numel1_S1 inb_S1_S1_0 (tbl m) (grid0.coords t) 0 * 1 + 1 * 0 = (te m (tileAt t)).toNat
    rw [e]
    show (te m (tileAt t)).toNat * 1 + 1 * 0 = _
    omega
  | ⟨1, _⟩ =>
    show cc0_transform_1 k0_off1_inb numel1_S1 inb_S1_S1_0 (tbl m) (grid0.coords t) 1 * 1024 + 1 * j.val = j.val
    rw [e]
    show 0 * 1024 + 1 * j.val = _
    omega
  | ⟨2, _⟩ =>
    show cc0_transform_1 k0_off1_inb numel1_S1 inb_S1_S1_0 (tbl m) (grid0.coords t) 2 * 1792 + 1 * k.val = 1792 * (halfAt t).val + k.val
    rw [e]
    show (halfAt t).val * 1792 + 1 * k.val = _
    omega

/-- The up weights' block. -/
theorem block2 (hO : Ok m) (h : ∀ i, (te m i).toNat < 8) (c : Dev nD) (t : Fin grid0.N) (hu : used m (t.val / 2)) (j : Fin 1024) (k : Fin 1792) :
    (iblk m hO c 2 t : Vec F S1x1024x1792 .f32) (ix3 0 j k) = (V m c main_arg4 : Vec F S8x1024x3584 .f32)
      (ix3 ⟨(te m (tileAt t)).toNat, h _⟩ j ⟨1792 * (halfAt t).val + k.val, by have := (halfAt t).isLt; omega⟩) := by
  refine congrArg (V m c main_arg4 : Vec F S8x1024x3584 .f32) (funext fun a => Fin.ext ?_)
  have e : cc0_transform_2 k0_off1_inb numel1_S1 inb_S1_S1_0 (tbl m) (grid0.coords t) = ![(te m (tileAt t)).toNat, 0, (halfAt t).val] := by rw [map2, half_at m t hu]; rfl
  match a with
  | ⟨0, _⟩ =>
    show cc0_transform_2 k0_off1_inb numel1_S1 inb_S1_S1_0 (tbl m) (grid0.coords t) 0 * 1 + 1 * 0 = (te m (tileAt t)).toNat
    rw [e]
    show (te m (tileAt t)).toNat * 1 + 1 * 0 = _
    omega
  | ⟨1, _⟩ =>
    show cc0_transform_2 k0_off1_inb numel1_S1 inb_S1_S1_0 (tbl m) (grid0.coords t) 1 * 1024 + 1 * j.val = j.val
    rw [e]
    show 0 * 1024 + 1 * j.val = _
    omega
  | ⟨2, _⟩ =>
    show cc0_transform_2 k0_off1_inb numel1_S1 inb_S1_S1_0 (tbl m) (grid0.coords t) 2 * 1792 + 1 * k.val = 1792 * (halfAt t).val + k.val
    rw [e]
    show (halfAt t).val * 1792 + 1 * k.val = _
    omega

/-- The down weights' block. -/
theorem block3 (hO : Ok m) (h : ∀ i, (te m i).toNat < 8) (c : Dev nD) (t : Fin grid0.N) (hu : used m (t.val / 2)) (k : Fin 1792) (q : Fin 1024) :
    (iblk m hO c 3 t : Vec F S1x1792x1024 .f32) (ix3 0 k q) = (V m c main_arg5 : Vec F S8x3584x1024 .f32)
      (ix3 ⟨(te m (tileAt t)).toNat, h _⟩ ⟨1792 * (halfAt t).val + k.val, by have := (halfAt t).isLt; omega⟩ q) := by
  refine congrArg (V m c main_arg5 : Vec F S8x3584x1024 .f32) (funext fun a => Fin.ext ?_)
  have e : cc0_transform_3 k0_off1_inb numel1_S1 inb_S1_S1_0 (tbl m) (grid0.coords t) = ![(te m (tileAt t)).toNat, (halfAt t).val, 0] := by rw [map3, half_at m t hu]; rfl
  match a with
  | ⟨0, _⟩ =>
    show cc0_transform_3 k0_off1_inb numel1_S1 inb_S1_S1_0 (tbl m) (grid0.coords t) 0 * 1 + 1 * 0 = (te m (tileAt t)).toNat
    rw [e]
    show (te m (tileAt t)).toNat * 1 + 1 * 0 = _
    omega
  | ⟨1, _⟩ =>
    show cc0_transform_3 k0_off1_inb numel1_S1 inb_S1_S1_0 (tbl m) (grid0.coords t) 1 * 1792 + 1 * k.val = 1792 * (halfAt t).val + k.val
    rw [e]
    show (halfAt t).val * 1792 + 1 * k.val = _
    omega
  | ⟨2, _⟩ =>
    show cc0_transform_3 k0_off1_inb numel1_S1 inb_S1_S1_0 (tbl m) (grid0.coords t) 2 * 1024 + 1 * q.val = q.val
    rw [e]
    show 0 * 1024 + 1 * q.val = _
    omega

end Cert.KernelIdeal.Moe

end
-- ==== Proof.Moe.Value.lean ====
/-
  The experts' result over the extended reals: row `R` and column `q` is the gated product of the activations' row with
  the weights of the expert of `R`'s tile, summed over all 3584 hidden columns, or zero at a tile not in use.
-/
module

public import proofs.«01_k».proof.Proof.Moe.Algebra
public import proofs.«01_k».proof.Proof.Moe.Blocks

@[expose] public section

set_option maxRecDepth 16384

noncomputable section

namespace Cert.KernelIdeal.Moe

open Cert.KernelIdeal.Gen Cert.Sums
open Idealize.ShloMosaic Idealize.ShloMosaic.TcCoe
open Idealize.SL.Sem

/-- What hidden column `k` of expert `e` contributes to row `R` and column `q`, and the expert's whole product. -/
def hidden (x : Vec Ideal S43008x1024 .bf16) (w1 w3 : Vec Ideal S8x1024x3584 .f32) (w2 : Vec Ideal S8x3584x1024 .f32)
    (e : Fin 8) (R : Fin 43008) (q : Fin 1024) (k : Fin 3584) : EReal :=
  gated (∑ j : Fin 1024, x (ix2 R j) * w1 (ix3 e j k)) (∑ j : Fin 1024, x (ix2 R j) * w3 (ix3 e j k)) * w2 (ix3 e k q)

def expert (x : Vec Ideal S43008x1024 .bf16) (w1 w3 : Vec Ideal S8x1024x3584 .f32) (w2 : Vec Ideal S8x3584x1024 .f32)
    (e : Fin 8) (R : Fin 43008) (q : Fin 1024) : EReal := ∑ k, hidden x w1 w3 w2 e R q k

variable (m : (ℓ : Loc nD τ sig) → Buf (Elt Ideal) ℓ)

/-- The result at row `R`, column `q`. -/
def resultAt (h : ∀ i, (te m i).toNat < 8) (c : Dev nD) (R : Fin 43008) (q : Fin 1024) : EReal :=
  open Classical in
  if used m (R.val / 768) then
    expert (V m c main_arg0) (V m c main_arg3) (V m c main_arg4) (V m c main_arg5) ⟨(te m ⟨R.val / 768, by omega⟩).toNat, h _⟩ R q
  else 0

def result (h : ∀ i, (te m i).toNat < 8) (c : Dev nD) : Vec Ideal S43008x1024 .bf16 := fun i => resultAt m h c (i 0) (i 1)

/-- Row `r` of tile `i`. -/
abbrev rowOf (i : Fin 56) (r : Fin 768) : Fin 43008 := ⟨768 * i.val + r.val, by omega⟩

/-- A used point's step adds its half of its tile's expert's hidden columns. -/
theorem stepAt_apply (hO : Ok m) (h : ∀ i, (te m i).toNat < 8) (c : Dev nD) (t : Fin grid0.N) (hu : used m (t.val / 2))
    (a : Vec Ideal S768x1024 .f32) (r : Fin 768) (q : Fin 1024) :
    stepAt m hO c t a (ix2 r q) = a (ix2 r q) + ∑ k : Fin 1792,
      hidden (V m c main_arg0) (V m c main_arg3) (V m c main_arg4) (V m c main_arg5) ⟨(te m (tileAt t)).toNat, h _⟩
        (rowOf (tileAt t) r) q ⟨1792 * (halfAt t).val + k.val, by have := (halfAt t).isLt; omega⟩ := by
  refine (step_apply (iblk m hO c 0 t) (iblk m hO c 1 t) (iblk m hO c 2 t) (iblk m hO c 3 t) a r q).trans (congrArg _ (Finset.sum_congr rfl fun k _ => ?_))
  unfold part hidden
  exact congrArg₂ (· * ·) (congrArg₂ gated
    (Finset.sum_congr rfl fun j _ => congrArg₂ (· * ·) (block0 m hO c t hu r j) (block1 m hO h c t hu j k))
    (Finset.sum_congr rfl fun j _ => congrArg₂ (· * ·) (block0 m hO c t hu r j) (block2 m hO h c t hu j k))) (block3 m hO h c t hu k q)

/-- What a used tile's second point leaves: both halves. -/
theorem outAt_used (hO : Ok m) (h : ∀ i, (te m i).toNat < 8) (c : Dev nD) (t : Fin grid0.N) (hu : used m (t.val / 2)) (ho : t.val % 2 = 1)
    (r : Fin 768) (q : Fin 1024) :
    outAt m hO c t (ix2 r q) = expert (V m c main_arg0) (V m c main_arg3) (V m c main_arg4) (V m c main_arg5)
      ⟨(te m (tileAt t)).toNat, h _⟩ (rowOf (tileAt t) r) q := by
  have ht : t.val < 112 := Nat.lt_of_lt_of_eq t.isLt N_0
  let t' : Fin grid0.N := ⟨t.val - 1, Nat.lt_of_le_of_lt (Nat.sub_le _ _) t.isLt⟩
  have e2 : t'.val / 2 = t.val / 2 := by show (t.val - 1) / 2 = _; omega
  have ei : tileAt t' = tileAt t := Fin.ext (by rw [tileAt_val, tileAt_val, e2])
  have eacc : accAt m hO c t.val = stepAt m hO c t' (k0_pay4 (F := Ideal)) := by
    rw [show t.val = t'.val + 1 by show t.val = t.val - 1 + 1; omega]
    exact accAt_succ m hO c t'
  rw [show outAt m hO c t = k0_pay2 (stepAt m hO c t (accAt m hO c t.val)) from if_pos hu, pay2_apply,
    stepAt_apply m hO h c t hu, eacc, stepAt_apply m hO h c t' (by rw [e2]; exact hu), pay4_apply, zero_add, ei]
  unfold expert
  rw [sum_runs 2 1792 3584 (by decide), Fin.sum_univ_two]
  have eh : (halfAt t).val = if t.val / 2 % 2 = 0 then t.val % 2 else 1 - t.val % 2 := rfl
  have eh' : (halfAt t').val = if t'.val / 2 % 2 = 0 then t'.val % 2 else 1 - t'.val % 2 := rfl
  have e1 : t'.val % 2 = 0 := by show (t.val - 1) % 2 = 0; omega
  rw [e2, e1] at eh'
  rw [ho] at eh
  by_cases hp : t.val / 2 % 2 = 0
  · rw [if_pos hp] at eh eh'
    simp only [eh, eh']
    rfl
  · rw [if_neg hp] at eh eh'
    simp only [eh, eh']
    exact add_comm _ _

/-- The array the windows' write-backs leave. -/
theorem arr_result (hO : Ok m) (h : ∀ i, (te m i).toNat < 8) (c : Dev nD) : (dats m hO 0 c).arrAt 4 (cfgM m hO).N = result m h c := by
  have emb (t : Fin grid0.N) (r : Fin 768) (q : Fin 1024) : (((cfgM m hO).win 4).blk t).view.emb (ix2 r q : S768x1024.Idx) = (ix2 (rowOf (tileAt t) r) q : S43008x1024.Idx) := by
    refine funext fun a => Fin.ext ?_
    have ht : t.val < 112 := Nat.lt_of_lt_of_eq t.isLt N_0
    have e : cc0_transform_4 (grid0.coords t) 0 = t.val / 2 := by
      show (BitVec.ofNat 32 (grid0.coords t 0).val).toNat = _
      rw [coords0, BitVec.toNat_ofNat]
      omega
    match a with
    | ⟨0, _⟩ =>
      show cc0_transform_4 (grid0.coords t) 0 * 768 + 1 * r.val = 768 * (tileAt t).val + r.val
      rw [e, tileAt_val]
      omega
    | ⟨1, _⟩ =>
      show 0 * 1024 + 1 * q.val = q.val
      omega
  refine (dats m hO 0 c).arrAt_eq_of_emb 4 (result m h c) (fun t hf (y : S768x1024.Idx) => ?_) fun (i : S43008x1024.Idx) => ?_
  · have ho : t.val % 2 = 1 := (flush4 (adm m hO) t).mp hf
    obtain ⟨r, q, rfl⟩ : ∃ (r : Fin 768) (q : Fin 1024), y = ix2 r q := ⟨y 0, y 1, funext fun a => by match a with | ⟨0, _⟩ => rfl | ⟨1, _⟩ => rfl⟩
    show (dats m hO 0 c).after 4 t (ix2 r q : S768x1024.Idx) = _
    rw [emb t, after4]
    have hr : (rowOf (tileAt t) r).val / 768 = t.val / 2 := by
      show (768 * (tileAt t).val + r.val) / 768 = _
      rw [tileAt_val]
      omega
    have hi : (⟨(rowOf (tileAt t) r).val / 768, by omega⟩ : Fin 56) = tileAt t := Fin.ext (hr.trans (tileAt_val t).symm)
    show outAt m hO c t (ix2 r q) = resultAt m h c (rowOf (tileAt t) r) q
    unfold resultAt
    by_cases hu : used m (t.val / 2)
    · rw [outAt_used m hO h c t hu ho, if_pos (by rw [hr]; exact hu)]
      simp only [hi]
    · rw [if_neg (by rw [hr]; exact hu), show outAt m hO c t = k0_pay3 (F := Ideal) from if_neg hu]
      exact pay3_apply _
  · have h0 : (i 0).val < 43008 := (i 0).isLt
    obtain ⟨t, et⟩ : ∃ t : Fin grid0.N, t.val = (i 0).val / 768 * 2 + 1 := ⟨⟨(i 0).val / 768 * 2 + 1, by rw [show grid0.N = 112 from N_0]; omega⟩, rfl⟩
    refine ⟨t, (flush4 (adm m hO) t).mpr (by omega), ?_⟩
    have e : (((cfgM m hO).win 4).blk t).view.emb (ix2 ⟨(i 0).val % 768, Nat.mod_lt _ (by decide)⟩ (i 1) : S768x1024.Idx) = i := by
      refine (emb t _ _).trans ?_
      refine funext fun a => Fin.ext ?_
      match a with
      | ⟨0, _⟩ =>
        show 768 * (tileAt t).val + (i 0).val % 768 = (i 0).val
        rw [tileAt_val]
        omega
      | ⟨1, _⟩ => rfl
    exact e ▸ (((cfgM m hO).win 4).blk t).view.emb_mem_set _

/-- The run, with the result's array named. -/
theorem run_result (ρ : Dev nD → PrngReg) (hO : Ok m) (h : ∀ i, (te m i).toNat < 8) :
    θ_run defs (onTc (τ := τ) (main (F := Ideal))) ⟨m, fun _ => 0, ρ⟩ (fun r => ∀ c : Dev nD,
      r.2.mem ((c.tc : Thread nD τ).loc main_v0) = result m h c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ r c => ⟨((r.1 c).1 4).trans (arr_result m hO h c),
      ((r.1 c).1 0).trans ((dats m hO 0 c).arrAt_in 0 rfl _),
      (r.1 c).2 main_arg1 (by decide : main_arg1 ∈ Pipeline.restRefs sig spec0),
      (r.1 c).2 main_arg2 (by decide : main_arg2 ∈ Pipeline.restRefs sig spec0),
      ((r.1 c).1 1).trans ((dats m hO 0 c).arrAt_in 1 rfl _),
      ((r.1 c).1 2).trans ((dats m hO 0 c).arrAt_in 2 rfl _),
      ((r.1 c).1 3).trans ((dats m hO 0 c).arrAt_in 3 rfl _)⟩) (run_main m ρ hO)

end Cert.KernelIdeal.Moe

end
-- ==== Proof.Moe.Reference.lean ====
/-
  The reference over the extended reals: at each row, the gated products of all eight experts, each times one where the
  row's tile is its own and zero elsewhere.
-/
module

public import proofs.«01_k».proof.Proof.Gen.ReferenceIdeal.Run
public import Idealize.ShloMosaic.Lib.Pointwise
public import Idealize.ShloMosaic.PureOps.Ideal
public import Idealize.ShloMosaic.Lib.WordCmp
public import Idealize.ShloMosaic.Lib.Affine

@[expose] public section

set_option maxRecDepth 16384

noncomputable section

namespace Cert.ReferenceIdeal.Moe

open Cert.ReferenceIdeal.Gen Cert.ReferenceIdeal.Value
open Idealize.ShloMosaic Idealize.ShloMosaic.TcCoe
open Idealize.SL.Sem Idealize.ShloMosaic.StableHlo

/-- Expert `e`'s gated product of the rows `x`, at the rows whose tag is `e`. -/
def term (tag : IVec S43008 32) (x : FVec Ideal S43008x1024 .f32) (w1 w3 : FVec Ideal S8x1024x3584 .f32) (w2 : FVec Ideal S8x3584x1024 .f32)
    (e : ℕ) (h1 : S8x1024x3584.Slices ![e, 0, 0] S1x1024x3584) (h2 : S8x3584x1024.Slices ![e, 0, 0] S1x3584x1024) : FVec Ideal S43008x1024 .f32 :=
  let g := Host.dotGeneral dot_S43008x1024_S1024x3584_S43008x3584_1_0_0_1_n_n none x (shapeCast _ (extractStridedSlice S1x1024x3584 ![e, 0, 0] w1 h1) shapeCasts_S1x1024x3584_S1024x3584)
  mulf (broadcastInDim S43008x1024 ![0, 1] bcast_S43008x1_S43008x1024_0_1 (broadcastInDim S43008x1 ![0] bcast_S43008_S43008x1_0 (uitofp .f32 (cmpi .eq tag (broadcastInDim S43008 ![] bcast_S_S43008 (constantI S_ 32 (BitVec.ofNat 32 e)))))))
    (Host.dotGeneral dot_S43008x3584_S3584x1024_S43008x1024_1_0_0_1_n_n none
      (mulf (mulf g (Host.divf (broadcastInDim S43008x3584 ![] bcast_S_S43008x3584 (constant S_ .f32 0x3F800000#32)) (addf (broadcastInDim S43008x3584 ![] bcast_S_S43008x3584 (constant S_ .f32 0x3F800000#32)) (Host.exp (Host.negf g)))))
        (Host.dotGeneral dot_S43008x1024_S1024x3584_S43008x3584_1_0_0_1_n_n none x (shapeCast _ (extractStridedSlice S1x1024x3584 ![e, 0, 0] w3 h1) shapeCasts_S1x1024x3584_S1024x3584)))
      (shapeCast _ (extractStridedSlice S1x3584x1024 ![e, 0, 0] w2 h2) shapeCasts_S1x3584x1024_S3584x1024))

/-- The reference's sum over the experts. -/
theorem sum_terms (V0 : Valuation τ sig (Elt Ideal)) :
    res_main_v152 V0 =
      let T := term (res_main_v7 V0) (res_main_v0 V0) (V0 (Proc.devRef .tc main_arg3)) (V0 (Proc.devRef .tc main_arg4)) (V0 (Proc.devRef .tc main_arg5))
      addf (addf (addf (addf (addf (addf (addf (addf (broadcastInDim S43008x1024 ![] bcast_S_S43008x1024 (constant S_ .f32 0x00000000#32))
        (T 0 slices_S8x1024x3584_S1x1024x3584_0_0_0 slices_S8x3584x1024_S1x3584x1024_0_0_0))
        (T 1 slices_S8x1024x3584_S1x1024x3584_1_0_0 slices_S8x3584x1024_S1x3584x1024_1_0_0))
        (T 2 slices_S8x1024x3584_S1x1024x3584_2_0_0 slices_S8x3584x1024_S1x3584x1024_2_0_0))
        (T 3 slices_S8x1024x3584_S1x1024x3584_3_0_0 slices_S8x3584x1024_S1x3584x1024_3_0_0))
        (T 4 slices_S8x1024x3584_S1x1024x3584_4_0_0 slices_S8x3584x1024_S1x3584x1024_4_0_0))
        (T 5 slices_S8x1024x3584_S1x1024x3584_5_0_0 slices_S8x3584x1024_S1x3584x1024_5_0_0))
        (T 6 slices_S8x1024x3584_S1x1024x3584_6_0_0 slices_S8x3584x1024_S1x3584x1024_6_0_0))
        (T 7 slices_S8x1024x3584_S1x1024x3584_7_0_0 slices_S8x3584x1024_S1x3584x1024_7_0_0) := by
  unfold res_main_v152 res_main_v80
  rfl

/-- Expert `e`'s gated product at row `R`, column `q`. -/
def own (x : FVec Ideal S43008x1024 .f32) (w1 w3 : FVec Ideal S8x1024x3584 .f32) (w2 : FVec Ideal S8x3584x1024 .f32)
    (R : Fin 43008) (q : Fin 1024) (e : Fin 8) : EReal :=
  ∑ k : Fin 3584, (∑ j : Fin 1024, x (ix2 R j) * w1 (ix3 e j k)) * Ideal.div 1 (1 + Ideal.exp (-∑ j : Fin 1024, x (ix2 R j) * w1 (ix3 e j k)))
    * (∑ j : Fin 1024, x (ix2 R j) * w3 (ix3 e j k)) * w2 (ix3 e k q)

/-- A row's term: its expert's product where the tags agree, else zero. -/
theorem term_apply (tag : IVec S43008 32) (x : FVec Ideal S43008x1024 .f32) (w1 w3 : FVec Ideal S8x1024x3584 .f32) (w2 : FVec Ideal S8x3584x1024 .f32)
    (e : ℕ) (h1 : S8x1024x3584.Slices ![e, 0, 0] S1x1024x3584) (h2 : S8x3584x1024.Slices ![e, 0, 0] S1x3584x1024) (he : e < 8) (R : Fin 43008) (q : Fin 1024) :
    term tag x w1 w3 w2 e h1 h2 (ix2 R q) = if (tag (ix1 R)).toNat = e then own x w1 w3 w2 R q ⟨e, he⟩ else 0 := by
  have gate : (FloatOps.uitofp (F := Ideal) .f32 (IntOp.cmpi .eq (tag (ix1 R)) (BitVec.ofNat 32 e)) : EReal) = if (tag (ix1 R)).toNat = e then 1 else 0 := by
    have heq : (tag (ix1 R)).toNat = e ↔ tag (ix1 R) = BitVec.ofNat 32 e := by
      rw [← BitVec.toNat_inj, BitVec.toNat_ofNat]
      omega
    show (((IntOp.cmpi .eq (tag (ix1 R)) (BitVec.ofNat 32 e)).toNat : ℝ) : EReal) = _
    by_cases h : tag (ix1 R) = BitVec.ofNat 32 e
    · rw [if_pos (heq.mpr h), h]
      simp [IntOp.cmpi]
    · rw [if_neg (mt heq.mp h)]
      simp [IntOp.cmpi, h]
  unfold term
  pointwise
  rw [gate]
  split
  · exact one_mul _
  · exact zero_mul _

/-- The expert of a row's tile, or 8 at a tile not in use. -/
theorem tag_apply (V0 : Valuation τ sig (Elt Ideal)) (R : Fin 43008) :
    res_main_v7 V0 (ix1 R) = if ((R.val / 768 : ℕ) : ℤ) < ((V0 (Proc.devRef .tc main_arg2) : IVec S1 32) (ix1 0)).toInt
      then (V0 (Proc.devRef .tc main_arg1) : IVec S56 32) (ix1 ⟨R.val / 768, by omega⟩) else 8#32 := by
  unfold res_main_v7
  pointwise
  show Scalar.select _ _ 8#32 = _
  unfold Scalar.select
  refine if_congr ?_ rfl rfl
  show IntOp.cmpi .slt _ _ = 1#1 ↔ _
  rw [IntOp.cmpi_slt, WordCmp.toInt_ofNat_of_lt (w := 32) (by omega)]

/-- The reference's result at row `R`, column `q`: its tile's expert's product, or zero at a tile not in use. -/
theorem result_apply (V0 : Valuation τ sig (Elt Ideal)) (h8 : ∀ i, ((V0 (Proc.devRef .tc main_arg1) : IVec S56 32) i).toNat < 8) (R : Fin 43008) (q : Fin 1024) :
    res_main_v152 V0 (ix2 R q) = if ((R.val / 768 : ℕ) : ℤ) < ((V0 (Proc.devRef .tc main_arg2) : IVec S1 32) (ix1 0)).toInt
      then own (V0 (Proc.devRef .tc main_arg0)) (V0 (Proc.devRef .tc main_arg3)) (V0 (Proc.devRef .tc main_arg4)) (V0 (Proc.devRef .tc main_arg5)) R q
        ⟨((V0 (Proc.devRef .tc main_arg1) : IVec S56 32) (ix1 ⟨R.val / 768, by omega⟩)).toNat, h8 _⟩ else 0 := by
  have key (tag : IVec S43008 32) (E : Fin 8 → EReal) : (∑ e : Fin 8, if (tag (ix1 R)).toNat = e.val then E e else 0)
      = if h : (tag (ix1 R)).toNat < 8 then E ⟨_, h⟩ else 0 := by
    split
    · rename_i h
      rw [Finset.sum_eq_single (⟨_, h⟩ : Fin 8)]
      · exact if_pos rfl
      · exact fun e _ hne => if_neg fun hh => hne (Fin.ext hh.symm)
      · exact fun hn => absurd (Finset.mem_univ _) hn
    · rename_i h
      exact Finset.sum_eq_zero fun e _ => if_neg (by omega)
  rw [sum_terms]
  dsimp only
  pointwise
  simp only [term_apply _ _ _ _ _ 0 _ _ (by decide), term_apply _ _ _ _ _ 1 _ _ (by decide), term_apply _ _ _ _ _ 2 _ _ (by decide),
    term_apply _ _ _ _ _ 3 _ _ (by decide), term_apply _ _ _ _ _ 4 _ _ (by decide), term_apply _ _ _ _ _ 5 _ _ (by decide),
    term_apply _ _ _ _ _ 6 _ _ (by decide), term_apply _ _ _ _ _ 7 _ _ (by decide)]
  have e := key (res_main_v7 V0) (own (res_main_v0 V0) (V0 (Proc.devRef .tc main_arg3)) (V0 (Proc.devRef .tc main_arg4)) (V0 (Proc.devRef .tc main_arg5)) R q)
  rw [Fin.sum_univ_eight] at e
  refine Eq.trans ?_ (e.trans ?_)
  · rfl
  · simp only [tag_apply]
    by_cases hu : ((R.val / 768 : ℕ) : ℤ) < ((V0 (Proc.devRef .tc main_arg2) : IVec S1 32) (ix1 0)).toInt
    · simp only [if_pos hu]
      exact dif_pos (h8 _)
    · simp only [if_neg hu]
      exact dif_neg (by decide)

end Cert.ReferenceIdeal.Moe

end
-- ==== Proof.Moe.Equal.lean ====
/-
  The reference's frame, and the claim that over the extended reals the experts' kernel and the reference end with equal
  results.
-/
module

public import proofs.«01_k».proof.Proof.Moe.Claims
public import proofs.«01_k».proof.Proof.Moe.Value
public import proofs.«01_k».proof.Proof.Moe.Reference

@[expose] public section

set_option maxRecDepth 16384

noncomputable section

namespace Cert.KernelIdeal.Moe

open Cert.Sums
open Idealize.ShloMosaic Idealize.ShloMosaic.TcCoe Idealize.SL.Sem

/-- The reference over the extended reals: its run, its signature having no counters. -/
theorem reference_frame : Cert.quiescent_ReferenceIdeal (hReferenceIdeal := Cert.ReferenceIdeal.Gen.facts) (hPre_names_an_expert := Cert.Pre_names_an_expert.Gen.facts) :=
  fun m ρ _ => (θ_run Cert.ReferenceIdeal.defs _ _).mono (fun r h => ⟨fun c => (h c).2, sem_eq_zero_of_no_sems (by decide) r.2⟩)
    (Cert.ReferenceIdeal.Value.run m ρ)

/-- One expert's product, in the kernel's words and in the reference's. -/
theorem own_eq (x : FVec Ideal S43008x1024 .bf16) (w1 w3 : FVec Ideal S8x1024x3584 .f32) (w2 : FVec Ideal S8x3584x1024 .f32) (R : Fin 43008) (q : Fin 1024) (e : Fin 8) :
    Cert.ReferenceIdeal.Moe.own x w1 w3 w2 R q e = expert x w1 w3 w2 e R q := by
  unfold Cert.ReferenceIdeal.Moe.own expert hidden gated
  simp only [zero_sub]

theorem expert_congr {x x' : Vec Ideal S43008x1024 .bf16} {w1 w1' w3 w3' : Vec Ideal S8x1024x3584 .f32} {w2 w2' : Vec Ideal S8x3584x1024 .f32} {e e' : Fin 8}
    (hx : x = x') (h1 : w1 = w1') (h3 : w3 = w3') (h2 : w2 = w2') (he : e = e') (R : Fin 43008) (q : Fin 1024) :
    expert x w1 w3 w2 e R q = expert x' w1' w3' w2' e' R q := by
  subst hx h1 h3 h2 he
  rfl

/-- From memories that agree on the arguments, the two results agree. -/
theorem result_eq (m : (ℓ : Loc nD τ sig) → Buf (Elt Ideal) ℓ) (m' : (ℓ : Loc Cert.ReferenceIdeal.nD Cert.ReferenceIdeal.τ Cert.ReferenceIdeal.sig) → Buf (Elt Ideal) ℓ)
    (h : ∀ i, (te m i).toNat < 8) (c : Dev nD)
    (e0 : m' ((c.tc : Thread Cert.ReferenceIdeal.nD Cert.ReferenceIdeal.τ).loc Cert.ReferenceIdeal.main_arg0) = m ((c.tc : Thread nD τ).loc main_arg0))
    (e1 : m' ((c.tc : Thread Cert.ReferenceIdeal.nD Cert.ReferenceIdeal.τ).loc Cert.ReferenceIdeal.main_arg1) = m ((c.tc : Thread nD τ).loc main_arg1))
    (e2 : m' ((c.tc : Thread Cert.ReferenceIdeal.nD Cert.ReferenceIdeal.τ).loc Cert.ReferenceIdeal.main_arg2) = m ((c.tc : Thread nD τ).loc main_arg2))
    (e3 : m' ((c.tc : Thread Cert.ReferenceIdeal.nD Cert.ReferenceIdeal.τ).loc Cert.ReferenceIdeal.main_arg3) = m ((c.tc : Thread nD τ).loc main_arg3))
    (e4 : m' ((c.tc : Thread Cert.ReferenceIdeal.nD Cert.ReferenceIdeal.τ).loc Cert.ReferenceIdeal.main_arg4) = m ((c.tc : Thread nD τ).loc main_arg4))
    (e5 : m' ((c.tc : Thread Cert.ReferenceIdeal.nD Cert.ReferenceIdeal.τ).loc Cert.ReferenceIdeal.main_arg5) = m ((c.tc : Thread nD τ).loc main_arg5)) :
    (Cert.ReferenceIdeal.Value.res_main_v152 (StableHlo.launchContents m' c) : Vec Ideal S43008x1024 .bf16) = result m h c := by
  obtain rfl : c = 0 := Subsingleton.elim _ _
  have ei (i : S56.Idx) : i = ix1 (i 0) := funext fun a => by match a with | ⟨0, _⟩ => rfl
  have l1 : (StableHlo.launchContents m' 0 (Proc.devRef .tc Cert.ReferenceIdeal.main_arg1) : IVec S56 32) = (tbl m 0 : IVec S56 32) := e1
  have h8 : ∀ i, ((StableHlo.launchContents m' 0 (Proc.devRef .tc Cert.ReferenceIdeal.main_arg1) : IVec S56 32) i).toNat < 8 := by
    intro i
    rw [l1, ei i]
    exact h (i 0)
  funext i
  obtain ⟨R, q, rfl⟩ : ∃ (R : Fin 43008) (q : Fin 1024), i = ix2 R q := ⟨i 0, i 1, funext fun a => by match a with | ⟨0, _⟩ => rfl | ⟨1, _⟩ => rfl⟩
  refine (Cert.ReferenceIdeal.Moe.result_apply (StableHlo.launchContents m' 0) h8 R q).trans ?_
  show _ = resultAt m h 0 R q
  unfold resultAt
  have a0 : (StableHlo.launchContents m' 0 (Proc.devRef .tc Cert.ReferenceIdeal.main_arg0) : Vec Ideal S43008x1024 .bf16) = V m 0 main_arg0 := e0
  have a2 : (StableHlo.launchContents m' 0 (Proc.devRef .tc Cert.ReferenceIdeal.main_arg2) : IVec S1 32) = (tbl m 1 : IVec S1 32) := e2
  have a3 : (StableHlo.launchContents m' 0 (Proc.devRef .tc Cert.ReferenceIdeal.main_arg3) : Vec Ideal S8x1024x3584 .f32) = V m 0 main_arg3 := e3
  have a4 : (StableHlo.launchContents m' 0 (Proc.devRef .tc Cert.ReferenceIdeal.main_arg4) : Vec Ideal S8x1024x3584 .f32) = V m 0 main_arg4 := e4
  have a5 : (StableHlo.launchContents m' 0 (Proc.devRef .tc Cert.ReferenceIdeal.main_arg5) : Vec Ideal S8x3584x1024 .f32) = V m 0 main_arg5 := e5
  have enu : (tbl m 1 : IVec S1 32) (ix1 0) = nu m :=
    congrArg (tbl m 1 : IVec S1 32) (funext fun (a : Fin 1) => by obtain rfl : a = 0 := Subsingleton.elim _ _; exact Subsingleton.elim (α := Fin 1) _ _)
  refine if_congr ?_ ?_ rfl
  · rw [a2, enu]
  · refine (own_eq _ _ _ _ R q _).trans ?_
    have et : (⟨_, h8 (ix1 ⟨R.val / 768, by omega⟩)⟩ : Fin 8) = ⟨(te m ⟨R.val / 768, by omega⟩).toNat, h _⟩ := Fin.ext (by
      show ((StableHlo.launchContents m' 0 (Proc.devRef .tc Cert.ReferenceIdeal.main_arg1) : IVec S56 32) _).toNat = _
      rw [l1]
      rfl)
    exact expert_congr a0 a3 a4 a5 et R q

/-- Over the extended reals the kernel and the reference end with equal results. -/
theorem equal : Cert.algebraic_KernelIdeal_ReferenceIdeal (hKernelIdeal := Gen.facts) (hReferenceIdeal := Cert.ReferenceIdeal.Gen.facts) (hPre_names_an_expert := Cert.Pre_names_an_expert.Gen.facts) := by
  intro m ρ m' ρ' h hargs
  have h8 : ∀ i, (te m i).toNat < 8 := fun i => te_lt (h 0) (ix1 i)
  have hO := ok_of m h8
  refine ⟨fun c => result m h8 c, ?_, ?_⟩
  · exact run_result m ρ hO h8
  · refine (θ_run Cert.ReferenceIdeal.defs _ _).mono (fun r hr c => ⟨(hr c).1.trans ?_, (hr c).2⟩) (Cert.ReferenceIdeal.Value.run m' ρ')
    obtain ⟨e0, e1, e2, e3, e4, e5⟩ := hargs c
    exact result_eq m m' h8 c e0 e1 e2 e3 e4 e5

end Cert.KernelIdeal.Moe

end
-- ==== Proof.Ffn.Body.lean ====
/-
  What one point of the feed-forward kernel's grid stores, as a plain function of its blocks: the rows' normalised and
  modulated activations `h`, then eleven chunks of 256 hidden columns added up, then the gated residual.
-/
module

public import proofs.«01_k».proof.Proof.Gen.Kernel2Ideal.Frame
public import Idealize.ShloMosaic.Lib.VecWindow
public import Idealize.ShloMosaic.Lib.Pipeline.ValueKit.Basic

@[expose] public section

set_option maxRecDepth 16384

noncomputable section

namespace Cert.Kernel2Ideal.Ffn

open Cert.Kernel2Ideal.Gen
open Idealize.ShloMosaic Idealize.ShloMosaic.TcCoe Idealize.ShloMosaic.Tactic
open Idealize.SL.Sem

variable {F : FTy → Type} [FloatOps F]

/-- A window of 256 hidden columns of the gate or up weights, and of 256 hidden rows of the down weights. -/
abbrev colsAt (x : Vec F S1024x2816 .bf16) (o : ℕ) (h : ∀ a, (![0, o] : Fin 2 → ℕ) a + S1024x256.size a ≤ S1024x2816.size a) : Vec F S1024x256 .bf16 :=
  View.ld x (Rect.unit (s := S1024x2816) ![0, o] S1024x256.size h)
abbrev rowsAt (x : Vec F S2816x1024 .f32) (o : ℕ) (h : ∀ a, (![o, 0] : Fin 2 → ℕ) a + S256x1024.size a ≤ S2816x1024.size a) : Vec F S256x1024 .f32 :=
  View.ld x (Rect.unit (s := S2816x1024) ![o, 0] S256x1024.size h)

theorem cols_inb (n : ℕ) (hn : n < 11) : ∀ a, (![0, 256 * n] : Fin 2 → ℕ) a + S1024x256.size a ≤ S1024x2816.size a
  | ⟨0, _⟩ => by show 0 + 1024 ≤ 1024; omega
  | ⟨1, _⟩ => by show 256 * n + 256 ≤ 2816; omega
theorem rows_inb (n : ℕ) (hn : n < 11) : ∀ a, (![256 * n, 0] : Fin 2 → ℕ) a + S256x1024.size a ≤ S2816x1024.size a
  | ⟨0, _⟩ => by show 256 * n + 256 ≤ 2816; omega
  | ⟨1, _⟩ => by show 0 + 1024 ≤ 1024; omega

/-- The accumulator after chunk `n`: the first chunk is stored, each later one added. -/
def acc (x0 : Vec F S1x1024x1024 .f32) (x1 : Vec F S1x1024 .f32) (x2 x3 : Vec F S1x1x1024 .f32)
    (x5 x6 : Vec F S1024x2816 .bf16) (x7 : Vec F S2816x1024 .f32) : (n : ℕ) → n < 11 → Vec F S1024x1024 .f32
  | 0, h => k0_pay7 (k0_pay4 x0 x1 x2 x3 (colsAt x5 (256 * 0) (cols_inb 0 h))) (k0_pay5 x0 x1 x2 x3 (colsAt x6 (256 * 0) (cols_inb 0 h)))
      (k0_pay6 x0 x1 x2 x3 (colsAt x5 (256 * 0) (cols_inb 0 h))) (rowsAt x7 (256 * 0) (rows_inb 0 h))
  | n + 1, h => k0_pay10 (k0_pay3 x0 x1 x2 x3) (colsAt x5 (256 * (n + 1)) (cols_inb (n + 1) h)) (colsAt x6 (256 * (n + 1)) (cols_inb (n + 1) h))
      (rowsAt x7 (256 * (n + 1)) (rows_inb (n + 1) h)) (acc x0 x1 x2 x3 x5 x6 x7 n (by omega))

/-! The last store of a whole buffer is what it holds, and what a load of it reads. -/

theorem load_stored {e : EltTy} (v : View sig .tc .vmem S1024x1024 e) (w : S1024x1024.Idx → Elt F e) (L : List (View.Piece (Elt F) S1024x1024 e)) :
    v.readCov (⟨Rect.unit ![0, 0] ![1024, 1024] inb_S1024x1024_S1024x1024_0_0, w⟩ :: L)
      (Rect.unit (s := S1024x1024) ![0, 0] ![1024, 1024] inb_S1024x1024_S1024x1024_0_0).toLoadRect = w :=
  View.readCov_full v inb_S1024x1024_S1024x1024_0_0 inb_S1024x1024_S1024x1024_0_0 w L

theorem load_unread {S : Shape} {e : EltTy} (M : Memref sig .tc .vmem S e) (h : M.IsWhole) (X : S.Idx → Elt F e) (r : Rect S) :
    M.view.readAt (Elt F) r.toLoadRect (h.unread X) = View.ld X r := by
  rw [View.readAt_eq_ld, h.read_unread]

theorem load3 {e : EltTy} (X : S1x1024x1024.Idx → Elt F e) :
    View.ld X (Rect.unit (s := S1x1024x1024) ![0, 0, 0] ![1, 1024, 1024] inb_S1x1024x1024_S1x1024x1024_0_0_0) = X :=
  View.ld_unit_lit inb_S1x1024x1024_S1x1024x1024_0_0_0 X (by decide)
theorem load2 {e : EltTy} (X : S1x1024.Idx → Elt F e) :
    View.ld X (Rect.unit (s := S1x1024) ![0, 0] ![1, 1024] inb_S1x1024_S1x1024_0_0) = X :=
  View.ld_unit_lit inb_S1x1024_S1x1024_0_0 X (by decide)
theorem loadv {e : EltTy} (X : S1x1x1024.Idx → Elt F e) :
    View.ld X (Rect.unit (s := S1x1x1024) ![0, 0, 0] ![1, 1, 1024] inb_S1x1x1024_S1x1x1024_0_0_0) = X :=
  View.ld_unit_lit inb_S1x1x1024_S1x1x1024_0_0_0 X (by decide)

variable (c : Dev nD) (i : grid0.Coords)
variable (arg2 : Memref sig .tc .vmem S1x1024x1024 .f32) (harg2 : arg2.IsWhole)
variable (arg3 : Memref sig .tc .vmem S1x1024 .f32) (harg3 : arg3.IsWhole)
variable (arg4 : Memref sig .tc .vmem S1x1x1024 .f32) (harg4 : arg4.IsWhole)
variable (arg5 : Memref sig .tc .vmem S1x1x1024 .f32) (harg5 : arg5.IsWhole)
variable (arg6 : Memref sig .tc .vmem S1x1x1024 .f32) (harg6 : arg6.IsWhole)
variable (arg7 : Memref sig .tc .vmem S1024x2816 .bf16) (harg7 : arg7.IsWhole)
variable (arg8 : Memref sig .tc .vmem S1024x2816 .bf16) (harg8 : arg8.IsWhole)
variable (arg9 : Memref sig .tc .vmem S2816x1024 .f32) (harg9 : arg9.IsWhole)
variable (arg10 : Memref sig .tc .vmem S1x1024x1024 .f32) (harg10 : arg10.IsWhole)
variable (arg11 : Memref sig .tc .vmem S1024x1024 .f32) (harg11 : arg11.IsWhole)
variable (x0 : Vec F S1x1024x1024 .f32) (x1 : Vec F S1x1024 .f32) (x2 x3 x4 : Vec F S1x1x1024 .f32)
variable (x5 x6 : Vec F S1024x2816 .bf16) (x7 : Vec F S2816x1024 .f32)

set_option maxHeartbeats 1000000 in
/-- What a point stores: the gated residual of the eleven chunks. -/
theorem out_eq : out0_A_8 c i arg2 harg2 arg3 harg3 arg4 harg4 arg5 harg5 arg6 harg6 arg7 harg7 arg8 harg8 arg9 harg9 arg10 harg10 arg11 harg11 x0 x1 x2 x3 x4 x5 x6 x7
    = k0_pay2 x0 x4 (acc x0 x1 x2 x3 x5 x6 x7 10 (by decide)) := by
  unfold out0_A_8 kernelRun0_A
  dsimp only
  refine (View.read_writes_full VO0_8 _ inb_S1x1024x1024_S1x1024x1024_0_0_0 _ []).trans ?_
  simp only [load_stored, load_unread, load3, load2, loadv, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.HS0_9, kernelRun0_A.sl.HS0_10, kernelRun0_A.sl.HS0_11, kernelRun0_A.sl.v68, kernelRun0_A.sl.v92, kernelRun0_A.sl.v116, kernelRun0_A.sl.v140, kernelRun0_A.sl.v164, kernelRun0_A.sl.v188, kernelRun0_A.sl.v212, kernelRun0_A.sl.v236, kernelRun0_A.sl.v260, kernelRun0_A.sl.v284, kernelRun0_A.sl.v293, kernelRun0_A.sl.cst_63, kernelRun0_A.sl.cst_151, kernelRun0_A.sl.cst_172]
  rfl

end Cert.Kernel2Ideal.Ffn

end
-- ==== Proof.Ffn.Algebra.lean ====
/-
  The feed-forward kernel's point over the extended reals.
-/
module

public import proofs.«01_k».proof.Proof.Ffn.Body
public import proofs.«01_k».proof.Proof.Sums
public import Idealize.ShloMosaic.Lib.Pointwise

@[expose] public section

set_option maxRecDepth 16384

noncomputable section

namespace Cert.Kernel2Ideal.Ffn

open Cert.Kernel2Ideal.Gen Cert.Sums
open Idealize.ShloMosaic
open Idealize.SL.Sem

/-- The normalised and modulated rows. -/
theorem pay3_apply (x0 : Vec Ideal S1x1024x1024 .f32) (x1 : Vec Ideal S1x1024 .f32) (x2 x3 : Vec Ideal S1x1x1024 .f32) (r j : Fin 1024) :
    k0_pay3 (F := Ideal) x0 x1 x2 x3 (ix2 r j)
      = normed (fun j => x0 (ix3 0 r j)) (fun j => x1 (ix2 0 j)) (fun j => x2 (ix3 0 0 j)) (fun j => x3 (ix3 0 0 j)) j := by
  unfold k0_pay3
  pointwise
  rfl

/-- A chunk after the first, and the first. -/
theorem pay10_apply (h : Vec Ideal S1024x1024 .bf16) (a b : Vec Ideal S1024x256 .bf16) (d : Vec Ideal S256x1024 .f32) (acc : Vec Ideal S1024x1024 .f32)
    (r q : Fin 1024) :
    k0_pay10 (F := Ideal) h a b d acc (ix2 r q) = acc (ix2 r q)
      + ∑ k : Fin 256, gated (∑ j : Fin 1024, h (ix2 r j) * a (ix2 j k)) (∑ j : Fin 1024, h (ix2 r j) * b (ix2 j k)) * d (ix2 k q) := by
  unfold k0_pay10
  pointwise
  rfl

theorem first_apply (x0 : Vec Ideal S1x1024x1024 .f32) (x1 : Vec Ideal S1x1024 .f32) (x2 x3 : Vec Ideal S1x1x1024 .f32)
    (a b : Vec Ideal S1024x256 .bf16) (d : Vec Ideal S256x1024 .f32) (r q : Fin 1024) :
    k0_pay7 (F := Ideal) (k0_pay4 x0 x1 x2 x3 a) (k0_pay5 x0 x1 x2 x3 b) (k0_pay6 x0 x1 x2 x3 a) d (ix2 r q)
      = ∑ k : Fin 256, gated (∑ j : Fin 1024, k0_pay3 (F := Ideal) x0 x1 x2 x3 (ix2 r j) * a (ix2 j k)) (∑ j : Fin 1024, k0_pay3 (F := Ideal) x0 x1 x2 x3 (ix2 r j) * b (ix2 j k)) * d (ix2 k q) := by
  unfold k0_pay7 k0_pay6 k0_pay5 k0_pay4
  pointwise
  rfl

/-- The gated residual. -/
theorem pay2_apply (x : Vec Ideal S1x1024x1024 .f32) (g : Vec Ideal S1x1x1024 .f32) (a : Vec Ideal S1024x1024 .f32) (r q : Fin 1024) :
    k0_pay2 (F := Ideal) x g a (ix3 0 r q) = x (ix3 0 r q) + g (ix3 0 0 q) * a (ix2 r q) := by
  unfold k0_pay2
  pointwise

/-- A chunk of the hidden columns, and of the last weights' rows, at an index. -/
theorem colsAt_apply (x : Vec Ideal S1024x2816 .bf16) (n : ℕ) (hn : n < 11) (j : Fin 1024) (k : Fin 256) :
    colsAt x (256 * n) (cols_inb n hn) (ix2 j k) = x (ix2 j ⟨256 * n + k.val, by omega⟩) := by
  refine congrArg x (funext fun a => Fin.ext ?_)
  match a with
  | ⟨0, _⟩ => show 0 + 1 * j.val = j.val; omega
  | ⟨1, _⟩ => show 256 * n + 1 * k.val = 256 * n + k.val; omega

theorem rowsAt_apply (x : Vec Ideal S2816x1024 .f32) (n : ℕ) (hn : n < 11) (k : Fin 256) (q : Fin 1024) :
    rowsAt x (256 * n) (rows_inb n hn) (ix2 k q) = x (ix2 ⟨256 * n + k.val, by omega⟩ q) := by
  refine congrArg x (funext fun a => Fin.ext ?_)
  match a with
  | ⟨0, _⟩ => show 256 * n + 1 * k.val = 256 * n + k.val; omega
  | ⟨1, _⟩ => show 0 + 1 * q.val = q.val; omega

variable (x0 : Vec Ideal S1x1024x1024 .f32) (x1 : Vec Ideal S1x1024 .f32) (x2 x3 x4 : Vec Ideal S1x1x1024 .f32)
variable (x5 x6 : Vec Ideal S1024x2816 .bf16) (x7 : Vec Ideal S2816x1024 .f32) (r q : Fin 1024)

/-- What hidden column `k` contributes to the block's row `r` and column `q`. -/
def part (k : Fin 2816) : EReal :=
  hiddenAt (normed (fun j => x0 (ix3 0 r j)) (fun j => x1 (ix2 0 j)) (fun j => x2 (ix3 0 0 j)) (fun j => x3 (ix3 0 0 j)))
    (fun j k => x5 (ix2 j k)) (fun j k => x6 (ix2 j k)) (fun k q => x7 (ix2 k q)) q k

/-- A chunk's contribution, from its windows of the weights. -/
theorem chunk_part (n : ℕ) (hn : n < 11) (k : Fin 256) :
    gated (∑ j : Fin 1024, k0_pay3 (F := Ideal) x0 x1 x2 x3 (ix2 r j) * colsAt x5 (256 * n) (cols_inb n hn) (ix2 j k))
      (∑ j : Fin 1024, k0_pay3 (F := Ideal) x0 x1 x2 x3 (ix2 r j) * colsAt x6 (256 * n) (cols_inb n hn) (ix2 j k))
      * rowsAt x7 (256 * n) (rows_inb n hn) (ix2 k q) = part x0 x1 x2 x3 x5 x6 x7 r q ⟨256 * n + k.val, by omega⟩ :=
  congrArg₂ (· * ·) (congrArg₂ gated
    (Finset.sum_congr rfl fun j _ => congrArg₂ (· * ·) (pay3_apply x0 x1 x2 x3 r j) (colsAt_apply x5 n hn j k))
    (Finset.sum_congr rfl fun j _ => congrArg₂ (· * ·) (pay3_apply x0 x1 x2 x3 r j) (colsAt_apply x6 n hn j k))) (rowsAt_apply x7 n hn k q)

/-- The accumulator after chunk `n`: the hidden columns of chunks 0 to `n`. -/
theorem acc_apply (n : ℕ) (hn : n < 11) :
    acc (F := Ideal) x0 x1 x2 x3 x5 x6 x7 n hn (ix2 r q)
      = ∑ i : Fin (n + 1), ∑ k : Fin 256, part x0 x1 x2 x3 x5 x6 x7 r q ⟨256 * i.val + k.val, by omega⟩ := by
  induction n with
  | zero =>
    rw [Fin.sum_univ_one]
    exact (first_apply x0 x1 x2 x3 _ _ _ r q).trans (Finset.sum_congr rfl fun k _ => chunk_part x0 x1 x2 x3 x5 x6 x7 r q 0 hn k)
  | succ n ih =>
    rw [Fin.sum_univ_castSucc]
    exact (pay10_apply (k0_pay3 x0 x1 x2 x3) _ _ _ _ r q).trans (congrArg₂ (· + ·) (ih (by omega))
      (Finset.sum_congr rfl fun k _ => chunk_part x0 x1 x2 x3 x5 x6 x7 r q (n + 1) hn k))

/-- What a point stores, at row `r` and column `q` of its block. -/
theorem stored_apply :
    k0_pay2 (F := Ideal) x0 x4 (acc x0 x1 x2 x3 x5 x6 x7 10 (by decide)) (ix3 0 r q)
      = ffnRow (fun j => x0 (ix3 0 r j)) (fun j => x1 (ix2 0 j)) (fun j => x2 (ix3 0 0 j)) (fun j => x3 (ix3 0 0 j)) (fun j => x4 (ix3 0 0 j))
        (fun j k => x5 (ix2 j k)) (fun j k => x6 (ix2 j k)) (fun k q => x7 (ix2 k q)) q := by
  rw [pay2_apply, acc_apply]
  unfold ffnRow
  rw [sum_runs 11 256 2816 (by decide)]
  rfl

end Cert.Kernel2Ideal.Ffn

end
-- ==== Proof.Grid.lean ====
/-
  The grid that the dense calls share, eight batches by two halves of 1024 rows, and where a point's blocks lie.
-/
module

public import Idealize.ShloMosaic.PureOps.Ideal
public import Idealize.ShloMosaic.Lib.Pointwise
public import Idealize.ShloMosaic.Lib.Pipeline.ValueKit.Geometry

@[expose] public section

noncomputable section

namespace Cert.Halves

open Idealize.ShloMosaic

abbrev grid : Pipeline.Grid := ⟨2, ![8, 2], ![false, false]⟩

theorem points : grid.N = 16 := by decide

/-- The batch and the half of the rows at point `t`. -/
theorem coords0 (t : Fin grid.N) : (grid.coords t 0).val = t.val / 2 := by
  have ht : t.val < 16 := Nat.lt_of_lt_of_eq t.isLt points
  have e : (grid.coords t 0).val = t.val / 2 % 8 := Pipeline.Grid.coords_val t 0 (by decide) rfl
  omega
theorem coords1 (t : Fin grid.N) : (grid.coords t 1).val = t.val % 2 := by
  have e : (grid.coords t 1).val = t.val / 1 % 2 := Pipeline.Grid.coords_val t 1 (by decide) rfl
  omega

abbrev batchAt (t : Fin grid.N) : Fin 8 := ⟨t.val / 2, by have : t.val < 16 := Nat.lt_of_lt_of_eq t.isLt points; omega⟩
abbrev rowAt (t : Fin grid.N) (r : Fin 1024) : Fin 2048 := ⟨1024 * (t.val % 2) + r.val, by omega⟩

/-- The point that holds batch `b`'s row `R`. -/
theorem exists_point (b : Fin 8) (R : Fin 2048) : ∃ (t : Fin grid.N) (r : Fin 1024), batchAt t = b ∧ rowAt t r = R :=
  ⟨⟨2 * b.val + R.val / 1024, by rw [points]; omega⟩, ⟨R.val % 1024, Nat.mod_lt _ (by decide)⟩,
    Fin.ext (by show (2 * b.val + R.val / 1024) / 2 = b.val; omega),
    Fin.ext (by show 1024 * ((2 * b.val + R.val / 1024) % 2) + R.val % 1024 = R.val; omega)⟩

variable {W : ℕ}

/-- Entry `r`, `j` of a point's block of rows of width `W` is entry `j` of its batch's row `r` of its half. -/
theorem rows_eq (t : Fin grid.N) (r : Fin 1024) (j : Fin W) (y : Shape.Idx ⟨3, ![8, 2048, W]⟩)
    (h0 : (y 0).val = (BitVec.ofNat 32 (grid.coords t 0).val).toNat * 1 + 1 * 0)
    (h1 : (y 1).val = (BitVec.ofNat 32 (grid.coords t 1).val).toNat * 1024 + 1 * r.val)
    (h2 : (y 2).val = 0 * W + 1 * j.val) : y = ix3 (batchAt t) (rowAt t r) j := by
  have ht : t.val < 16 := Nat.lt_of_lt_of_eq t.isLt points
  rw [coords0, BitVec.toNat_ofNat] at h0
  rw [coords1, BitVec.toNat_ofNat] at h1
  refine funext fun a => Fin.ext ?_
  match a with
  | ⟨0, _⟩ => show (y 0).val = t.val / 2; omega
  | ⟨1, _⟩ => show (y 1).val = 1024 * (t.val % 2) + r.val; omega
  | ⟨2, _⟩ => show (y 2).val = j.val; omega

/-- A point's block of one row for the batch is its batch's row. -/
theorem batch_eq (t : Fin grid.N) (j : Fin W) (y : Shape.Idx ⟨3, ![8, 1, W]⟩)
    (h0 : (y 0).val = (BitVec.ofNat 32 (grid.coords t 0).val).toNat * 1 + 1 * 0)
    (h2 : (y 2).val = 0 * W + 1 * j.val) : y = ix3 (batchAt t) 0 j := by
  have ht : t.val < 16 := Nat.lt_of_lt_of_eq t.isLt points
  rw [coords0, BitVec.toNat_ofNat] at h0
  refine funext fun a => Fin.ext ?_
  match a with
  | ⟨0, _⟩ => show (y 0).val = t.val / 2; omega
  | ⟨1, _⟩ => exact congrArg Fin.val (Subsingleton.elim (α := Fin 1) _ _)
  | ⟨2, _⟩ => show (y 2).val = j.val; omega

/-- A block that is the whole array. -/
theorem whole_eq {H : ℕ} (i : Fin H) (j : Fin W) (y : Shape.Idx ⟨2, ![H, W]⟩)
    (h0 : (y 0).val = 0 * H + 1 * i.val) (h1 : (y 1).val = 0 * W + 1 * j.val) : y = ix2 i j := by
  refine funext fun a => Fin.ext ?_
  match a with
  | ⟨0, _⟩ => show (y 0).val = i.val; omega
  | ⟨1, _⟩ => show (y 1).val = j.val; omega

/-- An index of a block of one batch's rows, and of the whole array, in coordinates. -/
theorem block_idx {R : ℕ} (y : Shape.Idx ⟨3, ![1, R, W]⟩) : ∃ (r : Fin R) (q : Fin W), y = ix3 0 r q := ⟨y 1, y 2, funext fun a => by
  match a with
  | ⟨0, _⟩ => exact Subsingleton.elim (α := Fin 1) _ _
  | ⟨1, _⟩ => rfl
  | ⟨2, _⟩ => rfl⟩
theorem array_idx {B R : ℕ} (i : Shape.Idx ⟨3, ![B, R, W]⟩) : ∃ (b : Fin B) (r : Fin R) (q : Fin W), i = ix3 b r q :=
  ⟨i 0, i 1, i 2, funext fun a => by match a with | ⟨0, _⟩ => rfl | ⟨1, _⟩ => rfl | ⟨2, _⟩ => rfl⟩

end Cert.Halves

end
-- ==== Proof.Ffn.Value.lean ====
/-
  The feed-forward kernel's result over the extended reals, from its arguments: each row is `ffnRow` of its own row, its
  batch's modulation and the weights.
-/
module

public import proofs.«01_k».proof.Proof.Ffn.Algebra
public import proofs.«01_k».proof.Proof.Gen.Kernel2Ideal.Value
public import proofs.«01_k».proof.Proof.Grid

@[expose] public section

set_option maxRecDepth 16384

noncomputable section

namespace Cert.Kernel2Ideal.Ffn

open Cert.Kernel2Ideal.Gen Cert.Sums Cert.Halves
open Idealize.ShloMosaic Idealize.ShloMosaic.TcCoe
open Idealize.SL.Sem

/-! Where the blocks lie: the rows' and the result's, the modulation's, and the weights', which are whole. -/

theorem rows_emb (t : Fin grid0.N) (r j : Fin 1024) :
    (win0_8.blk t).view.emb (ix3 0 r j : S1x1024x1024.Idx) = (ix3 (batchAt t) (rowAt t r) j : S8x2048x1024.Idx) := rows_eq t r j _ rfl rfl rfl
theorem mod_emb (t : Fin grid0.N) (j : Fin 1024) :
    (win0_2.blk t).view.emb (ix3 0 0 j : S1x1x1024.Idx) = (ix3 (batchAt t) 0 j : S8x1x1024.Idx) := batch_eq t j _ rfl rfl
theorem weight_emb (t : Fin grid0.N) (j : Fin 1024) : (win0_1.blk t).view.emb (ix2 0 j : S1x1024.Idx) = (ix2 0 j : S1x1024.Idx) :=
  whole_eq 0 j _ rfl rfl
theorem in_emb (t : Fin grid0.N) (j : Fin 1024) (k : Fin 2816) : (win0_5.blk t).view.emb (ix2 j k : S1024x2816.Idx) = (ix2 j k : S1024x2816.Idx) :=
  whole_eq j k _ rfl rfl
theorem out_emb (t : Fin grid0.N) (k : Fin 2816) (q : Fin 1024) : (win0_7.blk t).view.emb (ix2 k q : S2816x1024.Idx) = (ix2 k q : S2816x1024.Idx) :=
  whole_eq k q _ rfl rfl

variable (m : (ℓ : Loc nD τ sig) → Buf (Elt Ideal) ℓ) (c : Dev nD)

/-- The result at batch `b`, row `R`, column `q`. -/
def resultAt (b : Fin 8) (R : Fin 2048) (q : Fin 1024) : EReal := ffnRow
  (fun j => (m ((c.tc : Thread nD τ).loc main_arg0) : Vec Ideal S8x2048x1024 .f32) (ix3 b R j))
  (fun j => (m ((c.tc : Thread nD τ).loc main_arg1) : Vec Ideal S1024 .f32) (ix1 j))
  (fun j => (m ((c.tc : Thread nD τ).loc main_arg2) : Vec Ideal S8x1x1024 .f32) (ix3 b 0 j))
  (fun j => (m ((c.tc : Thread nD τ).loc main_arg3) : Vec Ideal S8x1x1024 .f32) (ix3 b 0 j))
  (fun j => (m ((c.tc : Thread nD τ).loc main_arg4) : Vec Ideal S8x1x1024 .f32) (ix3 b 0 j))
  (fun j k => (m ((c.tc : Thread nD τ).loc main_arg5) : Vec Ideal S1024x2816 .f32) (ix2 j k))
  (fun j k => (m ((c.tc : Thread nD τ).loc main_arg6) : Vec Ideal S1024x2816 .f32) (ix2 j k))
  (fun k q => (m ((c.tc : Thread nD τ).loc main_arg7) : Vec Ideal S2816x1024 .f32) (ix2 k q)) q

def result : Vec Ideal S8x2048x1024 .f32 := fun i => resultAt m c (i 0) (i 1) (i 2)

/-- What the host code leaves in the weights' and the norm's buffers: the arguments, reshaped or cast. -/
theorem V_w1 (j : Fin 1024) (k : Fin 2816) : (V m c main_v0 : Vec Ideal S1024x2816 .bf16) (ix2 j k) = (m ((c.tc : Thread nD τ).loc main_arg5) : Vec Ideal S1024x2816 .f32) (ix2 j k) := rfl
theorem V_w3 (j : Fin 1024) (k : Fin 2816) : (V m c main_v1 : Vec Ideal S1024x2816 .bf16) (ix2 j k) = (m ((c.tc : Thread nD τ).loc main_arg6) : Vec Ideal S1024x2816 .f32) (ix2 j k) := rfl
theorem V_nw (j : Fin 1024) : (V m c main_v2 : Vec Ideal S1x1024 .f32) (ix2 0 j) = (m ((c.tc : Thread nD τ).loc main_arg1) : Vec Ideal S1024 .f32) (ix1 j) := by
  show (shapeCast S1x1024 (m ((c.tc : Thread nD τ).loc main_arg1) : Vec Ideal S1024 .f32) shapeCasts_S1024_S1x1024) (ix2 0 j) = _
  pointwise

/-- What point `t` stores is its rows of the result. -/
theorem block_apply (t : Fin grid0.N) (r q : Fin 1024) : outsAt0 (F := Ideal) m c t (ix3 0 r q) = resultAt m c (batchAt t) (rowAt t r) q := by
  unfold outsAt0
  rw [out_eq]
  refine (stored_apply (iblk m c 0 t) (iblk m c 1 t) (iblk m c 2 t) (iblk m c 3 t) (iblk m c 4 t) (iblk m c 5 t) (iblk m c 6 t) (iblk m c 7 t) r q).trans ?_
  have e0 : (fun j => (iblk m c 0 t : Vec Ideal S1x1024x1024 .f32) (ix3 0 r j)) = fun j => (m ((c.tc : Thread nD τ).loc main_arg0) : Vec Ideal S8x2048x1024 .f32) (ix3 (batchAt t) (rowAt t r) j) :=
    funext fun j => (congrArg (V m c main_arg0 : Vec Ideal S8x2048x1024 .f32) (rows_emb t r j)).trans (congrFun (V_main_arg0 m c) _)
  have e1 : (fun j => (iblk m c 1 t : Vec Ideal S1x1024 .f32) (ix2 0 j)) = fun j => (m ((c.tc : Thread nD τ).loc main_arg1) : Vec Ideal S1024 .f32) (ix1 j) :=
    funext fun j => (congrArg (V m c main_v2 : Vec Ideal S1x1024 .f32) (weight_emb t j)).trans (V_nw m c j)
  have e2 : (fun j => (iblk m c 2 t : Vec Ideal S1x1x1024 .f32) (ix3 0 0 j)) = fun j => (m ((c.tc : Thread nD τ).loc main_arg2) : Vec Ideal S8x1x1024 .f32) (ix3 (batchAt t) 0 j) :=
    funext fun j => (congrArg (V m c main_arg2 : Vec Ideal S8x1x1024 .f32) (mod_emb t j)).trans (congrFun (V_main_arg2 m c) _)
  have e3 : (fun j => (iblk m c 3 t : Vec Ideal S1x1x1024 .f32) (ix3 0 0 j)) = fun j => (m ((c.tc : Thread nD τ).loc main_arg3) : Vec Ideal S8x1x1024 .f32) (ix3 (batchAt t) 0 j) :=
    funext fun j => (congrArg (V m c main_arg3 : Vec Ideal S8x1x1024 .f32) (mod_emb t j)).trans (congrFun (V_main_arg3 m c) _)
  have e4 : (fun j => (iblk m c 4 t : Vec Ideal S1x1x1024 .f32) (ix3 0 0 j)) = fun j => (m ((c.tc : Thread nD τ).loc main_arg4) : Vec Ideal S8x1x1024 .f32) (ix3 (batchAt t) 0 j) :=
    funext fun j => (congrArg (V m c main_arg4 : Vec Ideal S8x1x1024 .f32) (mod_emb t j)).trans (congrFun (V_main_arg4 m c) _)
  have e5 : (fun j k => (iblk m c 5 t : Vec Ideal S1024x2816 .bf16) (ix2 j k)) = fun j k => (m ((c.tc : Thread nD τ).loc main_arg5) : Vec Ideal S1024x2816 .f32) (ix2 j k) :=
    funext fun j => funext fun k => (congrArg (V m c main_v0 : Vec Ideal S1024x2816 .bf16) (in_emb t j k)).trans (V_w1 m c j k)
  have e6 : (fun j k => (iblk m c 6 t : Vec Ideal S1024x2816 .bf16) (ix2 j k)) = fun j k => (m ((c.tc : Thread nD τ).loc main_arg6) : Vec Ideal S1024x2816 .f32) (ix2 j k) :=
    funext fun j => funext fun k => (congrArg (V m c main_v1 : Vec Ideal S1024x2816 .bf16) (in_emb t j k)).trans (V_w3 m c j k)
  have e7 : (fun k q => (iblk m c 7 t : Vec Ideal S2816x1024 .f32) (ix2 k q)) = fun k q => (m ((c.tc : Thread nD τ).loc main_arg7) : Vec Ideal S2816x1024 .f32) (ix2 k q) :=
    funext fun k => funext fun q => (congrArg (V m c main_arg7 : Vec Ideal S2816x1024 .f32) (out_emb t k q)).trans (congrFun (V_main_arg7 m c) _)
  unfold resultAt
  rw [← e0, ← e1, ← e2, ← e3, ← e4, ← e5, ← e6, ← e7]

/-- The array that the points' blocks make up. -/
theorem arr_result : (dats m 0 c).arrAt 8 cfg0.N = result m c := by
  refine (dats m 0 c).arrAt_eq_of_emb 8 (result m c) (fun t _ (y : S1x1024x1024.Idx) => ?_) fun (i : S8x2048x1024.Idx) => ?_
  · obtain ⟨r, q, rfl⟩ := block_idx y
    refine Eq.trans ?_ (congrArg (result m c) (rows_emb t r q)).symm
    exact (congrFun (after0_8 m c t) _).trans (block_apply m c t r q)
  · obtain ⟨b, R, q, rfl⟩ := array_idx i
    obtain ⟨t, r, rfl, rfl⟩ := exists_point b R
    exact ⟨t, flush0_8 t, rows_emb t r q ▸ (win0_8.blk t).view.emb_mem_set _⟩

end Cert.Kernel2Ideal.Ffn

end
-- ==== Proof.Ffn.Reference.lean ====
/-
  The feed-forward part's reference over the extended reals.
-/
module

public import proofs.«01_k».proof.Proof.Gen.Reference2Ideal.Run
public import proofs.«01_k».proof.Proof.Sums
public import Idealize.ShloMosaic.Lib.Pointwise

@[expose] public section

set_option maxRecDepth 16384

noncomputable section

namespace Cert.Reference2Ideal.Ffn

open Cert.Reference2Ideal.Gen Cert.Reference2Ideal.Value Cert.Sums
open Idealize.ShloMosaic Idealize.ShloMosaic.TcCoe
open Idealize.SL.Sem

theorem result_apply (m : (ℓ : Loc nD τ sig) → Buf (Elt Ideal) ℓ) (c : Dev nD) (b : Fin 8) (R : Fin 2048) (q : Fin 1024) :
    (res_main_v26 m c : Vec Ideal S8x2048x1024 .f32) (ix3 b R q) = ffnRow
      (fun j => (m ((c.tc : Thread nD τ).loc main_arg0) : Vec Ideal S8x2048x1024 .f32) (ix3 b R j))
      (fun j => (m ((c.tc : Thread nD τ).loc main_arg1) : Vec Ideal S1024 .f32) (ix1 j))
      (fun j => (m ((c.tc : Thread nD τ).loc main_arg2) : Vec Ideal S8x1x1024 .f32) (ix3 b 0 j))
      (fun j => (m ((c.tc : Thread nD τ).loc main_arg3) : Vec Ideal S8x1x1024 .f32) (ix3 b 0 j))
      (fun j => (m ((c.tc : Thread nD τ).loc main_arg4) : Vec Ideal S8x1x1024 .f32) (ix3 b 0 j))
      (fun j k => (m ((c.tc : Thread nD τ).loc main_arg5) : Vec Ideal S1024x2816 .f32) (ix2 j k))
      (fun j k => (m ((c.tc : Thread nD τ).loc main_arg6) : Vec Ideal S1024x2816 .f32) (ix2 j k))
      (fun k q => (m ((c.tc : Thread nD τ).loc main_arg7) : Vec Ideal S2816x1024 .f32) (ix2 k q)) q := by
  unfold res_main_v26
  pointwise
  unfold ffnRow hiddenAt gated
  simp only [zero_sub]
  rfl

end Cert.Reference2Ideal.Ffn

end
-- ==== Proof.Ffn.Equal.lean ====
/-
  The claim that over the extended reals the feed-forward kernel and its reference end with equal results, and the
  reference's frame.
-/
module

public import proofs.«01_k».proof.Defs
public import proofs.«01_k».proof.Proof.Ffn.Value
public import proofs.«01_k».proof.Proof.Ffn.Reference

@[expose] public section

set_option maxRecDepth 16384

noncomputable section

namespace Cert.Kernel2Ideal.Ffn

open Cert.Sums
open Idealize.ShloMosaic Idealize.ShloMosaic.TcCoe Idealize.SL.Sem

theorem reference_frame : Cert.quiescent_Reference2Ideal (hReference2Ideal := Cert.Reference2Ideal.Gen.facts) :=
  fun m ρ _ => (θ_run Cert.Reference2Ideal.defs _ _).mono (fun r h => ⟨fun c => (h c).2, sem_eq_zero_of_no_sems (by decide) r.2⟩)
    (Cert.Reference2Ideal.Value.run m ρ)

/-- Over the extended reals the kernel and the reference end with equal results. -/
theorem equal : Cert.algebraic_Kernel2Ideal_Reference2Ideal (hKernel2Ideal := Gen.facts) (hReference2Ideal := Cert.Reference2Ideal.Gen.facts) := by
  intro m ρ m' ρ' _ hargs
  refine ⟨fun c => result m c, ?_, ?_⟩
  · exact (θ_run Cert.Kernel2Ideal.defs _ _).mono (fun r hr c => ⟨(hr c).1.trans (arr_result m c), (hr c).2⟩) (Cert.Kernel2Ideal.Value.run_blocks m ρ)
  · refine (θ_run Cert.Reference2Ideal.defs _ _).mono (fun r hr c => ⟨(hr c).1.trans ?_, (hr c).2⟩) (Cert.Reference2Ideal.Value.run m' ρ')
    obtain ⟨e0, e1, e2, e3, e4, e5, e6, e7⟩ := hargs c
    funext (i : S8x2048x1024.Idx)
    obtain ⟨b, R, q, rfl⟩ := Cert.Halves.array_idx i
    refine (Cert.Reference2Ideal.Ffn.result_apply m' c b R q).trans ?_
    show _ = resultAt m c b R q
    unfold resultAt
    rw [e0, e1, e2, e3, e4, e5, e6, e7]

end Cert.Kernel2Ideal.Ffn

end
-- ==== Proof.Proj.In.lean ====
/-
  The even layer's input projection: over the extended reals a point's rows are the products of the normalised and
  modulated rows with the weights, stored 256 columns at a time.
-/
module

public import proofs.«01_k».proof.Defs
public import proofs.«01_k».proof.Proof.Grid
public import proofs.«01_k».proof.Proof.Sums
public import proofs.«01_k».proof.Proof.Gen.Kernel3Ideal.Value
public import proofs.«01_k».proof.Proof.Gen.Reference3Ideal.Run
public import Idealize.ShloMosaic.Lib.Pipeline.ValueKit.Basic
public import Idealize.ShloMosaic.Lib.Pipeline.ValueKit.Tiles

@[expose] public section

set_option maxRecDepth 16384

noncomputable section

namespace Cert.Kernel3Ideal.Proj

open Cert.Kernel3Ideal.Gen Cert.Sums Cert.Halves
open Idealize.ShloMosaic Idealize.ShloMosaic.TcCoe Idealize.SL.Sem

/-- The product of a normalised row with a column of the weights. -/
def projected (x nw sh sc w : Fin 1024 → EReal) : EReal := ∑ j, normed x nw sh sc j * w j

/-- The normalised and modulated rows, and their product with 256 columns. -/
theorem pay5_apply (x0 : Vec Ideal S1x1024x1024 .f32) (x1 : Vec Ideal S1x1024 .f32) (x2 x3 : Vec Ideal S1x1x1024 .f32) (r j : Fin 1024) :
    k0_pay5 (F := Ideal) x0 x1 x2 x3 (ix2 r j)
      = normed (fun j => x0 (ix3 0 r j)) (fun j => x1 (ix2 0 j)) (fun j => x2 (ix3 0 0 j)) (fun j => x3 (ix3 0 0 j)) j := by
  unfold k0_pay5
  pointwise
  rfl
theorem pay1_apply (h : Vec Ideal S1024x1024 .bf16) (w : Vec Ideal S1024x256 .bf16) (r : Fin 1024) (k : Fin 256) :
    k0_pay1 (F := Ideal) h w (ix3 0 r k) = ∑ j : Fin 1024, h (ix2 r j) * w (ix2 j k) := by
  unfold k0_pay1
  pointwise

section
variable (x0 : Vec Ideal S1x1024x1024 .f32) (x1 : Vec Ideal S1x1024 .f32) (x2 x3 : Vec Ideal S1x1x1024 .f32) (x4 : Vec Ideal S1024x1280 .bf16)

/-- What a point stores at row `r`, column `q`. -/
def storedAt (r : Fin 1024) (q : Fin 1280) : EReal :=
  projected (fun j => x0 (ix3 0 r j)) (fun j => x1 (ix2 0 j)) (fun j => x2 (ix3 0 0 j)) (fun j => x3 (ix3 0 0 j)) (fun j => x4 (ix2 j q))

/-- Chunk `n` of the columns holds the stored entries where it lies. -/
theorem chunk (n : ℕ) (hn : n < 5) (h : ∀ a, (![0, 256 * n] : Fin 2 → ℕ) a + S1024x256.size a ≤ S1024x1280.size a) (y : S1x1024x1280.Idx) :
    View.TileAt (Val := Elt Ideal) (S := S1x1024x1280) (e := .bf16) y ![0, 0, 256 * n] S1x1024x256.size
      (k0_pay1 (F := Ideal) (k0_pay5 x0 x1 x2 x3) (View.ld x4 (Rect.unit (s := S1024x1280) ![0, 256 * n] S1024x256.size h))) (storedAt x0 x1 x2 x3 x4 (y 1) (y 2)) := by
  intro (x : S1x1024x256.Idx) hx
  obtain ⟨r, k, rfl⟩ := block_idx x
  have e1 : r = y 1 := Fin.ext (by have := hx 1; change (y 1).val = 0 + r.val at this; omega)
  have e2 : (⟨256 * n + k.val, by omega⟩ : Fin 1280) = y 2 := Fin.ext (hx 2).symm
  rw [← e1, ← e2]
  have e (j : Fin 1024) : View.ld x4 (Rect.unit (s := S1024x1280) ![0, 256 * n] S1024x256.size h) (ix2 j k) = x4 (ix2 j ⟨256 * n + k.val, by omega⟩) :=
    congrArg x4 (whole_eq j ⟨256 * n + k.val, by omega⟩ _ (by show 0 + 1 * j.val = 0 * 1024 + 1 * j.val; omega)
      (by show 256 * n + 1 * k.val = 0 * 1280 + 1 * (256 * n + k.val); omega))
  exact (pay1_apply _ _ r k).trans (Finset.sum_congr rfl fun j _ => congrArg₂ (· * ·) (pay5_apply x0 x1 x2 x3 r j) (e j))

theorem out_apply (r : Fin 1024) (q : Fin 1280) : out0_5 (F := Ideal) x0 x1 x2 x3 x4 (ix3 0 r q) = storedAt x0 x1 x2 x3 x4 r q := by
  have z3 : ∀ a, (![0, 0, 0] : Fin 3 → ℕ) a = 0 := by decide
  have z2 : ∀ a, (![0, 0] : Fin 2 → ℕ) a = 0 := by decide
  unfold out0_5 k0_pay7
  rw [View.ld_unit_lit _ x0 z3, View.ld_unit_lit _ x1 z2, View.ld_unit_lit _ x2 z3, View.ld_unit_lit _ x3 z3]
  refine View.canon_eq_of_allAt _ _ _ (cover0_5 _ _ _ _ _ _) ?_
  exact View.allAt_cons_unit _ _ _ _ _ (chunk x0 x1 x2 x3 x4 4 (by decide) _ _) (View.allAt_cons_unit _ _ _ _ _ (chunk x0 x1 x2 x3 x4 3 (by decide) _ _)
    (View.allAt_cons_unit _ _ _ _ _ (chunk x0 x1 x2 x3 x4 2 (by decide) _ _) (View.allAt_cons_unit _ _ _ _ _ (chunk x0 x1 x2 x3 x4 1 (by decide) _ _)
    (View.allAt_cons_unit _ _ _ _ _ (chunk x0 x1 x2 x3 x4 0 (by decide) _ _) (View.allAt_nil _ _)))))

end

variable (m : (ℓ : Loc nD τ sig) → Buf (Elt Ideal) ℓ) (c : Dev nD)

/-- The result at batch `b`, row `R`, column `q`. -/
def resultAt (b : Fin 8) (R : Fin 2048) (q : Fin 1280) : EReal := projected
  (fun j => (m ((c.tc : Thread nD τ).loc main_arg0) : Vec Ideal S8x2048x1024 .f32) (ix3 b R j))
  (fun j => (m ((c.tc : Thread nD τ).loc main_arg1) : Vec Ideal S1024 .f32) (ix1 j))
  (fun j => (m ((c.tc : Thread nD τ).loc main_arg2) : Vec Ideal S8x1x1024 .f32) (ix3 b 0 j))
  (fun j => (m ((c.tc : Thread nD τ).loc main_arg3) : Vec Ideal S8x1x1024 .f32) (ix3 b 0 j))
  (fun j => (m ((c.tc : Thread nD τ).loc main_arg4) : Vec Ideal S1024x1280 .f32) (ix2 j q))

def result : Vec Ideal S8x2048x1280 .bf16 := fun i => resultAt m c (i 0) (i 1) (i 2)

theorem rows_emb (t : Fin grid0.N) (r : Fin 1024) (q : Fin 1280) :
    (win0_5.blk t).view.emb (ix3 0 r q : S1x1024x1280.Idx) = (ix3 (batchAt t) (rowAt t r) q : S8x2048x1280.Idx) := rows_eq t r q _ rfl rfl rfl

/-- The norm's weights reach the call as one row. -/
theorem V_nw (j : Fin 1024) : (V m c main_v1 : Vec Ideal S1x1024 .f32) (ix2 0 j) = (m ((c.tc : Thread nD τ).loc main_arg1) : Vec Ideal S1024 .f32) (ix1 j) := by
  show (shapeCast S1x1024 (m ((c.tc : Thread nD τ).loc main_arg1) : Vec Ideal S1024 .f32) shapeCasts_S1024_S1x1024) (ix2 0 j) = _
  pointwise

/-- What point `t` stores is its rows of the result. -/
theorem block_apply (t : Fin grid0.N) (r : Fin 1024) (q : Fin 1280) :
    out0_5 (F := Ideal) (iblk m c 0 t) (iblk m c 1 t) (iblk m c 2 t) (iblk m c 3 t) (iblk m c 4 t) (ix3 0 r q) = resultAt m c (batchAt t) (rowAt t r) q := by
  refine (out_apply (iblk m c 0 t) (iblk m c 1 t) (iblk m c 2 t) (iblk m c 3 t) (iblk m c 4 t) r q).trans ?_
  have e0 : (fun j => (iblk m c 0 t : Vec Ideal S1x1024x1024 .f32) (ix3 0 r j)) = fun j => (m ((c.tc : Thread nD τ).loc main_arg0) : Vec Ideal S8x2048x1024 .f32) (ix3 (batchAt t) (rowAt t r) j) :=
    funext fun j => (congrArg (V m c main_arg0 : Vec Ideal S8x2048x1024 .f32) (rows_eq t r j _ rfl rfl rfl)).trans (congrFun (V_main_arg0 m c) _)
  have e1 : (fun j => (iblk m c 1 t : Vec Ideal S1x1024 .f32) (ix2 0 j)) = fun j => (m ((c.tc : Thread nD τ).loc main_arg1) : Vec Ideal S1024 .f32) (ix1 j) :=
    funext fun j => (congrArg (V m c main_v1 : Vec Ideal S1x1024 .f32) (whole_eq 0 j _ rfl rfl)).trans (V_nw m c j)
  have e2 : (fun j => (iblk m c 2 t : Vec Ideal S1x1x1024 .f32) (ix3 0 0 j)) = fun j => (m ((c.tc : Thread nD τ).loc main_arg2) : Vec Ideal S8x1x1024 .f32) (ix3 (batchAt t) 0 j) :=
    funext fun j => (congrArg (V m c main_arg2 : Vec Ideal S8x1x1024 .f32) (batch_eq t j _ rfl rfl)).trans (congrFun (V_main_arg2 m c) _)
  have e3 : (fun j => (iblk m c 3 t : Vec Ideal S1x1x1024 .f32) (ix3 0 0 j)) = fun j => (m ((c.tc : Thread nD τ).loc main_arg3) : Vec Ideal S8x1x1024 .f32) (ix3 (batchAt t) 0 j) :=
    funext fun j => (congrArg (V m c main_arg3 : Vec Ideal S8x1x1024 .f32) (batch_eq t j _ rfl rfl)).trans (congrFun (V_main_arg3 m c) _)
  have e4 : (fun j => (iblk m c 4 t : Vec Ideal S1024x1280 .bf16) (ix2 j q)) = fun j => (m ((c.tc : Thread nD τ).loc main_arg4) : Vec Ideal S1024x1280 .f32) (ix2 j q) :=
    funext fun j => congrArg (V m c main_v0 : Vec Ideal S1024x1280 .bf16) (whole_eq j q _ rfl rfl)
  unfold storedAt resultAt
  rw [← e0, ← e1, ← e2, ← e3, ← e4]

/-- The array that the points' blocks make up. -/
theorem arr_result : (dats m 0 c).arrAt 5 cfg0.N = result m c := by
  refine (dats m 0 c).arrAt_eq_of_emb 5 (result m c) (fun t _ (y : S1x1024x1280.Idx) => ?_) fun (i : S8x2048x1280.Idx) => ?_
  · obtain ⟨r, q, rfl⟩ := block_idx y
    refine Eq.trans ?_ (congrArg (result m c) (rows_emb t r q)).symm
    exact (congrFun (after0_5 m c t) _).trans (block_apply m c t r q)
  · obtain ⟨b, R, q, rfl⟩ := array_idx i
    obtain ⟨t, r, rfl, rfl⟩ := exists_point b R
    exact ⟨t, flush0_5 t, rows_emb t r q ▸ (win0_5.blk t).view.emb_mem_set _⟩

theorem reference_frame : Cert.quiescent_Reference3Ideal (hReference3Ideal := Cert.Reference3Ideal.Gen.facts) :=
  fun m ρ _ => (θ_run Cert.Reference3Ideal.defs _ _).mono (fun r h => ⟨fun c => (h c).2, sem_eq_zero_of_no_sems (by decide) r.2⟩)
    (Cert.Reference3Ideal.Value.run m ρ)

/-- Over the extended reals the kernel and the reference end with equal results. -/
theorem equal : Cert.algebraic_Kernel3Ideal_Reference3Ideal (hKernel3Ideal := Gen.facts) (hReference3Ideal := Cert.Reference3Ideal.Gen.facts) := by
  intro m ρ m' ρ' _ hargs
  refine ⟨fun c => result m c, ?_, ?_⟩
  · exact (θ_run Cert.Kernel3Ideal.defs _ _).mono (fun r hr c => ⟨(hr c).1.trans (arr_result m c), (hr c).2⟩) (Cert.Kernel3Ideal.Value.run_blocks m ρ)
  · refine (θ_run Cert.Reference3Ideal.defs _ _).mono (fun r hr c => ⟨(hr c).1.trans ?_, (hr c).2⟩) (Cert.Reference3Ideal.Value.run m' ρ')
    obtain ⟨e0, e1, e2, e3, e4⟩ := hargs c
    rw [e0, e1, e2, e3, e4]
    funext (i : S8x2048x1280.Idx)
    obtain ⟨b, R, q, rfl⟩ := array_idx i
    pointwise
    rfl

end Cert.Kernel3Ideal.Proj

end
-- ==== Proof.Proj.Out.lean ====
/-
  The even layer's output projection: over the extended reals a point's rows are the residual plus the gate times the two
  products, which are one product of the joined rows.
-/
module

public import proofs.«01_k».proof.Defs
public import proofs.«01_k».proof.Proof.Grid
public import proofs.«01_k».proof.Proof.Sums
public import proofs.«01_k».proof.Proof.Gen.Kernel4Ideal.Value
public import proofs.«01_k».proof.Proof.Gen.Reference4Ideal.Run
public import Idealize.ShloMosaic.Lib.Pipeline.ValueKit.Basic

@[expose] public section

set_option maxRecDepth 16384

noncomputable section

namespace Cert.Kernel4Ideal.Proj

open Cert.Kernel4Ideal.Gen Cert.Sums Cert.Halves
open Idealize.ShloMosaic Idealize.ShloMosaic.TcCoe Idealize.SL.Sem

/-- The residual `x`, plus the gate `g` times the product of the joined rows `a1`, `a2` with `w`'s column. -/
def joined (a1 a2 : Fin 512 → EReal) (w : Fin 1024 → EReal) (x g : EReal) : EReal :=
  x + g * ((∑ k : Fin 512, a1 k * w ⟨k.val, by omega⟩) + ∑ k : Fin 512, a2 k * w ⟨512 + k.val, by omega⟩)

/-- What a point stores. -/
theorem out_apply (x0 x1 : Vec Ideal S1x1024x512 .bf16) (x2 : Vec Ideal S1024x1024 .bf16) (x3 : Vec Ideal S1x1024x1024 .f32) (x4 : Vec Ideal S1x1x1024 .f32)
    (r q : Fin 1024) : out0_5 (F := Ideal) x0 x1 x2 x3 x4 (ix3 0 r q)
      = joined (fun k => x0 (ix3 0 r k)) (fun k => x1 (ix3 0 r k)) (fun k => x2 (ix2 k q)) (x3 (ix3 0 r q)) (x4 (ix3 0 0 q)) := by
  have z3 : ∀ a, (![0, 0, 0] : Fin 3 → ℕ) a = 0 := by decide
  unfold out0_5
  rw [View.canon_cons_unit_lit _ _ _ z3, View.ld_unit_lit _ x0 z3, View.ld_unit_lit _ x1 z3, View.ld_unit_lit _ x3 z3, View.ld_unit_lit _ x4 z3]
  unfold k0_pay1 joined
  pointwise

variable (m : (ℓ : Loc nD τ sig) → Buf (Elt Ideal) ℓ) (c : Dev nD)

/-- The result at batch `b`, row `R`, column `q`. -/
def resultAt (b : Fin 8) (R : Fin 2048) (q : Fin 1024) : EReal := joined
  (fun k => (m ((c.tc : Thread nD τ).loc main_arg0) : Vec Ideal S8x2048x512 .bf16) (ix3 b R k))
  (fun k => (m ((c.tc : Thread nD τ).loc main_arg1) : Vec Ideal S8x2048x512 .bf16) (ix3 b R k))
  (fun k => (m ((c.tc : Thread nD τ).loc main_arg2) : Vec Ideal S1024x1024 .f32) (ix2 k q))
  ((m ((c.tc : Thread nD τ).loc main_arg3) : Vec Ideal S8x2048x1024 .f32) (ix3 b R q))
  ((m ((c.tc : Thread nD τ).loc main_arg4) : Vec Ideal S8x1x1024 .f32) (ix3 b 0 q))

def result : Vec Ideal S8x2048x1024 .f32 := fun i => resultAt m c (i 0) (i 1) (i 2)

theorem rows_emb (t : Fin grid0.N) (r q : Fin 1024) :
    (win0_5.blk t).view.emb (ix3 0 r q : S1x1024x1024.Idx) = (ix3 (batchAt t) (rowAt t r) q : S8x2048x1024.Idx) := rows_eq t r q _ rfl rfl rfl

/-- What point `t` stores is its rows of the result. -/
theorem block_apply (t : Fin grid0.N) (r q : Fin 1024) :
    out0_5 (F := Ideal) (iblk m c 0 t) (iblk m c 1 t) (iblk m c 2 t) (iblk m c 3 t) (iblk m c 4 t) (ix3 0 r q) = resultAt m c (batchAt t) (rowAt t r) q := by
  refine (out_apply (iblk m c 0 t) (iblk m c 1 t) (iblk m c 2 t) (iblk m c 3 t) (iblk m c 4 t) r q).trans ?_
  have e0 : (fun k => (iblk m c 0 t : Vec Ideal S1x1024x512 .bf16) (ix3 0 r k)) = fun k => (m ((c.tc : Thread nD τ).loc main_arg0) : Vec Ideal S8x2048x512 .bf16) (ix3 (batchAt t) (rowAt t r) k) :=
    funext fun k => (congrArg (V m c main_arg0 : Vec Ideal S8x2048x512 .bf16) (rows_eq t r k _ rfl rfl rfl)).trans (congrFun (V_main_arg0 m c) _)
  have e1 : (fun k => (iblk m c 1 t : Vec Ideal S1x1024x512 .bf16) (ix3 0 r k)) = fun k => (m ((c.tc : Thread nD τ).loc main_arg1) : Vec Ideal S8x2048x512 .bf16) (ix3 (batchAt t) (rowAt t r) k) :=
    funext fun k => (congrArg (V m c main_arg1 : Vec Ideal S8x2048x512 .bf16) (rows_eq t r k _ rfl rfl rfl)).trans (congrFun (V_main_arg1 m c) _)
  have e2 : (fun k => (iblk m c 2 t : Vec Ideal S1024x1024 .bf16) (ix2 k q)) = fun k => (m ((c.tc : Thread nD τ).loc main_arg2) : Vec Ideal S1024x1024 .f32) (ix2 k q) :=
    funext fun k => congrArg (V m c main_v0 : Vec Ideal S1024x1024 .bf16) (whole_eq k q _ rfl rfl)
  have e3 : (iblk m c 3 t : Vec Ideal S1x1024x1024 .f32) (ix3 0 r q) = (m ((c.tc : Thread nD τ).loc main_arg3) : Vec Ideal S8x2048x1024 .f32) (ix3 (batchAt t) (rowAt t r) q) :=
    (congrArg (V m c main_arg3 : Vec Ideal S8x2048x1024 .f32) (rows_emb t r q)).trans (congrFun (V_main_arg3 m c) _)
  have e4 : (iblk m c 4 t : Vec Ideal S1x1x1024 .f32) (ix3 0 0 q) = (m ((c.tc : Thread nD τ).loc main_arg4) : Vec Ideal S8x1x1024 .f32) (ix3 (batchAt t) 0 q) :=
    (congrArg (V m c main_arg4 : Vec Ideal S8x1x1024 .f32) (batch_eq t q _ rfl rfl)).trans (congrFun (V_main_arg4 m c) _)
  unfold resultAt
  rw [← e0, ← e1, ← e2, ← e3, ← e4]

/-- The array that the points' blocks make up. -/
theorem arr_result : (dats m 0 c).arrAt 5 cfg0.N = result m c := by
  refine (dats m 0 c).arrAt_eq_of_emb 5 (result m c) (fun t _ (y : S1x1024x1024.Idx) => ?_) fun (i : S8x2048x1024.Idx) => ?_
  · obtain ⟨r, q, rfl⟩ := block_idx y
    refine Eq.trans ?_ (congrArg (result m c) (rows_emb t r q)).symm
    exact (congrFun (after0_5 m c t) _).trans (block_apply m c t r q)
  · obtain ⟨b, R, q, rfl⟩ := array_idx i
    obtain ⟨t, r, rfl, rfl⟩ := exists_point b R
    exact ⟨t, flush0_5 t, rows_emb t r q ▸ (win0_5.blk t).view.emb_mem_set _⟩

/-- The reference's result. -/
theorem reference_apply (a1 a2 : FVec Ideal S8x2048x512 .bf16) (w : FVec Ideal S1024x1024 .f32) (x : FVec Ideal S8x2048x1024 .f32) (g : FVec Ideal S8x1x1024 .f32)
    (b : Fin 8) (R : Fin 2048) (q : Fin 1024) :
    addf x (mulf (broadcastInDim Cert.Reference4Ideal.S8x2048x1024 ![0, 1, 2] Cert.Reference4Ideal.Gen.bcast_S8x1x1024_S8x2048x1024_0_1_2 g)
      (Host.dotGeneral Cert.Reference4Ideal.dot_S8x2048x1024_S1024x1024_S8x2048x1024_2_0_01_1_n_n none
        (concatenate Cert.Reference4Ideal.S8x2048x1024 2 [⟨S8x2048x512, extf .f32 a1 Cert.Reference4Ideal.Gen.bitsLt_bf16_f32⟩, ⟨S8x2048x512, extf .f32 a2 Cert.Reference4Ideal.Gen.bitsLt_bf16_f32⟩]
          Cert.Reference4Ideal.Gen.concatenates_S8x2048x512_S8x2048x512_S8x2048x1024_d2) w)) (ix3 b R q)
      = joined (fun k => a1 (ix3 b R k)) (fun k => a2 (ix3 b R k)) (fun k => w (ix2 k q)) (x (ix3 b R q)) (g (ix3 b 0 q)) := by
  pointwise
  rfl

theorem reference_frame : Cert.quiescent_Reference4Ideal (hReference4Ideal := Cert.Reference4Ideal.Gen.facts) :=
  fun m ρ _ => (θ_run Cert.Reference4Ideal.defs _ _).mono (fun r h => ⟨fun c => (h c).2, sem_eq_zero_of_no_sems (by decide) r.2⟩)
    (Cert.Reference4Ideal.Value.run m ρ)

/-- Over the extended reals the kernel and the reference end with equal results. -/
theorem equal : Cert.algebraic_Kernel4Ideal_Reference4Ideal (hKernel4Ideal := Gen.facts) (hReference4Ideal := Cert.Reference4Ideal.Gen.facts) := by
  intro m ρ m' ρ' _ hargs
  refine ⟨fun c => result m c, ?_, ?_⟩
  · exact (θ_run Cert.Kernel4Ideal.defs _ _).mono (fun r hr c => ⟨(hr c).1.trans (arr_result m c), (hr c).2⟩) (Cert.Kernel4Ideal.Value.run_blocks m ρ)
  · refine (θ_run Cert.Reference4Ideal.defs _ _).mono (fun r hr c => ⟨(hr c).1.trans ?_, (hr c).2⟩) (Cert.Reference4Ideal.Value.run m' ρ')
    obtain ⟨e0, e1, e2, e3, e4⟩ := hargs c
    funext (i : S8x2048x1024.Idx)
    obtain ⟨b, R, q, rfl⟩ := array_idx i
    refine (reference_apply _ _ _ _ _ b R q).trans ?_
    show _ = resultAt m c b R q
    unfold resultAt
    rw [e0, e1, e2, e3, e4]

end Cert.Kernel4Ideal.Proj

end
-- ==== Proof.Conv.Rows.lean ====
/-
  The odd layer's input projection and convolution as plain sums of its arguments' entries.
-/
module

public import proofs.«01_k».proof.Proof.Sums
public import Idealize.ShloMosaic.Lib.Pointwise

@[expose] public section

noncomputable section

namespace Cert.Rows

open Cert.Sums
open Idealize.ShloMosaic

/-- `a` times its logistic. -/
def silu (a : EReal) : EReal := a * Ideal.div 1 (1 + Ideal.exp (0 - a))

/-- Five entries weighted and added to a bias, through the gate. -/
def tapped (b p0 p1 p2 p3 p4 c0 c1 c2 c3 c4 : EReal) : EReal := silu (b + p0 * c0 + p1 * c1 + p2 * c2 + p3 * c3 + p4 * c4)

/-- The same with the bias added last and the gate's argument negated. -/
theorem tapped_eq (b p0 p1 p2 p3 p4 c0 c1 c2 c3 c4 a : EReal) (h : a = p0 * c0 + p1 * c1 + p2 * c2 + p3 * c3 + p4 * c4 + b) :
    a * Ideal.div 1 (1 + Ideal.exp (-a)) = tapped b p0 p1 p2 p3 p4 c0 c1 c2 c3 c4 := by
  have e : a = b + p0 * c0 + p1 * c1 + p2 * c2 + p3 * c3 + p4 * c4 := by rw [h, add_comm _ b]; simp only [add_assoc]
  unfold tapped silu
  rw [zero_sub, ← e]

variable (x : Vec Ideal ⟨3, ![8, 2048, 1024]⟩ .f32) (nw : Vec Ideal ⟨1, ![1024]⟩ .f32) (sh sc : Vec Ideal ⟨3, ![8, 1, 1024]⟩ .f32)
variable (w : Vec Ideal ⟨2, ![1024, 5184]⟩ .f32) (cw : Vec Ideal ⟨2, ![5, 3072]⟩ .f32) (cb : Vec Ideal ⟨1, ![3072]⟩ .f32)

/-- Batch `b`'s row `R`, normalised and modulated. -/
def normRow (b : Fin 8) (R : Fin 2048) : Fin 1024 → EReal :=
  normed (fun j => x (ix3 b R j)) (fun j => nw (ix1 j)) (fun j => sh (ix3 b 0 j)) (fun j => sc (ix3 b 0 j))

/-- Its product with column `q` of the weights. -/
def projected (b : Fin 8) (R : Fin 2048) (q : Fin 5184) : EReal := ∑ j, normRow x nw sh sc b R j * w (ix2 j q)

/-- The same for the rows with two rows of zeros before them and after them, which `g` counts. -/
def padded (b : Fin 8) (g : ℕ) (q : Fin 5184) : EReal := if h : 2 ≤ g ∧ g - 2 < 2048 then projected x nw sh sc w b ⟨g - 2, h.2⟩ q else 0

theorem padded_eq (b : Fin 8) (g : ℕ) (q : Fin 5184) {P : Prop} [Decidable P] (hP : P ↔ 2 ≤ g ∧ g - 2 < 2048) (i : P → Fin 2048) (hi : ∀ h, (i h).val = g - 2)
    (z : EReal) (hz : z = 0) : (if h : P then projected x nw sh sc w b (i h) q else z) = padded x nw sh sc w b g q := by
  unfold padded
  by_cases h : P
  · rw [dif_pos h, dif_pos (hP.1 h)]
    exact congrArg (projected x nw sh sc w b · q) (Fin.ext (hi h))
  · rw [dif_neg h, dif_neg (fun h' => h (hP.2 h')), hz]

/-- The convolution at row `R` and column `Q`. -/
def convolved (b : Fin 8) (R : Fin 2048) (Q : Fin 3072) : EReal :=
  tapped (cb (ix1 Q)) (padded x nw sh sc w b R.val ⟨2048 + Q.val, by omega⟩) (padded x nw sh sc w b (1 + R.val) ⟨2048 + Q.val, by omega⟩)
    (padded x nw sh sc w b (2 + R.val) ⟨2048 + Q.val, by omega⟩) (padded x nw sh sc w b (3 + R.val) ⟨2048 + Q.val, by omega⟩)
    (padded x nw sh sc w b (4 + R.val) ⟨2048 + Q.val, by omega⟩) (cw (ix2 0 Q)) (cw (ix2 1 Q)) (cw (ix2 2 Q)) (cw (ix2 3 Q)) (cw (ix2 4 Q))

end Cert.Rows

end
-- ==== Proof.Conv.Pay.lean ====
/-
  The odd layer's input projection and convolution: the pieces of one point's body over the extended reals, entry by entry.
-/
module

public import proofs.«01_k».proof.Proof.Gen.Kernel5Ideal.Skeleton
public import proofs.«01_k».proof.Proof.Conv.Rows
public import Idealize.ShloMosaic.Lib.Pointwise

@[expose] public section

set_option maxRecDepth 16384

noncomputable section

namespace Cert.Kernel5Ideal.Conv

open Cert.Kernel5Ideal.Gen Cert.Sums Cert.Rows
open Idealize.ShloMosaic
open Idealize.SL.Sem

/-- The normalised and modulated rows of the point. -/
theorem rows_apply (x0 : Vec Ideal S1x1024x1024 .f32) (nw : Vec Ideal S1x1024 .f32) (sh sc : Vec Ideal S1x1x1024 .f32) (r j : Fin 1024) :
    k0_pay3 (F := Ideal) x0 nw sh sc (ix2 r j)
      = normed (fun j => x0 (ix3 0 r j)) (fun j => nw (ix2 0 j)) (fun j => sh (ix3 0 0 j)) (fun j => sc (ix3 0 0 j)) j := by
  unfold k0_pay3
  pointwise
  rfl

/-- The sixteen rows before the point's, which count as zero where `f` says so. -/
theorem before_apply (f : BitVec 1) (x1 : Vec Ideal S1x16x1024 .f32) (nw : Vec Ideal S1x1024 .f32) (sh sc : Vec Ideal S1x1x1024 .f32) (e : Fin 16) (j : Fin 1024) :
    k0_pay7 (F := Ideal) f (k0_pay4 x1) (k0_pay5 nw) (k0_pay6 sh) sc (ix2 e j)
      = if f = 1#1 then 0 else normed (fun j => x1 (ix3 0 e j)) (fun j => nw (ix2 0 j)) (fun j => sh (ix3 0 0 j)) (fun j => sc (ix3 0 0 j)) j := by
  unfold k0_pay7 k0_pay4 k0_pay5 k0_pay6
  pointwise
  rfl

/-- All rows that a point works on: the sixteen before, its own, and the sixteen after. -/
def extended (f g : BitVec 1) (x0 : Vec Ideal S1x1024x1024 .f32) (x1 x2 : Vec Ideal S1x16x1024 .f32) (nw : Vec Ideal S1x1024 .f32) (sh sc : Vec Ideal S1x1x1024 .f32) :
    FVec Ideal S1056x1024 .bf16 :=
  k0_pay13 (k0_pay3 x0 nw sh sc) (k0_pay7 f (k0_pay4 x1) (k0_pay5 nw) (k0_pay6 sh) sc) g (k0_pay8 x2) (k0_pay9 nw) (k0_pay10 sh) (k0_pay11 sc) (k0_pay12 x2)
    (Scalar.ofBits .f32 0x358637BD#32)

theorem extended_apply (f g : BitVec 1) (x0 : Vec Ideal S1x1024x1024 .f32) (x1 x2 : Vec Ideal S1x16x1024 .f32) (nw : Vec Ideal S1x1024 .f32) (sh sc : Vec Ideal S1x1x1024 .f32)
    (e : Fin 1056) (j : Fin 1024) : extended f g x0 x1 x2 nw sh sc (ix2 e j)
      = if h : e.val < 16 then
          if f = 1#1 then 0 else normed (fun j => x1 (ix3 0 ⟨e.val, h⟩ j)) (fun j => nw (ix2 0 j)) (fun j => sh (ix3 0 0 j)) (fun j => sc (ix3 0 0 j)) j
        else if h' : e.val - 16 < 1024 then
          normed (fun j => x0 (ix3 0 ⟨e.val - 16, h'⟩ j)) (fun j => nw (ix2 0 j)) (fun j => sh (ix3 0 0 j)) (fun j => sc (ix3 0 0 j)) j
        else if g = 1#1 then 0
        else normed (fun j => x2 (ix3 0 ⟨e.val - 16 - 1024, by omega⟩ j)) (fun j => nw (ix2 0 j)) (fun j => sh (ix3 0 0 j)) (fun j => sc (ix3 0 0 j)) j := by
  unfold extended k0_pay13
  pointwise
  refine dite_congr rfl (fun _ => before_apply _ _ _ _ _ _ _) (fun _ => dite_congr rfl (fun _ => rows_apply _ _ _ _ _ _) (fun _ => ?_))
  unfold k0_pay9 k0_pay10 k0_pay11 k0_pay12
  pointwise
  unfold k0_pay8
  pointwise
  rfl

/-- A product of the rows with 256 columns. -/
theorem columns_apply (h : FVec Ideal S1056x1024 .bf16) (w : Vec Ideal S1024x256 .bf16) (e : Fin 1056) (k : Fin 256) :
    k0_pay26 (F := Ideal) h w (ix2 e k) = ∑ j : Fin 1024, h (ix2 e j) * w (ix2 j k) := by
  unfold k0_pay26
  pointwise
theorem plain_apply (h : FVec Ideal S1024x1024 .bf16) (w : Vec Ideal S1024x256 .bf16) (r : Fin 1024) (k : Fin 256) :
    k0_pay27 (F := Ideal) h w (ix3 0 r k) = ∑ j : Fin 1024, h (ix2 r j) * w (ix2 j k) := by
  unfold k0_pay27
  pointwise
theorem steps_apply (h : FVec Ideal S1024x1024 .bf16) (w : Vec Ideal S64x1024 .bf16) (k : Fin 64) (r : Fin 1024) :
    k0_pay2 (F := Ideal) h w (ix3 0 k r) = ∑ j : Fin 1024, w (ix2 k j) * h (ix2 r j) := by
  unfold k0_pay2
  pointwise

/-- The convolution of 256 columns, at a row: its neighbours two before to two after. -/
theorem taps_apply (p : FVec Ideal S1056x256 .f32) (cb c0 c1 c2 c3 c4 : Vec Ideal S1x256 .f32) (r : Fin 1024) (k : Fin 256) :
    k0_pay29 (F := Ideal) p (k0_pay28 p cb c0) c1 c2 c3 c4 (ix3 0 r k)
      = tapped (cb (ix2 0 k)) (p (ix2 ⟨r.val + 14, by omega⟩ k)) (p (ix2 ⟨r.val + 15, by omega⟩ k)) (p (ix2 ⟨r.val + 16, by omega⟩ k)) (p (ix2 ⟨r.val + 17, by omega⟩ k))
        (p (ix2 ⟨r.val + 18, by omega⟩ k)) (c0 (ix2 0 k)) (c1 (ix2 0 k)) (c2 (ix2 0 k)) (c3 (ix2 0 k)) (c4 (ix2 0 k)) := by
  have e0 : (16 + r.val + 1056 - 2) % 1056 = r.val + 14 := by omega
  have e1 : (16 + r.val + 1056 - 1) % 1056 = r.val + 15 := by omega
  have e2 : 16 + r.val = r.val + 16 := by omega
  have e3 : (16 + r.val + 1056 - 1055) % 1056 = r.val + 17 := by omega
  have e4 : (16 + r.val + 1056 - 1054) % 1056 = r.val + 18 := by omega
  unfold k0_pay29 k0_pay28
  pointwise
  simp only [e0, e1, e3, e4]
  simp only [e2]
  rfl

end Cert.Kernel5Ideal.Conv

end
-- ==== Proof.Conv.Body.lean ====
/-
  What one point of the odd layer's input projection stores, as plain functions of its blocks: for each of the four
  results, the pieces of columns that make it up.
-/
module

public import proofs.«01_k».proof.Proof.Gen.Kernel5Ideal.Frame
public import proofs.«01_k».proof.Proof.Conv.Pay
public import Idealize.ShloMosaic.Lib.VecWindow
public import Idealize.ShloMosaic.Lib.Pipeline.ValueKit.Basic
public import Idealize.ShloMosaic.Lib.Pipeline.ValueKit.Tiles

@[expose] public section

set_option maxRecDepth 16384

noncomputable section

namespace Cert.Kernel5Ideal.Conv

open Cert.Kernel5Ideal.Gen
open Idealize.ShloMosaic Idealize.ShloMosaic.TcCoe Idealize.ShloMosaic.Tactic
open Idealize.SL.Sem

theorem load_unread {F : FTy → Type} {S : Shape} {e : EltTy} (M : Memref sig .tc .vmem S e) (h : M.IsWhole) (X : S.Idx → Elt F e) (r : Rect S) :
    M.view.readAt (Elt F) r.toLoadRect (h.unread X) = View.ld X r := by
  rw [View.readAt_eq_ld, h.read_unread]

/-- A load of a whole buffer reads what it holds. -/
theorem load3 {e : EltTy} (X : S1x1024x1024.Idx → Elt Ideal e) :
    View.ld X (Rect.unit (s := S1x1024x1024) ![0, 0, 0] ![1, 1024, 1024] inb_S1x1024x1024_S1x1024x1024_0_0_0) = X :=
  View.ld_unit_lit inb_S1x1024x1024_S1x1024x1024_0_0_0 X (by decide)
theorem load2 {e : EltTy} (X : S1x1024.Idx → Elt Ideal e) :
    View.ld X (Rect.unit (s := S1x1024) ![0, 0] ![1, 1024] inb_S1x1024_S1x1024_0_0) = X :=
  View.ld_unit_lit inb_S1x1024_S1x1024_0_0 X (by decide)
theorem loadv {e : EltTy} (X : S1x1x1024.Idx → Elt Ideal e) :
    View.ld X (Rect.unit (s := S1x1x1024) ![0, 0, 0] ![1, 1, 1024] inb_S1x1x1024_S1x1x1024_0_0_0) = X :=
  View.ld_unit_lit inb_S1x1x1024_S1x1x1024_0_0_0 X (by decide)
theorem loadh {e : EltTy} (X : S1x16x1024.Idx → Elt Ideal e) :
    View.ld X (Rect.unit (s := S1x16x1024) ![0, 0, 0] ![1, 16, 1024] inb_S1x16x1024_S1x16x1024_0_0_0) = X :=
  View.ld_unit_lit inb_S1x16x1024_S1x16x1024_0_0_0 X (by decide)
theorem loads {e : EltTy} (X : S64x1024.Idx → Elt Ideal e) :
    View.ld X (Rect.unit (s := S64x1024) ![0, 0] ![64, 1024] inb_S64x1024_S64x1024_0_0) = X :=
  View.ld_unit_lit inb_S64x1024_S64x1024_0_0 X (by decide)

theorem cols_inb (n : ℕ) (hn : n < 4) : ∀ a, (![0, 256 * n] : Fin 2 → ℕ) a + S1024x256.size a ≤ S1024x1024.size a
  | ⟨0, _⟩ => by show 0 + 1024 ≤ 1024; omega
  | ⟨1, _⟩ => by show 256 * n + 256 ≤ 1024; omega
theorem taps_inb (a n : ℕ) (ha : a < 5) (hn : n < 12) : ∀ b, (![a, 256 * n] : Fin 2 → ℕ) b + S1x256.size b ≤ S5x3072.size b
  | ⟨0, _⟩ => by show a + 1 ≤ 5; omega
  | ⟨1, _⟩ => by show 256 * n + 256 ≤ 3072; omega
theorem bias_inb (n : ℕ) (hn : n < 12) : ∀ b, (![0, 256 * n] : Fin 2 → ℕ) b + S1x256.size b ≤ S1x3072.size b
  | ⟨0, _⟩ => by show 0 + 1 ≤ 1; omega
  | ⟨1, _⟩ => by show 256 * n + 256 ≤ 3072; omega

/-- Chunk `n` of the columns of a block of the weights, of a row of the convolution's weights, and of its bias. -/
def colsAt (x : Vec Ideal S1024x1024 .bf16) (n : ℕ) (hn : n < 4) : Vec Ideal S1024x256 .bf16 :=
  View.ld x (Rect.unit (s := S1024x1024) ![0, 256 * n] S1024x256.size (cols_inb n hn))
def tapAt (x : Vec Ideal S5x3072 .f32) (a n : ℕ) (ha : a < 5) (hn : n < 12) : Vec Ideal S1x256 .f32 :=
  View.ld x (Rect.unit (s := S5x3072) ![a, 256 * n] S1x256.size (taps_inb a n ha hn))
def biasAt (x : Vec Ideal S1x3072 .f32) (n : ℕ) (hn : n < 12) : Vec Ideal S1x256 .f32 :=
  View.ld x (Rect.unit (s := S1x3072) ![0, 256 * n] S1x256.size (bias_inb n hn))

/-- The convolution of the columns `k` of a block of the weights, which are chunk `n` of all its columns. -/
def convAt (h : FVec Ideal S1056x1024 .bf16) (x : Vec Ideal S1024x1024 .bf16) (cw : Vec Ideal S5x3072 .f32) (cb : Vec Ideal S1x3072 .f32) (k n : ℕ) (hk : k < 4) (hn : n < 12) :
    Vec Ideal S1x1024x256 .f32 :=
  k0_pay29 (k0_pay26 h (colsAt x k hk)) (k0_pay28 (k0_pay26 h (colsAt x k hk)) (biasAt cb n hn) (tapAt cw 0 n (by decide) hn)) (tapAt cw 1 n (by decide) hn)
    (tapAt cw 2 n (by decide) hn) (tapAt cw 3 n (by decide) hn) (tapAt cw 4 n (by decide) hn)

/-- All rows that the point at `i` works on. -/
def rowsAt (i : grid0.Coords) (x0 : Vec Ideal S1x1024x1024 .f32) (x1 x2 : Vec Ideal S1x16x1024 .f32) (x3 : Vec Ideal S1x1024 .f32) (x4 x5 : Vec Ideal S1x1x1024 .f32) :
    FVec Ideal S1056x1024 .bf16 :=
  extended (Scalar.cmpi .eq (BitVec.ofNat 32 (i 1).val) 0#32) (Scalar.cmpi .eq (BitVec.ofNat 32 (i 1).val) 1#32) x0 x1 x2 x3 x4 x5

section
variable (c : Dev nD) (i : grid0.Coords)
variable (arg2 : Memref sig .tc .vmem S1x1024x1024 .f32) (harg2 : arg2.IsWhole)
variable (arg3 : Memref sig .tc .vmem S1x16x1024 .f32) (harg3 : arg3.IsWhole)
variable (arg4 : Memref sig .tc .vmem S1x16x1024 .f32) (harg4 : arg4.IsWhole)
variable (arg5 : Memref sig .tc .vmem S1x1024 .f32) (harg5 : arg5.IsWhole)
variable (arg6 : Memref sig .tc .vmem S1x1x1024 .f32) (harg6 : arg6.IsWhole)
variable (arg7 : Memref sig .tc .vmem S1x1x1024 .f32) (harg7 : arg7.IsWhole)
variable (arg8 : Memref sig .tc .vmem S1024x1024 .bf16) (harg8 : arg8.IsWhole)
variable (arg9 : Memref sig .tc .vmem S1024x1024 .bf16) (harg9 : arg9.IsWhole)
variable (arg10 : Memref sig .tc .vmem S1024x1024 .bf16) (harg10 : arg10.IsWhole)
variable (arg11 : Memref sig .tc .vmem S1024x1024 .bf16) (harg11 : arg11.IsWhole)
variable (arg12 : Memref sig .tc .vmem S1024x1024 .bf16) (harg12 : arg12.IsWhole)
variable (arg13 : Memref sig .tc .vmem S64x1024 .bf16) (harg13 : arg13.IsWhole)
variable (arg14 : Memref sig .tc .vmem S5x3072 .f32) (harg14 : arg14.IsWhole)
variable (arg15 : Memref sig .tc .vmem S1x3072 .f32) (harg15 : arg15.IsWhole)
variable (arg16 : Memref sig .tc .vmem S1x1024x2048 .bf16) (harg16 : arg16.IsWhole)
variable (arg17 : Memref sig .tc .vmem S1x1024x2048 .f32) (harg17 : arg17.IsWhole)
variable (arg18 : Memref sig .tc .vmem S1x1024x1024 .bf16) (harg18 : arg18.IsWhole)
variable (arg19 : Memref sig .tc .vmem S1x64x1024 .f32) (harg19 : arg19.IsWhole)
variable (x0 : Vec Ideal S1x1024x1024 .f32) (x1 x2 : Vec Ideal S1x16x1024 .f32) (x3 : Vec Ideal S1x1024 .f32) (x4 x5 : Vec Ideal S1x1x1024 .f32)
variable (x6 x7 x8 x9 x10 : Vec Ideal S1024x1024 .bf16) (x11 : Vec Ideal S64x1024 .bf16) (x12 : Vec Ideal S5x3072 .f32) (x13 : Vec Ideal S1x3072 .f32)

set_option maxHeartbeats 4000000 in
/-- The pieces that a point stores of its four results, the last first. -/
theorem pieces :
    (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1 =
      [⟨Rect.unit ![0, 0, 1792] ![1, 1024, 256] inb_S1x1024x2048_S1x1024x256_0_0_1792, k0_pay27 (k0_pay3 x0 x3 x4 x5) (colsAt x7 3 (by decide))⟩,
        ⟨Rect.unit ![0, 0, 1536] ![1, 1024, 256] inb_S1x1024x2048_S1x1024x256_0_0_1536, k0_pay27 (k0_pay3 x0 x3 x4 x5) (colsAt x7 2 (by decide))⟩,
        ⟨Rect.unit ![0, 0, 1280] ![1, 1024, 256] inb_S1x1024x2048_S1x1024x256_0_0_1280, k0_pay27 (k0_pay3 x0 x3 x4 x5) (colsAt x7 1 (by decide))⟩,
        ⟨Rect.unit ![0, 0, 1024] ![1, 1024, 256] inb_S1x1024x2048_S1x1024x256_0_0_1024, k0_pay27 (k0_pay3 x0 x3 x4 x5) (colsAt x7 0 (by decide))⟩,
        ⟨Rect.unit ![0, 0, 768] ![1, 1024, 256] inb_S1x1024x2048_S1x1024x256_0_0_768, k0_pay27 (k0_pay3 x0 x3 x4 x5) (colsAt x6 3 (by decide))⟩,
        ⟨Rect.unit ![0, 0, 512] ![1, 1024, 256] inb_S1x1024x2048_S1x1024x256_0_0_512, k0_pay27 (k0_pay3 x0 x3 x4 x5) (colsAt x6 2 (by decide))⟩,
        ⟨Rect.unit ![0, 0, 256] ![1, 1024, 256] inb_S1x1024x2048_S1x1024x256_0_0_256, k0_pay27 (k0_pay3 x0 x3 x4 x5) (colsAt x6 1 (by decide))⟩,
        ⟨Rect.unit ![0, 0, 0] ![1, 1024, 256] inb_S1x1024x2048_S1x1024x256_0_0_0, k0_pay27 (k0_pay3 x0 x3 x4 x5) (colsAt x6 0 (by decide))⟩]
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.1 =
      [⟨Rect.unit ![0, 0, 1792] ![1, 1024, 256] inb_S1x1024x2048_S1x1024x256_0_0_1792, convAt (rowsAt i x0 x1 x2 x3 x4 x5) x9 x12 x13 3 7 (by decide) (by decide)⟩,
        ⟨Rect.unit ![0, 0, 1536] ![1, 1024, 256] inb_S1x1024x2048_S1x1024x256_0_0_1536, convAt (rowsAt i x0 x1 x2 x3 x4 x5) x9 x12 x13 2 6 (by decide) (by decide)⟩,
        ⟨Rect.unit ![0, 0, 1280] ![1, 1024, 256] inb_S1x1024x2048_S1x1024x256_0_0_1280, convAt (rowsAt i x0 x1 x2 x3 x4 x5) x9 x12 x13 1 5 (by decide) (by decide)⟩,
        ⟨Rect.unit ![0, 0, 1024] ![1, 1024, 256] inb_S1x1024x2048_S1x1024x256_0_0_1024, convAt (rowsAt i x0 x1 x2 x3 x4 x5) x9 x12 x13 0 4 (by decide) (by decide)⟩,
        ⟨Rect.unit ![0, 0, 768] ![1, 1024, 256] inb_S1x1024x2048_S1x1024x256_0_0_768, convAt (rowsAt i x0 x1 x2 x3 x4 x5) x8 x12 x13 3 3 (by decide) (by decide)⟩,
        ⟨Rect.unit ![0, 0, 512] ![1, 1024, 256] inb_S1x1024x2048_S1x1024x256_0_0_512, convAt (rowsAt i x0 x1 x2 x3 x4 x5) x8 x12 x13 2 2 (by decide) (by decide)⟩,
        ⟨Rect.unit ![0, 0, 256] ![1, 1024, 256] inb_S1x1024x2048_S1x1024x256_0_0_256, convAt (rowsAt i x0 x1 x2 x3 x4 x5) x8 x12 x13 1 1 (by decide) (by decide)⟩,
        ⟨Rect.unit ![0, 0, 0] ![1, 1024, 256] inb_S1x1024x2048_S1x1024x256_0_0_0, convAt (rowsAt i x0 x1 x2 x3 x4 x5) x8 x12 x13 0 0 (by decide) (by decide)⟩]
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.2.1 =
      [⟨Rect.unit ![0, 0, 768] ![1, 1024, 256] inb_S1x1024x1024_S1x1024x256_0_0_768, convAt (rowsAt i x0 x1 x2 x3 x4 x5) x10 x12 x13 3 11 (by decide) (by decide)⟩,
        ⟨Rect.unit ![0, 0, 512] ![1, 1024, 256] inb_S1x1024x1024_S1x1024x256_0_0_512, convAt (rowsAt i x0 x1 x2 x3 x4 x5) x10 x12 x13 2 10 (by decide) (by decide)⟩,
        ⟨Rect.unit ![0, 0, 256] ![1, 1024, 256] inb_S1x1024x1024_S1x1024x256_0_0_256, convAt (rowsAt i x0 x1 x2 x3 x4 x5) x10 x12 x13 1 9 (by decide) (by decide)⟩,
        ⟨Rect.unit ![0, 0, 0] ![1, 1024, 256] inb_S1x1024x1024_S1x1024x256_0_0_0, convAt (rowsAt i x0 x1 x2 x3 x4 x5) x10 x12 x13 0 8 (by decide) (by decide)⟩]
    ∧ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.2.2.1 =
      [⟨Rect.unit ![0, 0, 0] ![1, 64, 1024] inb_S1x64x1024_S1x64x1024_0_0_0, k0_pay2 (k0_pay3 x0 x3 x4 x5) x11⟩] := by
  unfold kernelRun0_A
  dsimp only
  simp only [load_unread, load3, load2, loadv, loadh, loads, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.v27, kernelRun0_A.sl.v57, kernelRun0_A.sl.cst_42]
  exact ⟨rfl, rfl, rfl, trivial⟩

end

end Cert.Kernel5Ideal.Conv

end
-- ==== Proof.Conv.Stored.lean ====
/-
  What one point of the odd layer's input projection stores, entry by entry. The blocks of the weights are columns of one
  array of weights `W`.
-/
module

public import proofs.«01_k».proof.Proof.Conv.Body
public import proofs.«01_k».proof.Proof.Grid

@[expose] public section

set_option maxRecDepth 16384

noncomputable section

namespace Cert.Kernel5Ideal.Conv

open Cert.Kernel5Ideal.Gen Cert.Rows Cert.Halves
open Idealize.ShloMosaic Idealize.ShloMosaic.TcCoe Idealize.ShloMosaic.Tactic
open Idealize.SL.Sem

theorem colsAt_apply (x : Vec Ideal S1024x1024 .bf16) (n : ℕ) (hn : n < 4) (j : Fin 1024) (l : Fin 256) :
    colsAt x n hn (ix2 j l) = x (ix2 j ⟨256 * n + l.val, by omega⟩) :=
  congrArg x (whole_eq j ⟨256 * n + l.val, by omega⟩ _ (by show 0 + 1 * j.val = 0 * 1024 + 1 * j.val; omega)
    (by show 256 * n + 1 * l.val = 0 * 1024 + 1 * (256 * n + l.val); omega))
theorem tapAt_apply (x : Vec Ideal S5x3072 .f32) (a n : ℕ) (ha : a < 5) (hn : n < 12) (l : Fin 256) :
    tapAt x a n ha hn (ix2 0 l) = x (ix2 ⟨a, ha⟩ ⟨256 * n + l.val, by omega⟩) :=
  congrArg x (whole_eq ⟨a, ha⟩ ⟨256 * n + l.val, by omega⟩ _ (by show a + 1 * 0 = 0 * 5 + 1 * a; omega)
    (by show 256 * n + 1 * l.val = 0 * 3072 + 1 * (256 * n + l.val); omega))
theorem biasAt_apply (x : Vec Ideal S1x3072 .f32) (n : ℕ) (hn : n < 12) (l : Fin 256) :
    biasAt x n hn (ix2 0 l) = x (ix2 0 ⟨256 * n + l.val, by omega⟩) :=
  congrArg x (whole_eq 0 ⟨256 * n + l.val, by omega⟩ _ (by show 0 + 1 * 0 = 0 * 1 + 1 * 0; omega)
    (by show 256 * n + 1 * l.val = 0 * 3072 + 1 * (256 * n + l.val); omega))

/-- The convolution at the point's row `r` and column `Q`, from all rows that the point works on. -/
def convolvedAt (h : FVec Ideal S1056x1024 .bf16) (W : Fin 1024 → Fin 5184 → EReal) (cw : Vec Ideal S5x3072 .f32) (cb : Vec Ideal S1x3072 .f32) (r : Fin 1024) (Q : Fin 3072) : EReal :=
  let p (d : Fin 5) : EReal := ∑ j : Fin 1024, h (ix2 ⟨r.val + 14 + d.val, by omega⟩ j) * W j ⟨2048 + Q.val, by omega⟩
  tapped (cb (ix2 0 Q)) (p 0) (p 1) (p 2) (p 3) (p 4) (cw (ix2 0 Q)) (cw (ix2 1 Q)) (cw (ix2 2 Q)) (cw (ix2 3 Q)) (cw (ix2 4 Q))

section
variable (h : FVec Ideal S1056x1024 .bf16) (W : Fin 1024 → Fin 5184 → EReal) (x : Vec Ideal S1024x1024 .bf16) (cw : Vec Ideal S5x3072 .f32) (cb : Vec Ideal S1x3072 .f32)

theorem convAt_apply (k n : ℕ) (hk : k < 4) (hn : n < 12) (hx : ∀ (j : Fin 1024) (l : Fin 256), x (ix2 j ⟨256 * k + l.val, by omega⟩) = W j ⟨2048 + (256 * n + l.val), by omega⟩)
    (r : Fin 1024) (l : Fin 256) : convAt h x cw cb k n hk hn (ix3 0 r l) = convolvedAt h W cw cb r ⟨256 * n + l.val, by omega⟩ := by
  have e (d : Fin 1056) : k0_pay26 (F := Ideal) h (colsAt x k hk) (ix2 d l) = ∑ j : Fin 1024, h (ix2 d j) * W j ⟨2048 + (256 * n + l.val), by omega⟩ :=
    (columns_apply h _ d l).trans (Finset.sum_congr rfl fun j _ => congrArg (h (ix2 d j) * ·) ((colsAt_apply x k hk j l).trans (hx j l)))
  unfold convAt
  refine (taps_apply _ _ _ _ _ _ _ r l).trans ?_
  rw [e, e, e, e, e, biasAt_apply, tapAt_apply, tapAt_apply, tapAt_apply, tapAt_apply, tapAt_apply]
  rfl

/-- A chunk of the first 2048 convolved columns, and of the last 1024, holds the stored entries where it lies. -/
theorem xs_chunk (v k : ℕ) (hv : v < 2) (hk : k < 4) (hx : ∀ (j l : Fin 1024), x (ix2 j l) = W j ⟨2048 + 1024 * v + l.val, by omega⟩) (y : S1x1024x2048.Idx) :
    View.TileAt (Val := Elt Ideal) (S := S1x1024x2048) (e := .f32) y ![0, 0, 256 * (4 * v + k)] S1x1024x256.size
      (convAt h x cw cb k (4 * v + k) hk (by omega)) (convolvedAt h W cw cb (y 1) ⟨(y 2).val, by have := (y 2).isLt; change (y 2).val < 2048 at this; omega⟩) := by
  intro (b : S1x1024x256.Idx) hb
  obtain ⟨r, l, rfl⟩ := block_idx b
  have e1 : r = y 1 := Fin.ext (by have := hb 1; change (y 1).val = 0 + r.val at this; omega)
  have e2 : (y 2).val = 256 * (4 * v + k) + l.val := hb 2
  rw [← e1]
  refine (convAt_apply h W x cw cb k (4 * v + k) hk (by omega) (fun j l => (hx j _).trans (congrArg (W j) (Fin.ext ?_))) r l).trans
    (congrArg (convolvedAt h W cw cb r) (Fin.ext e2.symm))
  show 2048 + 1024 * v + (256 * k + l.val) = 2048 + (256 * (4 * v + k) + l.val)
  omega
theorem bc_chunk (k : ℕ) (hk : k < 4) (hx : ∀ (j l : Fin 1024), x (ix2 j l) = W j ⟨4096 + l.val, by omega⟩) (y : S1x1024x1024.Idx) :
    View.TileAt (Val := Elt Ideal) (S := S1x1024x1024) (e := .bf16) y ![0, 0, 256 * k] S1x1024x256.size
      (convAt h x cw cb k (8 + k) hk (by omega)) (convolvedAt h W cw cb (y 1) ⟨2048 + (y 2).val, by have := (y 2).isLt; change (y 2).val < 1024 at this; omega⟩) := by
  intro (b : S1x1024x256.Idx) hb
  obtain ⟨r, l, rfl⟩ := block_idx b
  have e1 : r = y 1 := Fin.ext (by have := hb 1; change (y 1).val = 0 + r.val at this; omega)
  have e2 : (y 2).val = 256 * k + l.val := hb 2
  rw [← e1]
  refine (convAt_apply h W x cw cb k (8 + k) hk (by omega) (fun j l => (hx j _).trans (congrArg (W j) (Fin.ext ?_))) r l).trans
    (congrArg (convolvedAt h W cw cb r) (Fin.ext ?_))
  · show 4096 + (256 * k + l.val) = 2048 + (256 * (8 + k) + l.val)
    omega
  · show 256 * (8 + k) + l.val = 2048 + (y 2).val
    omega

end

/-- A chunk of the plainly projected columns. -/
theorem z_chunk (h : FVec Ideal S1024x1024 .bf16) (W : Fin 1024 → Fin 5184 → EReal) (x : Vec Ideal S1024x1024 .bf16) (v k : ℕ) (hv : v < 2) (hk : k < 4)
    (hx : ∀ (j l : Fin 1024), x (ix2 j l) = W j ⟨1024 * v + l.val, by omega⟩) (y : S1x1024x2048.Idx) :
    View.TileAt (Val := Elt Ideal) (S := S1x1024x2048) (e := .bf16) y ![0, 0, 256 * (4 * v + k)] S1x1024x256.size
      (k0_pay27 (F := Ideal) h (colsAt x k hk)) (∑ j : Fin 1024, h (ix2 (y 1) j) * W j ⟨(y 2).val, by have := (y 2).isLt; change (y 2).val < 2048 at this; omega⟩) := by
  intro (b : S1x1024x256.Idx) hb
  obtain ⟨r, l, rfl⟩ := block_idx b
  have e1 : r = y 1 := Fin.ext (by have := hb 1; change (y 1).val = 0 + r.val at this; omega)
  have e2 : (y 2).val = 256 * (4 * v + k) + l.val := hb 2
  rw [← e1]
  have e (j : Fin 1024) : colsAt x k hk (ix2 j l) = W j ⟨(y 2).val, by omega⟩ :=
    (colsAt_apply x k hk j l).trans ((hx j _).trans (congrArg (W j) (Fin.ext (by show 1024 * v + (256 * k + l.val) = (y 2).val; omega))))
  exact (plain_apply h _ r l).trans (Finset.sum_congr rfl fun j _ => congrArg (h (ix2 r j) * ·) (e j))

section
variable {c : Dev nD} {i : grid0.Coords}
variable {arg2 : Memref sig .tc .vmem S1x1024x1024 .f32} {harg2 : arg2.IsWhole}
variable {arg3 : Memref sig .tc .vmem S1x16x1024 .f32} {harg3 : arg3.IsWhole}
variable {arg4 : Memref sig .tc .vmem S1x16x1024 .f32} {harg4 : arg4.IsWhole}
variable {arg5 : Memref sig .tc .vmem S1x1024 .f32} {harg5 : arg5.IsWhole}
variable {arg6 : Memref sig .tc .vmem S1x1x1024 .f32} {harg6 : arg6.IsWhole}
variable {arg7 : Memref sig .tc .vmem S1x1x1024 .f32} {harg7 : arg7.IsWhole}
variable {arg8 : Memref sig .tc .vmem S1024x1024 .bf16} {harg8 : arg8.IsWhole}
variable {arg9 : Memref sig .tc .vmem S1024x1024 .bf16} {harg9 : arg9.IsWhole}
variable {arg10 : Memref sig .tc .vmem S1024x1024 .bf16} {harg10 : arg10.IsWhole}
variable {arg11 : Memref sig .tc .vmem S1024x1024 .bf16} {harg11 : arg11.IsWhole}
variable {arg12 : Memref sig .tc .vmem S1024x1024 .bf16} {harg12 : arg12.IsWhole}
variable {arg13 : Memref sig .tc .vmem S64x1024 .bf16} {harg13 : arg13.IsWhole}
variable {arg14 : Memref sig .tc .vmem S5x3072 .f32} {harg14 : arg14.IsWhole}
variable {arg15 : Memref sig .tc .vmem S1x3072 .f32} {harg15 : arg15.IsWhole}
variable {arg16 : Memref sig .tc .vmem S1x1024x2048 .bf16} {harg16 : arg16.IsWhole}
variable {arg17 : Memref sig .tc .vmem S1x1024x2048 .f32} {harg17 : arg17.IsWhole}
variable {arg18 : Memref sig .tc .vmem S1x1024x1024 .bf16} {harg18 : arg18.IsWhole}
variable {arg19 : Memref sig .tc .vmem S1x64x1024 .f32} {harg19 : arg19.IsWhole}
variable {x0 : Vec Ideal S1x1024x1024 .f32} {x1 x2 : Vec Ideal S1x16x1024 .f32} {x3 : Vec Ideal S1x1024 .f32} {x4 x5 : Vec Ideal S1x1x1024 .f32}
variable {x6 x7 x8 x9 x10 : Vec Ideal S1024x1024 .bf16} {x11 : Vec Ideal S64x1024 .bf16} {x12 : Vec Ideal S5x3072 .f32} {x13 : Vec Ideal S1x3072 .f32}
variable {W : Fin 1024 → Fin 5184 → EReal}

theorem z_apply (h6 : ∀ (j l : Fin 1024), x6 (ix2 j l) = W j ⟨0 + l.val, by omega⟩) (h7 : ∀ (j l : Fin 1024), x7 (ix2 j l) = W j ⟨1024 + l.val, by omega⟩) (r : Fin 1024) (q : Fin 2048) :
    out0_A_14 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix3 0 r q)
      = ∑ j : Fin 1024, k0_pay3 (F := Ideal) x0 x3 x4 x5 (ix2 r j) * W j ⟨q.val, by omega⟩ := by
  unfold out0_A_14
  rw [View.read_writes_junk_eq_canon]
  refine View.canon_eq_of_allAt _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 _) ?_
  rw [(pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).1]
  exact View.allAt_cons_unit _ _ _ _ _ (z_chunk (k0_pay3 x0 x3 x4 x5) W x7 1 3 (by decide) (by decide) h7 _)
    (View.allAt_cons_unit _ _ _ _ _ (z_chunk (k0_pay3 x0 x3 x4 x5) W x7 1 2 (by decide) (by decide) h7 _)
    (View.allAt_cons_unit _ _ _ _ _ (z_chunk (k0_pay3 x0 x3 x4 x5) W x7 1 1 (by decide) (by decide) h7 _)
    (View.allAt_cons_unit _ _ _ _ _ (z_chunk (k0_pay3 x0 x3 x4 x5) W x7 1 0 (by decide) (by decide) h7 _)
    (View.allAt_cons_unit _ _ _ _ _ (z_chunk (k0_pay3 x0 x3 x4 x5) W x6 0 3 (by decide) (by decide) h6 _)
    (View.allAt_cons_unit _ _ _ _ _ (z_chunk (k0_pay3 x0 x3 x4 x5) W x6 0 2 (by decide) (by decide) h6 _)
    (View.allAt_cons_unit _ _ _ _ _ (z_chunk (k0_pay3 x0 x3 x4 x5) W x6 0 1 (by decide) (by decide) h6 _)
    (View.allAt_cons_unit _ _ _ _ _ (z_chunk (k0_pay3 x0 x3 x4 x5) W x6 0 0 (by decide) (by decide) h6 _)
    (View.allAt_nil _ _))))))))

theorem xs_apply (h8 : ∀ (j l : Fin 1024), x8 (ix2 j l) = W j ⟨2048 + l.val, by omega⟩) (h9 : ∀ (j l : Fin 1024), x9 (ix2 j l) = W j ⟨3072 + l.val, by omega⟩) (r : Fin 1024) (q : Fin 2048) :
    out0_A_15 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix3 0 r q)
      = convolvedAt (rowsAt i x0 x1 x2 x3 x4 x5) W x12 x13 r ⟨q.val, by omega⟩ := by
  unfold out0_A_15
  rw [View.read_writes_junk_eq_canon]
  refine View.canon_eq_of_allAt _ _ _ (cover0_A_15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 _) ?_
  rw [(pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.1]
  exact View.allAt_cons_unit _ _ _ _ _ (xs_chunk (rowsAt i x0 x1 x2 x3 x4 x5) W x9 x12 x13 1 3 (by decide) (by decide) h9 _)
    (View.allAt_cons_unit _ _ _ _ _ (xs_chunk (rowsAt i x0 x1 x2 x3 x4 x5) W x9 x12 x13 1 2 (by decide) (by decide) h9 _)
    (View.allAt_cons_unit _ _ _ _ _ (xs_chunk (rowsAt i x0 x1 x2 x3 x4 x5) W x9 x12 x13 1 1 (by decide) (by decide) h9 _)
    (View.allAt_cons_unit _ _ _ _ _ (xs_chunk (rowsAt i x0 x1 x2 x3 x4 x5) W x9 x12 x13 1 0 (by decide) (by decide) h9 _)
    (View.allAt_cons_unit _ _ _ _ _ (xs_chunk (rowsAt i x0 x1 x2 x3 x4 x5) W x8 x12 x13 0 3 (by decide) (by decide) h8 _)
    (View.allAt_cons_unit _ _ _ _ _ (xs_chunk (rowsAt i x0 x1 x2 x3 x4 x5) W x8 x12 x13 0 2 (by decide) (by decide) h8 _)
    (View.allAt_cons_unit _ _ _ _ _ (xs_chunk (rowsAt i x0 x1 x2 x3 x4 x5) W x8 x12 x13 0 1 (by decide) (by decide) h8 _)
    (View.allAt_cons_unit _ _ _ _ _ (xs_chunk (rowsAt i x0 x1 x2 x3 x4 x5) W x8 x12 x13 0 0 (by decide) (by decide) h8 _)
    (View.allAt_nil _ _))))))))

theorem bc_apply (h10 : ∀ (j l : Fin 1024), x10 (ix2 j l) = W j ⟨4096 + l.val, by omega⟩) (r : Fin 1024) (q : Fin 1024) :
    out0_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix3 0 r q)
      = convolvedAt (rowsAt i x0 x1 x2 x3 x4 x5) W x12 x13 r ⟨2048 + q.val, by omega⟩ := by
  unfold out0_A_16
  rw [View.read_writes_junk_eq_canon]
  refine View.canon_eq_of_allAt _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 _) ?_
  rw [(pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.2.1]
  exact View.allAt_cons_unit _ _ _ _ _ (bc_chunk (rowsAt i x0 x1 x2 x3 x4 x5) W x10 x12 x13 3 (by decide) h10 _)
    (View.allAt_cons_unit _ _ _ _ _ (bc_chunk (rowsAt i x0 x1 x2 x3 x4 x5) W x10 x12 x13 2 (by decide) h10 _)
    (View.allAt_cons_unit _ _ _ _ _ (bc_chunk (rowsAt i x0 x1 x2 x3 x4 x5) W x10 x12 x13 1 (by decide) h10 _)
    (View.allAt_cons_unit _ _ _ _ _ (bc_chunk (rowsAt i x0 x1 x2 x3 x4 x5) W x10 x12 x13 0 (by decide) h10 _)
    (View.allAt_nil _ _))))

theorem dt_apply (k : Fin 64) (r : Fin 1024) :
    out0_A_17 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 (ix3 0 k r)
      = ∑ j : Fin 1024, x11 (ix2 k j) * k0_pay3 (F := Ideal) x0 x3 x4 x5 (ix2 r j) := by
  unfold out0_A_17
  rw [(pieces c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13).2.2.2, View.read_writes_full VO0_17 _ inb_S1x64x1024_S1x64x1024_0_0_0 _ []]
  exact steps_apply _ _ k r

end

end Cert.Kernel5Ideal.Conv

end
-- ==== Proof.Conv.Value.lean ====
/-
  The odd layer's input projection and convolution: over the extended reals the four results that the grid's points make up
  are the plain sums of the arguments' entries.
-/
module

public import proofs.«01_k».proof.Proof.Conv.Stored
public import proofs.«01_k».proof.Proof.Gen.Kernel5Ideal.Value

@[expose] public section

set_option maxRecDepth 16384

noncomputable section

namespace Cert.Kernel5Ideal.Conv

open Cert.Kernel5Ideal.Gen Cert.Sums Cert.Rows Cert.Halves
open Idealize.ShloMosaic Idealize.ShloMosaic.TcCoe Idealize.SL.Sem

variable (m : (ℓ : Loc nD τ sig) → Buf (Elt Ideal) ℓ) (c : Dev nD)

/-! Where the blocks lie that the other projections don't have: 1024 columns of the weights, the sixteen rows before and
    after a point's own, and the transposed result. -/

theorem cols_eq (v : ℕ) (hv : v < 5) (j l : Fin 1024) (y : Shape.Idx ⟨2, ![1024, 5184]⟩) (h0 : (y 0).val = 0 * 1024 + 1 * j.val)
    (h1 : (y 1).val = v * 1024 + 1 * l.val) : y = ix2 j ⟨1024 * v + l.val, by omega⟩ := by
  refine funext fun a => Fin.ext ?_
  match a with
  | ⟨0, _⟩ => show (y 0).val = j.val; omega
  | ⟨1, _⟩ => show (y 1).val = 1024 * v + l.val; omega

theorem halo_eq (t : Fin grid0.N) (k : ℕ) (hk : k < 128) (e : Fin 16) (j : Fin 1024) (y : Shape.Idx ⟨3, ![8, 2048, 1024]⟩)
    (h0 : (y 0).val = (BitVec.ofNat 32 (grid0.coords t 0).val).toNat * 1 + 1 * 0) (h1 : (y 1).val = k * 16 + 1 * e.val)
    (h2 : (y 2).val = 0 * 1024 + 1 * j.val) : y = ix3 (batchAt t) ⟨16 * k + e.val, by omega⟩ j := by
  have ht : t.val < 16 := Nat.lt_of_lt_of_eq t.isLt points
  rw [show (grid0.coords t 0).val = t.val / 2 from coords0 t, BitVec.toNat_ofNat] at h0
  refine funext fun a => Fin.ext ?_
  match a with
  | ⟨0, _⟩ => show (y 0).val = t.val / 2; omega
  | ⟨1, _⟩ => show (y 1).val = 16 * k + e.val; omega
  | ⟨2, _⟩ => show (y 2).val = j.val; omega

theorem steps_eq (t : Fin grid0.N) (k : Fin 64) (r : Fin 1024) (y : Shape.Idx ⟨3, ![8, 64, 2048]⟩)
    (h0 : (y 0).val = (BitVec.ofNat 32 (grid0.coords t 0).val).toNat * 1 + 1 * 0) (h1 : (y 1).val = 0 * 64 + 1 * k.val)
    (h2 : (y 2).val = (BitVec.ofNat 32 (grid0.coords t 1).val).toNat * 1024 + 1 * r.val) : y = ix3 (batchAt t) k (rowAt t r) := by
  have ht : t.val < 16 := Nat.lt_of_lt_of_eq t.isLt points
  rw [show (grid0.coords t 0).val = t.val / 2 from coords0 t, BitVec.toNat_ofNat] at h0
  rw [show (grid0.coords t 1).val = t.val % 2 from coords1 t, BitVec.toNat_ofNat] at h2
  refine funext fun a => Fin.ext ?_
  match a with
  | ⟨0, _⟩ => show (y 0).val = t.val / 2; omega
  | ⟨1, _⟩ => show (y 1).val = k.val; omega
  | ⟨2, _⟩ => show (y 2).val = 1024 * (t.val % 2) + r.val; omega

/-! The blocks, as entries of the arguments. -/

theorem weights6 (t : Fin grid0.N) (j l : Fin 1024) : (X0_6 m c t : Vec Ideal S1024x1024 .bf16) (ix2 j l) = (m ((c.tc : Thread nD τ).loc main_arg4) : Vec Ideal S1024x5184 .f32) (ix2 j ⟨0 + l.val, by omega⟩) := by
  unfold X0_6 Pipeline.Window.fill
  rw [dif_pos (moved0_6 t _)]
  exact congrArg (V m c main_v0 : Vec Ideal S1024x5184 .bf16) (cols_eq 0 (by decide) j l _ rfl rfl)
theorem weights7 (t : Fin grid0.N) (j l : Fin 1024) : (X0_7 m c t : Vec Ideal S1024x1024 .bf16) (ix2 j l) = (m ((c.tc : Thread nD τ).loc main_arg4) : Vec Ideal S1024x5184 .f32) (ix2 j ⟨1024 + l.val, by omega⟩) := by
  unfold X0_7 Pipeline.Window.fill
  rw [dif_pos (moved0_7 t _)]
  exact congrArg (V m c main_v0 : Vec Ideal S1024x5184 .bf16) (cols_eq 1 (by decide) j l _ rfl rfl)
theorem weights8 (t : Fin grid0.N) (j l : Fin 1024) : (X0_8 m c t : Vec Ideal S1024x1024 .bf16) (ix2 j l) = (m ((c.tc : Thread nD τ).loc main_arg4) : Vec Ideal S1024x5184 .f32) (ix2 j ⟨2048 + l.val, by omega⟩) := by
  unfold X0_8 Pipeline.Window.fill
  rw [dif_pos (moved0_8 t _)]
  exact congrArg (V m c main_v0 : Vec Ideal S1024x5184 .bf16) (cols_eq 2 (by decide) j l _ rfl rfl)
theorem weights9 (t : Fin grid0.N) (j l : Fin 1024) : (X0_9 m c t : Vec Ideal S1024x1024 .bf16) (ix2 j l) = (m ((c.tc : Thread nD τ).loc main_arg4) : Vec Ideal S1024x5184 .f32) (ix2 j ⟨3072 + l.val, by omega⟩) := by
  unfold X0_9 Pipeline.Window.fill
  rw [dif_pos (moved0_9 t _)]
  exact congrArg (V m c main_v0 : Vec Ideal S1024x5184 .bf16) (cols_eq 3 (by decide) j l _ rfl rfl)
theorem weights10 (t : Fin grid0.N) (j l : Fin 1024) : (X0_10 m c t : Vec Ideal S1024x1024 .bf16) (ix2 j l) = (m ((c.tc : Thread nD τ).loc main_arg4) : Vec Ideal S1024x5184 .f32) (ix2 j ⟨4096 + l.val, by omega⟩) := by
  unfold X0_10 Pipeline.Window.fill
  rw [dif_pos (moved0_10 t _)]
  exact congrArg (V m c main_v0 : Vec Ideal S1024x5184 .bf16) (cols_eq 4 (by decide) j l _ rfl rfl)

theorem nw_apply (j : Fin 1024) : (V m c main_v1 : Vec Ideal S1x1024 .f32) (ix2 0 j) = (m ((c.tc : Thread nD τ).loc main_arg1) : Vec Ideal S1024 .f32) (ix1 j) := by
  show (shapeCast S1x1024 (m ((c.tc : Thread nD τ).loc main_arg1) : Vec Ideal S1024 .f32) shapeCasts_S1024_S1x1024) (ix2 0 j) = _
  pointwise
theorem cb_apply (Q : Fin 3072) : (V m c main_v4 : Vec Ideal S1x3072 .f32) (ix2 0 Q) = (m ((c.tc : Thread nD τ).loc main_arg6) : Vec Ideal S3072 .f32) (ix1 Q) := by
  show (shapeCast S1x3072 (m ((c.tc : Thread nD τ).loc main_arg6) : Vec Ideal S3072 .f32) shapeCasts_S3072_S1x3072) (ix2 0 Q) = _
  pointwise
theorem wd_apply (k : Fin 64) (j : Fin 1024) : (V m c main_v3 : Vec Ideal S64x1024 .bf16) (ix2 k j) = (m ((c.tc : Thread nD τ).loc main_arg4) : Vec Ideal S1024x5184 .f32) (ix2 j ⟨5120 + k.val, by omega⟩) := by
  show (transpose S64x1024 [1, 0] (extractStridedSlice S1024x64 ![0, 5120] (truncf .bf16 (m ((c.tc : Thread nD τ).loc main_arg4) : Vec Ideal S1024x5184 .f32) bitsLt_bf16_f32 : FVec Ideal S1024x5184 .bf16) slices_S1024x5184_S1024x64_0_5120)
    transposes_S1024x64_S64x1024_1_0) (ix2 k j) = _
  pointwise

theorem taps12 (t : Fin grid0.N) (a : Fin 5) (Q : Fin 3072) : (iblk m c 12 t : Vec Ideal S5x3072 .f32) (ix2 a Q) = (m ((c.tc : Thread nD τ).loc main_arg5) : Vec Ideal S5x3072 .f32) (ix2 a Q) :=
  (congrArg (V m c main_arg5 : Vec Ideal S5x3072 .f32) (whole_eq a Q _ rfl rfl)).trans (congrFun (V_main_arg5 m c) _)
theorem bias13 (t : Fin grid0.N) (Q : Fin 3072) : (iblk m c 13 t : Vec Ideal S1x3072 .f32) (ix2 0 Q) = (m ((c.tc : Thread nD τ).loc main_arg6) : Vec Ideal S3072 .f32) (ix1 Q) :=
  (congrArg (V m c main_v4 : Vec Ideal S1x3072 .f32) (whole_eq 0 Q _ rfl rfl)).trans (cb_apply m c Q)
theorem wd11 (t : Fin grid0.N) (k : Fin 64) (j : Fin 1024) : (iblk m c 11 t : Vec Ideal S64x1024 .bf16) (ix2 k j) = (m ((c.tc : Thread nD τ).loc main_arg4) : Vec Ideal S1024x5184 .f32) (ix2 j ⟨5120 + k.val, by omega⟩) :=
  (congrArg (V m c main_v3 : Vec Ideal S64x1024 .bf16) (whole_eq k j _ rfl rfl)).trans (wd_apply m c k j)

/-- A row of the point's batch, normalised and modulated with the point's blocks. -/
theorem normed_eq (t : Fin grid0.N) (x : Fin 1024 → EReal) (R : Fin 2048) (hx : ∀ j, x j = (m ((c.tc : Thread nD τ).loc main_arg0) : Vec Ideal S8x2048x1024 .f32) (ix3 (batchAt t) R j)) (j : Fin 1024) :
    normed x (fun j => (iblk m c 3 t : Vec Ideal S1x1024 .f32) (ix2 0 j)) (fun j => (iblk m c 4 t : Vec Ideal S1x1x1024 .f32) (ix3 0 0 j))
      (fun j => (iblk m c 5 t : Vec Ideal S1x1x1024 .f32) (ix3 0 0 j)) j = normRow (m ((c.tc : Thread nD τ).loc main_arg0)) (m ((c.tc : Thread nD τ).loc main_arg1)) (m ((c.tc : Thread nD τ).loc main_arg2)) (m ((c.tc : Thread nD τ).loc main_arg3)) (batchAt t) R j := by
  have e3 : (fun j => (iblk m c 3 t : Vec Ideal S1x1024 .f32) (ix2 0 j)) = fun j => (m ((c.tc : Thread nD τ).loc main_arg1) : Vec Ideal S1024 .f32) (ix1 j) :=
    funext fun j => (congrArg (V m c main_v1 : Vec Ideal S1x1024 .f32) (whole_eq 0 j _ rfl rfl)).trans (nw_apply m c j)
  have e4 : (fun j => (iblk m c 4 t : Vec Ideal S1x1x1024 .f32) (ix3 0 0 j)) = fun j => (m ((c.tc : Thread nD τ).loc main_arg2) : Vec Ideal S8x1x1024 .f32) (ix3 (batchAt t) 0 j) :=
    funext fun j => (congrArg (V m c main_arg2 : Vec Ideal S8x1x1024 .f32) (batch_eq t j _ rfl rfl)).trans (congrFun (V_main_arg2 m c) _)
  have e5 : (fun j => (iblk m c 5 t : Vec Ideal S1x1x1024 .f32) (ix3 0 0 j)) = fun j => (m ((c.tc : Thread nD τ).loc main_arg3) : Vec Ideal S8x1x1024 .f32) (ix3 (batchAt t) 0 j) :=
    funext fun j => (congrArg (V m c main_arg3 : Vec Ideal S8x1x1024 .f32) (batch_eq t j _ rfl rfl)).trans (congrFun (V_main_arg3 m c) _)
  rw [e3, e4, e5, show x = _ from funext hx]
  rfl

theorem own_row (t : Fin grid0.N) (r j : Fin 1024) : (iblk m c 0 t : Vec Ideal S1x1024x1024 .f32) (ix3 0 r j) = (m ((c.tc : Thread nD τ).loc main_arg0) : Vec Ideal S8x2048x1024 .f32) (ix3 (batchAt t) (rowAt t r) j) :=
  (congrArg (V m c main_arg0 : Vec Ideal S8x2048x1024 .f32) (rows_eq t r j _ rfl rfl rfl)).trans (congrFun (V_main_arg0 m c) _)

/-- The row before the second half's, and the row after the first half's. -/
theorem before_row (t : Fin grid0.N) (p : t.val % 2 = 1) (e : Fin 16) (j : Fin 1024) :
    (iblk m c 1 t : Vec Ideal S1x16x1024 .f32) (ix3 0 e j) = (m ((c.tc : Thread nD τ).loc main_arg0) : Vec Ideal S8x2048x1024 .f32) (ix3 (batchAt t) ⟨16 * 63 + e.val, by omega⟩ j) := by
  have k : cc0_transform_1 (grid0.coords t) 1 = 63 := by
    show (Scalar.maxsi (Scalar.subi (Scalar.muli (BitVec.ofNat 32 (grid0.coords t 1).val) 64#32) 1#32) 0#32).toNat = 63
    rw [show (grid0.coords t 1).val = 1 from (coords1 t).trans p]
    decide
  refine (congrArg (V m c main_arg0 : Vec Ideal S8x2048x1024 .f32) (halo_eq t 63 (by decide) e j _ rfl ?_ rfl)).trans (congrFun (V_main_arg0 m c) _)
  show cc0_transform_1 (grid0.coords t) 1 * 16 + 1 * e.val = 63 * 16 + 1 * e.val
  rw [k]
theorem after_row (t : Fin grid0.N) (p : t.val % 2 = 0) (e : Fin 16) (j : Fin 1024) :
    (iblk m c 2 t : Vec Ideal S1x16x1024 .f32) (ix3 0 e j) = (m ((c.tc : Thread nD τ).loc main_arg0) : Vec Ideal S8x2048x1024 .f32) (ix3 (batchAt t) ⟨16 * 64 + e.val, by omega⟩ j) := by
  have k : cc0_transform_2 (grid0.coords t) 1 = 64 := by
    show (Scalar.minsi (Scalar.muli (Scalar.addi (BitVec.ofNat 32 (grid0.coords t 1).val) 1#32) 64#32) 127#32).toNat = 64
    rw [show (grid0.coords t 1).val = 0 from (coords1 t).trans p]
    decide
  refine (congrArg (V m c main_arg0 : Vec Ideal S8x2048x1024 .f32) (halo_eq t 64 (by decide) e j _ rfl ?_ rfl)).trans (congrFun (V_main_arg0 m c) _)
  show cc0_transform_2 (grid0.coords t) 1 * 16 + 1 * e.val = 64 * 16 + 1 * e.val
  rw [k]

/-- Which half a point has, as the words that its body compares. -/
theorem half_word (t : Fin grid0.N) (a b : ℕ) (p : t.val % 2 = a) (ha : a < 2) (hb : b < 2) :
    Scalar.cmpi .eq (BitVec.ofNat 32 (grid0.coords t 1).val) (BitVec.ofNat 32 b) = 1#1 ↔ a = b := by
  rw [show (grid0.coords t 1).val = a from (coords1 t).trans p]
  interval_cases a <;> interval_cases b <;> decide

/-- Row `e` of all rows that a point works on: a row of its batch, or zero before the first and after the last. -/
theorem rows_inside (t : Fin grid0.N) (e : Fin 1056) (R : Fin 2048) (hR : R.val + 16 = 1024 * (t.val % 2) + e.val) (j : Fin 1024) :
    rowsAt (grid0.coords t) (iblk m c 0 t) (iblk m c 1 t) (iblk m c 2 t) (iblk m c 3 t) (iblk m c 4 t) (iblk m c 5 t) (ix2 e j) = normRow (m ((c.tc : Thread nD τ).loc main_arg0)) (m ((c.tc : Thread nD τ).loc main_arg1)) (m ((c.tc : Thread nD τ).loc main_arg2)) (m ((c.tc : Thread nD τ).loc main_arg3)) (batchAt t) R j := by
  unfold rowsAt
  rw [extended_apply]
  rcases Nat.mod_two_eq_zero_or_one t.val with p | p
  · rw [dif_neg (by omega)]
    by_cases h' : e.val - 16 < 1024
    · rw [dif_pos h']
      exact normed_eq m c t _ R (fun j => (own_row m c t _ j).trans (congrArg (fun R => (m ((c.tc : Thread nD τ).loc main_arg0) : Vec Ideal S8x2048x1024 .f32) (ix3 (batchAt t) R j)) (Fin.ext (by show 1024 * (t.val % 2) + (e.val - 16) = R.val; omega)))) j
    · rw [dif_neg h', if_neg (fun h => absurd ((half_word t 0 1 p (by decide) (by decide)).1 h) (by decide))]
      exact normed_eq m c t _ R (fun j => (after_row m c t p _ j).trans (congrArg (fun R => (m ((c.tc : Thread nD τ).loc main_arg0) : Vec Ideal S8x2048x1024 .f32) (ix3 (batchAt t) R j)) (Fin.ext (by show 16 * 64 + (e.val - 16 - 1024) = R.val; omega)))) j
  · by_cases h : e.val < 16
    · rw [dif_pos h, if_neg (fun h => absurd ((half_word t 1 0 p (by decide) (by decide)).1 h) (by decide))]
      exact normed_eq m c t _ R (fun j => (before_row m c t p _ j).trans (congrArg (fun R => (m ((c.tc : Thread nD τ).loc main_arg0) : Vec Ideal S8x2048x1024 .f32) (ix3 (batchAt t) R j)) (Fin.ext (by show 16 * 63 + e.val = R.val; omega)))) j
    · rw [dif_neg h, dif_pos (by omega)]
      exact normed_eq m c t _ R (fun j => (own_row m c t _ j).trans (congrArg (fun R => (m ((c.tc : Thread nD τ).loc main_arg0) : Vec Ideal S8x2048x1024 .f32) (ix3 (batchAt t) R j)) (Fin.ext (by show 1024 * (t.val % 2) + (e.val - 16) = R.val; omega)))) j

theorem rows_outside (t : Fin grid0.N) (e : Fin 1056) (h : 1024 * (t.val % 2) + e.val < 16 ∨ 2064 ≤ 1024 * (t.val % 2) + e.val) (j : Fin 1024) :
    rowsAt (grid0.coords t) (iblk m c 0 t) (iblk m c 1 t) (iblk m c 2 t) (iblk m c 3 t) (iblk m c 4 t) (iblk m c 5 t) (ix2 e j) = 0 := by
  unfold rowsAt
  rw [extended_apply]
  rcases Nat.mod_two_eq_zero_or_one t.val with p | p
  · rw [dif_pos (by omega), if_pos ((half_word t 0 0 p (by decide) (by decide)).2 rfl)]
  · rw [dif_neg (by omega), dif_neg (by omega), if_pos ((half_word t 1 1 p (by decide) (by decide)).2 rfl)]

/-- So their products with a column of the weights are those of the padded rows. -/
theorem padded_rows (t : Fin grid0.N) (r : Fin 1024) (d : Fin 5) (q : Fin 5184) :
    ∑ j : Fin 1024, rowsAt (grid0.coords t) (iblk m c 0 t) (iblk m c 1 t) (iblk m c 2 t) (iblk m c 3 t) (iblk m c 4 t) (iblk m c 5 t) (ix2 ⟨r.val + 14 + d.val, by omega⟩ j) * (m ((c.tc : Thread nD τ).loc main_arg4) : Vec Ideal S1024x5184 .f32) (ix2 j q)
      = padded (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (batchAt t) (d.val + (rowAt t r).val) q := by
  have e : (rowAt t r).val = 1024 * (t.val % 2) + r.val := rfl
  unfold padded
  by_cases h : 2 ≤ d.val + (rowAt t r).val ∧ d.val + (rowAt t r).val - 2 < 2048
  · rw [dif_pos h]
    exact Finset.sum_congr rfl fun j _ => congrArg (· * (m ((c.tc : Thread nD τ).loc main_arg4) : Vec Ideal S1024x5184 .f32) (ix2 j q))
      (rows_inside m c t _ ⟨d.val + (rowAt t r).val - 2, h.2⟩ (by show d.val + (rowAt t r).val - 2 + 16 = 1024 * (t.val % 2) + (r.val + 14 + d.val); omega) j)
  · rw [dif_neg h]
    refine Finset.sum_eq_zero fun j _ => ?_
    rw [rows_outside m c t _ (by show 1024 * (t.val % 2) + (r.val + 14 + d.val) < 16 ∨ 2064 ≤ 1024 * (t.val % 2) + (r.val + 14 + d.val); omega) j, zero_mul]

theorem convolved_eq (t : Fin grid0.N) (r : Fin 1024) (Q : Fin 3072) :
    convolvedAt (rowsAt (grid0.coords t) (iblk m c 0 t) (iblk m c 1 t) (iblk m c 2 t) (iblk m c 3 t) (iblk m c 4 t) (iblk m c 5 t)) (fun j q => (m ((c.tc : Thread nD τ).loc main_arg4) : Vec Ideal S1024x5184 .f32) (ix2 j q)) (iblk m c 12 t) (iblk m c 13 t) r Q
      = convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (batchAt t) (rowAt t r) Q := by
  unfold convolvedAt convolved
  dsimp only
  rw [bias13, taps12, taps12, taps12, taps12, taps12, padded_rows, padded_rows, padded_rows, padded_rows, padded_rows]
  rw [show ((0 : Fin 5).val + (rowAt t r).val) = (rowAt t r).val from Nat.zero_add _]
  rfl

/-- The four results. -/
def z : Vec Ideal S8x2048x2048 .bf16 := fun i =>
  projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 1) ⟨(i 2).val, by have := (i 2).isLt; change (i 2).val < 2048 at this; omega⟩
def xs : Vec Ideal S8x2048x2048 .f32 := fun i =>
  convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) ⟨(i 2).val, by have := (i 2).isLt; change (i 2).val < 2048 at this; omega⟩
def bc : Vec Ideal S8x2048x1024 .bf16 := fun i =>
  convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) ⟨2048 + (i 2).val, by have := (i 2).isLt; change (i 2).val < 1024 at this; omega⟩
def dt : Vec Ideal S8x64x2048 .f32 := fun i =>
  projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (i 0) (i 2) ⟨5120 + (i 1).val, by have := (i 1).isLt; change (i 1).val < 64 at this; omega⟩

/-! Where a point's blocks of the results lie, and what it stores there. -/

theorem z_emb (t : Fin grid0.N) (r : Fin 1024) (q : Fin 2048) : (win0_14.blk t).view.emb (ix3 0 r q : S1x1024x2048.Idx) = (ix3 (batchAt t) (rowAt t r) q : S8x2048x2048.Idx) :=
  rows_eq t r q _ rfl rfl rfl
theorem xs_emb (t : Fin grid0.N) (r : Fin 1024) (q : Fin 2048) : (win0_15.blk t).view.emb (ix3 0 r q : S1x1024x2048.Idx) = (ix3 (batchAt t) (rowAt t r) q : S8x2048x2048.Idx) :=
  rows_eq t r q _ rfl rfl rfl
theorem bc_emb (t : Fin grid0.N) (r : Fin 1024) (q : Fin 1024) : (win0_16.blk t).view.emb (ix3 0 r q : S1x1024x1024.Idx) = (ix3 (batchAt t) (rowAt t r) q : S8x2048x1024.Idx) :=
  rows_eq t r q _ rfl rfl rfl
theorem dt_emb (t : Fin grid0.N) (k : Fin 64) (r : Fin 1024) : (win0_17.blk t).view.emb (ix3 0 k r : S1x64x1024.Idx) = (ix3 (batchAt t) k (rowAt t r) : S8x64x2048.Idx) :=
  steps_eq t k r _ rfl rfl rfl

theorem own_apply (t : Fin grid0.N) (r j : Fin 1024) :
    k0_pay3 (F := Ideal) (iblk m c 0 t) (iblk m c 3 t) (iblk m c 4 t) (iblk m c 5 t) (ix2 r j) = normRow (m ((c.tc : Thread nD τ).loc main_arg0)) (m ((c.tc : Thread nD τ).loc main_arg1)) (m ((c.tc : Thread nD τ).loc main_arg2)) (m ((c.tc : Thread nD τ).loc main_arg3)) (batchAt t) (rowAt t r) j :=
  (rows_apply _ _ _ _ r j).trans (normed_eq m c t _ _ (fun j => own_row m c t r j) j)

theorem z_block (t : Fin grid0.N) (r : Fin 1024) (q : Fin 2048) : (outsAt0 m c t).1 (ix3 0 r q) = z m c (ix3 (batchAt t) (rowAt t r) q) := by
  dsimp only [outsAt0]
  refine (z_apply (W := fun j q => (m ((c.tc : Thread nD τ).loc main_arg4) : Vec Ideal S1024x5184 .f32) (ix2 j q)) (weights6 m c t) (weights7 m c t) r q).trans ?_
  exact Finset.sum_congr rfl fun j _ => congrArg (· * (m ((c.tc : Thread nD τ).loc main_arg4) : Vec Ideal S1024x5184 .f32) (ix2 j ⟨q.val, by omega⟩)) (own_apply m c t r j)
theorem xs_block (t : Fin grid0.N) (r : Fin 1024) (q : Fin 2048) : (outsAt0 m c t).2.1 (ix3 0 r q) = xs m c (ix3 (batchAt t) (rowAt t r) q) := by
  dsimp only [outsAt0]
  refine (xs_apply (W := fun j q => (m ((c.tc : Thread nD τ).loc main_arg4) : Vec Ideal S1024x5184 .f32) (ix2 j q)) (weights8 m c t) (weights9 m c t) r q).trans ?_
  exact convolved_eq m c t r ⟨q.val, by omega⟩
theorem bc_block (t : Fin grid0.N) (r : Fin 1024) (q : Fin 1024) : (outsAt0 m c t).2.2.1 (ix3 0 r q) = bc m c (ix3 (batchAt t) (rowAt t r) q) := by
  dsimp only [outsAt0]
  refine (bc_apply (W := fun j q => (m ((c.tc : Thread nD τ).loc main_arg4) : Vec Ideal S1024x5184 .f32) (ix2 j q)) (weights10 m c t) r q).trans ?_
  exact convolved_eq m c t r ⟨2048 + q.val, by omega⟩
theorem dt_block (t : Fin grid0.N) (k : Fin 64) (r : Fin 1024) : (outsAt0 m c t).2.2.2 (ix3 0 k r) = dt m c (ix3 (batchAt t) k (rowAt t r)) := by
  dsimp only [outsAt0]
  exact (dt_apply k r).trans (Finset.sum_congr (M := EReal) rfl fun j _ =>
    (congrArg₂ (fun a b : EReal => a * b) (wd11 m c t k j) (own_apply m c t r j)).trans (mul_comm (G := EReal) _ _))

/-! The arrays that the points' blocks make up. -/

theorem arr_z : (dats m 0 c).arrAt 14 cfg0.N = z m c := by
  refine (dats m 0 c).arrAt_eq_of_emb 14 (z m c) (fun t _ (y : S1x1024x2048.Idx) => ?_) fun (i : S8x2048x2048.Idx) => ?_
  · obtain ⟨r, q, rfl⟩ := block_idx y
    refine Eq.trans ?_ (congrArg (z m c) (z_emb t r q)).symm
    exact (congrFun (after0_14 m c t) _).trans (z_block m c t r q)
  · obtain ⟨b, R, q, rfl⟩ := array_idx i
    obtain ⟨t, r, rfl, rfl⟩ := exists_point b R
    exact ⟨t, flush0_14 t, z_emb t r q ▸ (win0_14.blk t).view.emb_mem_set _⟩
theorem arr_xs : (dats m 0 c).arrAt 15 cfg0.N = xs m c := by
  refine (dats m 0 c).arrAt_eq_of_emb 15 (xs m c) (fun t _ (y : S1x1024x2048.Idx) => ?_) fun (i : S8x2048x2048.Idx) => ?_
  · obtain ⟨r, q, rfl⟩ := block_idx y
    refine Eq.trans ?_ (congrArg (xs m c) (xs_emb t r q)).symm
    exact (congrFun (after0_15 m c t) _).trans (xs_block m c t r q)
  · obtain ⟨b, R, q, rfl⟩ := array_idx i
    obtain ⟨t, r, rfl, rfl⟩ := exists_point b R
    exact ⟨t, flush0_15 t, xs_emb t r q ▸ (win0_15.blk t).view.emb_mem_set _⟩
theorem arr_bc : (dats m 0 c).arrAt 16 cfg0.N = bc m c := by
  refine (dats m 0 c).arrAt_eq_of_emb 16 (bc m c) (fun t _ (y : S1x1024x1024.Idx) => ?_) fun (i : S8x2048x1024.Idx) => ?_
  · obtain ⟨r, q, rfl⟩ := block_idx y
    refine Eq.trans ?_ (congrArg (bc m c) (bc_emb t r q)).symm
    exact (congrFun (after0_16 m c t) _).trans (bc_block m c t r q)
  · obtain ⟨b, R, q, rfl⟩ := array_idx i
    obtain ⟨t, r, rfl, rfl⟩ := exists_point b R
    exact ⟨t, flush0_16 t, bc_emb t r q ▸ (win0_16.blk t).view.emb_mem_set _⟩
theorem arr_dt : (dats m 0 c).arrAt 17 cfg0.N = dt m c := by
  refine (dats m 0 c).arrAt_eq_of_emb 17 (dt m c) (fun t _ (y : S1x64x1024.Idx) => ?_) fun (i : S8x64x2048.Idx) => ?_
  · obtain ⟨r, q, rfl⟩ := block_idx y
    refine Eq.trans ?_ (congrArg (dt m c) (dt_emb t r q)).symm
    exact (congrFun (after0_17 m c t) _).trans (dt_block m c t r q)
  · obtain ⟨b, k, R, rfl⟩ := array_idx i
    obtain ⟨t, r, rfl, rfl⟩ := exists_point b R
    exact ⟨t, flush0_17 t, dt_emb t k r ▸ (win0_17.blk t).view.emb_mem_set _⟩

end Cert.Kernel5Ideal.Conv

end
-- ==== Proof.Conv.Reference.lean ====
/-
  The reference of the odd layer's input projection and convolution, entry by entry.
-/
module

public import proofs.«01_k».proof.Proof.Gen.Reference5Ideal.Run
public import proofs.«01_k».proof.Proof.Conv.Rows

@[expose] public section

set_option maxRecDepth 16384

noncomputable section

namespace Cert.Reference5Ideal.Conv

open Cert.Rows
open Idealize.ShloMosaic Idealize.ShloMosaic.TcCoe Idealize.SL.Sem

variable (m : (ℓ : Loc nD τ sig) → Buf (Elt Ideal) ℓ) (c : Dev nD)

theorem zero_word : (FloatOps.sitofp (F := Ideal) FTy.f32 (0#32) : EReal) = 0 := by
  show ((((0#32 : BitVec 32).toInt : ℝ)) : EReal) = 0
  simp

/-- The five products with the padded rows are those of the convolution. -/
theorem taps_eq (b : Fin 8) (R : Fin 2048) (Q : Fin 3072) {P0 P1 P2 P3 P4 : Prop} [Decidable P0] [Decidable P1] [Decidable P2] [Decidable P3] [Decidable P4]
    (h0 : P0 ↔ 2 ≤ R.val ∧ R.val - 2 < 2048) (h1 : P1 ↔ 2 ≤ 1 + R.val ∧ 1 + R.val - 2 < 2048) (h2 : P2 ↔ 2 ≤ 2 + R.val ∧ 2 + R.val - 2 < 2048)
    (h3 : P3 ↔ 2 ≤ 3 + R.val ∧ 3 + R.val - 2 < 2048) (h4 : P4 ↔ 2 ≤ 4 + R.val ∧ 4 + R.val - 2 < 2048) (a : EReal)
    (h : a = (if h : P0 then projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b ⟨R.val - 2, (h0.1 h).2⟩ ⟨2048 + Q.val, by omega⟩ else FloatOps.sitofp (F := Ideal) FTy.f32 0#32) * (m ((c.tc : Thread nD τ).loc main_arg5) : Vec Ideal S5x3072 .f32) (ix2 0 Q)
      + (if h : P1 then projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b ⟨1 + R.val - 2, (h1.1 h).2⟩ ⟨2048 + Q.val, by omega⟩ else FloatOps.sitofp (F := Ideal) FTy.f32 0#32) * (m ((c.tc : Thread nD τ).loc main_arg5) : Vec Ideal S5x3072 .f32) (ix2 1 Q)
      + (if h : P2 then projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b R ⟨2048 + Q.val, by omega⟩ else FloatOps.sitofp (F := Ideal) FTy.f32 0#32) * (m ((c.tc : Thread nD τ).loc main_arg5) : Vec Ideal S5x3072 .f32) (ix2 2 Q)
      + (if h : P3 then projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b ⟨3 + R.val - 2, (h3.1 h).2⟩ ⟨2048 + Q.val, by omega⟩ else FloatOps.sitofp (F := Ideal) FTy.f32 0#32) * (m ((c.tc : Thread nD τ).loc main_arg5) : Vec Ideal S5x3072 .f32) (ix2 3 Q)
      + (if h : P4 then projected (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b ⟨4 + R.val - 2, (h4.1 h).2⟩ ⟨2048 + Q.val, by omega⟩ else FloatOps.sitofp (F := Ideal) FTy.f32 0#32) * (m ((c.tc : Thread nD τ).loc main_arg5) : Vec Ideal S5x3072 .f32) (ix2 4 Q)
      + (m ((c.tc : Thread nD τ).loc main_arg6) : Vec Ideal S3072 .f32) (ix1 Q)) :
    a * Ideal.div 1 (1 + Ideal.exp (-a)) = convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b R Q := by
  rw [padded_eq _ _ _ _ _ b R.val _ h0 _ (fun _ => rfl) _ zero_word, padded_eq _ _ _ _ _ b (1 + R.val) _ h1 _ (fun _ => rfl) _ zero_word,
    padded_eq _ _ _ _ _ b (2 + R.val) _ h2 (fun _ => R) (fun _ => by omega) _ zero_word, padded_eq _ _ _ _ _ b (3 + R.val) _ h3 _ (fun _ => rfl) _ zero_word,
    padded_eq _ _ _ _ _ b (4 + R.val) _ h4 _ (fun _ => rfl) _ zero_word] at h
  exact tapped_eq _ _ _ _ _ _ _ _ _ _ _ a h

theorem xs_apply (b : Fin 8) (R : Fin 2048) (q : Fin 2048) : (Cert.Reference5Ideal.Value.res_main_v64 m c : Vec Ideal S8x2048x2048 .f32) (ix3 b R q)
    = convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b R ⟨q.val, by omega⟩ := by
  unfold Cert.Reference5Ideal.Value.res_main_v64
  pointwise
  refine taps_eq m c b R ⟨q.val, by omega⟩ ?_ ?_ ?_ ?_ ?_ _ rfl
  all_goals omega

theorem bc_apply (b : Fin 8) (R : Fin 2048) (q : Fin 1024) : (Cert.Reference5Ideal.Value.res_main_v67 m c : Vec Ideal S8x2048x1024 .bf16) (ix3 b R q)
    = convolved (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) b R ⟨2048 + q.val, by omega⟩ := by
  unfold Cert.Reference5Ideal.Value.res_main_v67
  pointwise
  refine taps_eq m c b R ⟨2048 + q.val, by omega⟩ ?_ ?_ ?_ ?_ ?_ _ rfl
  all_goals omega

end Cert.Reference5Ideal.Conv

end
-- ==== Proof.Conv.Equal.lean ====
/-
  The claim that over the extended reals the odd layer's input projection and convolution and its reference end with equal
  results, and the reference's frame.
-/
module

public import proofs.«01_k».proof.Defs
public import proofs.«01_k».proof.Proof.Conv.Value
public import proofs.«01_k».proof.Proof.Conv.Reference

@[expose] public section

set_option maxRecDepth 16384

noncomputable section

namespace Cert.Kernel5Ideal.Conv

open Cert.Rows
open Idealize.ShloMosaic Idealize.ShloMosaic.TcCoe Idealize.SL.Sem

theorem reference_frame : Cert.quiescent_Reference5Ideal (hReference5Ideal := Cert.Reference5Ideal.Gen.facts) :=
  fun m ρ _ => (θ_run Cert.Reference5Ideal.defs _ _).mono (fun r h => ⟨fun c => (h c).2.2.2.2, sem_eq_zero_of_no_sems (by decide) r.2⟩)
    (Cert.Reference5Ideal.Value.run m ρ)

/-- Over the extended reals the kernel and the reference end with equal results. -/
theorem equal : Cert.algebraic_Kernel5Ideal_Reference5Ideal (hKernel5Ideal := Gen.facts) (hReference5Ideal := Cert.Reference5Ideal.Gen.facts) := by
  intro m ρ m' ρ' _ hargs
  refine ⟨fun c => z m c, fun c => xs m c, fun c => bc m c, fun c => dt m c, ?_, ?_⟩
  · exact (θ_run Cert.Kernel5Ideal.defs _ _).mono (fun r hr c => ⟨(hr c).1.trans (arr_z m c), (hr c).2.1.trans (arr_xs m c), (hr c).2.2.1.trans (arr_bc m c),
      (hr c).2.2.2.1.trans (arr_dt m c), (hr c).2.2.2.2⟩) (Cert.Kernel5Ideal.Value.run_blocks m ρ)
  · refine (θ_run Cert.Reference5Ideal.defs _ _).mono (fun r hr c => ?_) (Cert.Reference5Ideal.Value.run m' ρ')
    obtain ⟨e0, e1, e2, e3, e4, e5, e6⟩ := hargs c
    refine ⟨(hr c).1.trans ?_, (hr c).2.1.trans ?_, (hr c).2.2.1.trans ?_, (hr c).2.2.2.1.trans ?_, (hr c).2.2.2.2⟩
    · rw [e0, e1, e2, e3, e4]
      funext (i : S8x2048x2048.Idx)
      obtain ⟨b, R, q, rfl⟩ := Cert.Halves.array_idx i
      pointwise
      rfl
    · funext (i : S8x2048x2048.Idx)
      obtain ⟨b, R, q, rfl⟩ := Cert.Halves.array_idx i
      refine (Cert.Reference5Ideal.Conv.xs_apply m' c b R q).trans ?_
      rw [e0, e1, e2, e3, e4, e5, e6]
      rfl
    · funext (i : S8x2048x1024.Idx)
      obtain ⟨b, R, q, rfl⟩ := Cert.Halves.array_idx i
      refine (Cert.Reference5Ideal.Conv.bc_apply m' c b R q).trans ?_
      rw [e0, e1, e2, e3, e4, e5, e6]
      rfl
    · rw [e0, e1, e2, e3, e4]
      funext (i : S8x64x2048.Idx)
      obtain ⟨b, k, R, rfl⟩ := Cert.Halves.array_idx i
      pointwise
      rfl

end Cert.Kernel5Ideal.Conv

end
-- ==== Proof.Gated.Rows.lean ====
/-
  The odd layer's gated output projection as plain sums of its arguments' entries, and the law by which the norm's factor
  leaves the product.
-/
module

public import proofs.«01_k».proof.Proof.Conv.Rows

@[expose] public section

noncomputable section

namespace Cert.Rows

open Cert.Sums
open Idealize.ShloMosaic

/-- The factor of the norm of a row whose squares sum to `s`. -/
def factor (s : EReal) : EReal := Ideal.rsqrt (Ideal.div s (Ideal.ofBits .f32 0x45000000#32) + Ideal.ofBits .f32 0x358637BD#32)

/-- The residual `x`, plus the gate `g` times the product of the normalised row `t` with a column `w` of the weights. -/
def gatedProj (t gw w : Fin 2048 → EReal) (x g : EReal) : EReal :=
  x + g * ∑ k, t k * factor (∑ k, t k * t k) * gw k * w k

variable (y z : Vec Ideal ⟨3, ![8, 2048, 2048]⟩ .bf16) (gw : Vec Ideal ⟨1, ![2048]⟩ .f32) (w : Vec Ideal ⟨2, ![2048, 1024]⟩ .f32)
variable (x : Vec Ideal ⟨3, ![8, 2048, 1024]⟩ .f32) (g : Vec Ideal ⟨3, ![8, 1, 1024]⟩ .f32)

/-- Batch `b`'s row `R` of `y`, gated by `z`'s. -/
def gatedRow (b : Fin 8) (R : Fin 2048) (k : Fin 2048) : EReal := y (ix3 b R k) * silu (z (ix3 b R k))

/-- The result at batch `b`, row `R`, column `q`. -/
def gatedAt (b : Fin 8) (R : Fin 2048) (q : Fin 1024) : EReal :=
  gatedProj (gatedRow y z b R) (fun k => gw (ix1 k)) (fun k => w (ix2 k q)) (x (ix3 b R q)) (g (ix3 b 0 q))

theorem word_2048 : Ideal.ofBits .f32 0x45000000#32 = ((2048 : ℝ) : EReal) := by
  simp [Ideal.ofBits, Ideal.ieee]
  rw [← EReal.coe_mul]
  norm_num
theorem word_inv : Ideal.ofBits .f32 0x3A000000#32 = ((1 / 2048 : ℝ) : EReal) := by
  simp [Ideal.ofBits, Ideal.ieee]
  rw [← EReal.coe_mul]
  norm_num
theorem word_eps : ∃ e : ℝ, 0 < e ∧ Ideal.ofBits .f32 0x358637BD#32 = (e : EReal) := by
  refine ⟨_, ?_, by simp [Ideal.ofBits, Ideal.ieee]; rfl⟩
  norm_num

/-- A mean is a sum over the count, or a sum times the count's inverse. -/
theorem mean_eq (s : EReal) : s * Ideal.ofBits .f32 0x3A000000#32 = Ideal.div s (Ideal.ofBits .f32 0x45000000#32) := by
  rw [word_2048, word_inv, Ideal.div_coe (by norm_num)]

theorem mul_self_nonneg (a : EReal) : 0 ≤ a * a := by
  rcases le_total 0 a with h | h
  · exact EReal.mul_nonneg h h
  · rw [← neg_mul_neg]
    exact EReal.mul_nonneg (EReal.neg_nonneg.2 h) (EReal.neg_nonneg.2 h)

/-- The factor of a sum of squares is a real number that is not negative. -/
theorem factor_real (s : EReal) (hs : 0 ≤ s) : ∃ r : ℝ, 0 ≤ r ∧ factor s = (r : EReal) := by
  obtain ⟨e, he, hw⟩ := word_eps
  unfold factor
  rw [hw, word_2048, Ideal.div_coe (by norm_num)]
  induction s with
  | bot => exact absurd hs (by simp)
  | top =>
    rw [EReal.top_mul_coe_of_pos (by norm_num), EReal.top_add_coe]
    exact ⟨0, le_rfl, rfl⟩
  | coe s =>
    have hs' : 0 ≤ s := EReal.coe_nonneg.1 hs
    have h : 0 < s * (1 / 2048) + e := by positivity
    rw [← EReal.coe_mul, ← EReal.coe_add, Ideal.rsqrt_coe, if_neg (not_lt.2 h.le), if_neg h.ne']
    exact ⟨_, by positivity, rfl⟩

/-- A factor that is a real number and not negative enters a sum. -/
theorem sum_mul_real {ι : Type} (S : Finset ι) (f : ι → EReal) (r : ℝ) (hr : 0 ≤ r) : (∑ i ∈ S, f i) * (r : EReal) = ∑ i ∈ S, f i * (r : EReal) := by
  classical
  induction S using Finset.induction_on with
  | empty => simp
  | insert a S ha ih =>
    rw [Finset.sum_insert ha, Finset.sum_insert ha, EReal.right_distrib_of_nonneg_of_ne_top (EReal.coe_nonneg.2 hr) (EReal.coe_ne_top r), ih]

/-- The norm's factor taken after the product. -/
theorem gatedProj_eq (t gw w : Fin 2048 → EReal) (x g : EReal) :
    x + g * ((∑ k, t k * gw k * w k) * Ideal.rsqrt ((∑ k, t k * t k) * Ideal.ofBits .f32 0x3A000000#32 + Ideal.ofBits .f32 0x358637BD#32)) = gatedProj t gw w x g := by
  obtain ⟨r, hr, h⟩ := factor_real (∑ k, t k * t k) (Finset.sum_nonneg fun k _ => mul_self_nonneg _)
  unfold gatedProj
  rw [mean_eq]
  show x + g * (_ * factor _) = _
  rw [h, sum_mul_real _ _ r hr]
  refine congrArg (x + g * ·) (Finset.sum_congr rfl fun k _ => ?_)
  rw [mul_right_comm (t k * gw k), mul_right_comm (t k)]

end Cert.Rows

end
-- ==== Proof.Gated.Chunks.lean ====
/-
  The gated projection's body as plain functions of its blocks: eight chunks of 256 columns, of which each adds its squares
  and its product; and what they are over the extended reals.
-/
module

public import proofs.«01_k».proof.Proof.Gated.Rows
public import proofs.«01_k».proof.Proof.Gen.Kernel6Ideal.Skeleton
public import Idealize.ShloMosaic.Lib.VecWindow

@[expose] public section

set_option maxRecDepth 16384

noncomputable section

namespace Cert.Kernel6Ideal.Gated

open Cert.Kernel6Ideal.Gen Cert.Sums Cert.Rows
open Idealize.ShloMosaic Idealize.SL.Sem

section Chunks

variable {F : FTy → Type} [FloatOps F]

/-- A window of 256 columns of the rows, of the norm's weights, and of 256 rows of the weights. -/
abbrev colsAt (x : Vec F S1x512x2048 .bf16) (o : ℕ) (h : ∀ a, (![0, 0, o] : Fin 3 → ℕ) a + S1x512x256.size a ≤ S1x512x2048.size a) : Vec F S1x512x256 .bf16 :=
  View.ld x (Rect.unit (s := S1x512x2048) ![0, 0, o] S1x512x256.size h)
abbrev scaleAt (x : Vec F S1x2048 .f32) (o : ℕ) (h : ∀ a, (![0, o] : Fin 2 → ℕ) a + S1x256.size a ≤ S1x2048.size a) : Vec F S1x256 .f32 :=
  View.ld x (Rect.unit (s := S1x2048) ![0, o] S1x256.size h)
abbrev rowsAt (x : Vec F S2048x1024 .bf16) (o : ℕ) (h : ∀ a, (![o, 0] : Fin 2 → ℕ) a + S256x1024.size a ≤ S2048x1024.size a) : Vec F S256x1024 .bf16 :=
  View.ld x (Rect.unit (s := S2048x1024) ![o, 0] S256x1024.size h)

theorem cols_inb (n : ℕ) (hn : n < 8) : ∀ a, (![0, 0, 256 * n] : Fin 3 → ℕ) a + S1x512x256.size a ≤ S1x512x2048.size a
  | ⟨0, _⟩ => by show 0 + 1 ≤ 1; omega
  | ⟨1, _⟩ => by show 0 + 512 ≤ 512; omega
  | ⟨2, _⟩ => by show 256 * n + 256 ≤ 2048; omega
theorem scale_inb (n : ℕ) (hn : n < 8) : ∀ a, (![0, 256 * n] : Fin 2 → ℕ) a + S1x256.size a ≤ S1x2048.size a
  | ⟨0, _⟩ => by show 0 + 1 ≤ 1; omega
  | ⟨1, _⟩ => by show 256 * n + 256 ≤ 2048; omega
theorem rows_inb (n : ℕ) (hn : n < 8) : ∀ a, (![256 * n, 0] : Fin 2 → ℕ) a + S256x1024.size a ≤ S2048x1024.size a
  | ⟨0, _⟩ => by show 256 * n + 256 ≤ 2048; omega
  | ⟨1, _⟩ => by show 0 + 1024 ≤ 1024; omega

/-- The gated rows of chunk `n`. -/
def gates (x0 x1 : Vec F S1x512x2048 .bf16) (n : ℕ) (h : n < 8) : FVec F S512x256 .f32 :=
  k0_pay4 (colsAt x0 (256 * n) (cols_inb n h)) (colsAt x1 (256 * n) (cols_inb n h))

/-- The sums of the rows' squares after chunk `n`. -/
def squares (x0 x1 : Vec F S1x512x2048 .bf16) : (n : ℕ) → n < 8 → FVec F S512x1 .f32
  | 0, h => k0_pay5 (colsAt x0 (256 * 0) (cols_inb 0 h)) (colsAt x1 (256 * 0) (cols_inb 0 h))
  | n + 1, h => k0_pay9 (squares x0 x1 n (by omega)) (k0_pay7 (colsAt x0 (256 * (n + 1)) (cols_inb (n + 1) h))) (colsAt x1 (256 * (n + 1)) (cols_inb (n + 1) h))

/-- The accumulator after chunk `n`: the first chunk is stored, each later one added. -/
def acc (x0 x1 : Vec F S1x512x2048 .bf16) (x2 : Vec F S1x2048 .f32) (x3 : Vec F S2048x1024 .bf16) : (n : ℕ) → n < 8 → FVec F S512x1024 .f32
  | 0, h => k0_pay6 (colsAt x0 (256 * 0) (cols_inb 0 h)) (colsAt x1 (256 * 0) (cols_inb 0 h)) (scaleAt x2 (256 * 0) (scale_inb 0 h)) (rowsAt x3 (256 * 0) (rows_inb 0 h))
  | n + 1, h => k0_pay18 (gates x0 x1 (n + 1) h) (scaleAt x2 (256 * (n + 1)) (scale_inb (n + 1) h)) (rowsAt x3 (256 * (n + 1)) (rows_inb (n + 1) h)) (acc x0 x1 x2 x3 n (by omega))

end Chunks

/-! Each piece of the body, at an index. -/

theorem gate_apply (y z : Vec Ideal S1x512x256 .bf16) (r : Fin 512) (k : Fin 256) :
    k0_pay4 (F := Ideal) y z (ix2 r k) = y (ix3 0 r k) * silu (z (ix3 0 r k)) := by
  unfold k0_pay4
  pointwise
  rfl

theorem first_squares (y z : Vec Ideal S1x512x256 .bf16) (r : Fin 512) :
    k0_pay5 (F := Ideal) y z (ix2 r 0) = ∑ k : Fin 256, k0_pay4 (F := Ideal) y z (ix2 r k) * k0_pay4 (F := Ideal) y z (ix2 r k) := by
  unfold k0_pay5
  pointwise
theorem next_squares (s : Vec Ideal S512x1 .f32) (y z : Vec Ideal S1x512x256 .bf16) (r : Fin 512) :
    k0_pay9 (F := Ideal) s (k0_pay7 y) z (ix2 r 0) = s (ix2 r 0) + ∑ k : Fin 256, k0_pay4 (F := Ideal) y z (ix2 r k) * k0_pay4 (F := Ideal) y z (ix2 r k) := by
  show k0_pay9 (F := Ideal) s (k0_pay7 y) z (ix2 r 0) = s (ix2 r 0) + ∑ k : Fin 256, k0_pay8 (F := Ideal) (k0_pay7 y) z (ix2 r k) * k0_pay8 (F := Ideal) (k0_pay7 y) z (ix2 r k)
  unfold k0_pay9
  pointwise

theorem first_acc (y z : Vec Ideal S1x512x256 .bf16) (gw : Vec Ideal S1x256 .f32) (w : Vec Ideal S256x1024 .bf16) (r : Fin 512) (q : Fin 1024) :
    k0_pay6 (F := Ideal) y z gw w (ix2 r q) = ∑ k : Fin 256, k0_pay4 (F := Ideal) y z (ix2 r k) * gw (ix2 0 k) * w (ix2 k q) := by
  unfold k0_pay6
  pointwise
theorem next_acc (t : FVec Ideal S512x256 .f32) (gw : Vec Ideal S1x256 .f32) (w : Vec Ideal S256x1024 .bf16) (a : Vec Ideal S512x1024 .f32) (r : Fin 512) (q : Fin 1024) :
    k0_pay18 (F := Ideal) t gw w a (ix2 r q) = a (ix2 r q) + ∑ k : Fin 256, t (ix2 r k) * gw (ix2 0 k) * w (ix2 k q) := by
  unfold k0_pay18
  pointwise

theorem result_apply (s : Vec Ideal S512x1 .f32) (x : Vec Ideal S1x512x1024 .f32) (g : Vec Ideal S1x1x1024 .f32) (a : Vec Ideal S512x1024 .f32) (r : Fin 512) (q : Fin 1024) :
    k0_pay34 (F := Ideal) s x g a (ix3 0 r q)
      = x (ix3 0 r q) + g (ix3 0 0 q) * (a (ix2 r q) * Ideal.rsqrt (s (ix2 r 0) * Ideal.ofBits .f32 0x3A000000#32 + Ideal.ofBits .f32 0x358637BD#32)) := by
  unfold k0_pay34
  pointwise

theorem colsAt_apply (x : Vec Ideal S1x512x2048 .bf16) (n : ℕ) (hn : n < 8) (r : Fin 512) (k : Fin 256) :
    colsAt x (256 * n) (cols_inb n hn) (ix3 0 r k) = x (ix3 0 r ⟨256 * n + k.val, by omega⟩) := by
  refine congrArg x (funext fun a => Fin.ext ?_)
  match a with
  | ⟨0, _⟩ => rfl
  | ⟨1, _⟩ => show 0 + 1 * r.val = r.val; omega
  | ⟨2, _⟩ => show 256 * n + 1 * k.val = 256 * n + k.val; omega
theorem scaleAt_apply (x : Vec Ideal S1x2048 .f32) (n : ℕ) (hn : n < 8) (k : Fin 256) :
    scaleAt x (256 * n) (scale_inb n hn) (ix2 0 k) = x (ix2 0 ⟨256 * n + k.val, by omega⟩) := by
  refine congrArg x (funext fun a => Fin.ext ?_)
  match a with
  | ⟨0, _⟩ => rfl
  | ⟨1, _⟩ => show 256 * n + 1 * k.val = 256 * n + k.val; omega
theorem rowsAt_apply (x : Vec Ideal S2048x1024 .bf16) (n : ℕ) (hn : n < 8) (k : Fin 256) (q : Fin 1024) :
    rowsAt x (256 * n) (rows_inb n hn) (ix2 k q) = x (ix2 ⟨256 * n + k.val, by omega⟩ q) := by
  refine congrArg x (funext fun a => Fin.ext ?_)
  match a with
  | ⟨0, _⟩ => show 256 * n + 1 * k.val = 256 * n + k.val; omega
  | ⟨1, _⟩ => show 0 + 1 * q.val = q.val; omega

variable (x0 x1 : Vec Ideal S1x512x2048 .bf16) (x2 : Vec Ideal S1x2048 .f32) (x3 : Vec Ideal S2048x1024 .bf16) (x4 : Vec Ideal S1x512x1024 .f32)
variable (x5 : Vec Ideal S1x1x1024 .f32) (r : Fin 512) (q : Fin 1024)

/-- The block's row `r`, gated. -/
def row (k : Fin 2048) : EReal := x0 (ix3 0 r k) * silu (x1 (ix3 0 r k))

theorem gates_apply (n : ℕ) (hn : n < 8) (k : Fin 256) : gates (F := Ideal) x0 x1 n hn (ix2 r k) = row x0 x1 r ⟨256 * n + k.val, by omega⟩ :=
  (gate_apply _ _ r k).trans (congrArg₂ (fun a b : EReal => a * silu b) (colsAt_apply x0 n hn r k) (colsAt_apply x1 n hn r k))

/-- A chunk's share of the squares and of the product. -/
theorem chunk_square (n : ℕ) (hn : n < 8) (k : Fin 256) :
    gates (F := Ideal) x0 x1 n hn (ix2 r k) * gates (F := Ideal) x0 x1 n hn (ix2 r k)
      = row x0 x1 r ⟨256 * n + k.val, by omega⟩ * row x0 x1 r ⟨256 * n + k.val, by omega⟩ :=
  congrArg₂ (fun a b : EReal => a * b) (gates_apply x0 x1 r n hn k) (gates_apply x0 x1 r n hn k)
theorem chunk_product (n : ℕ) (hn : n < 8) (k : Fin 256) :
    gates (F := Ideal) x0 x1 n hn (ix2 r k) * scaleAt x2 (256 * n) (scale_inb n hn) (ix2 0 k) * rowsAt x3 (256 * n) (rows_inb n hn) (ix2 k q)
      = row x0 x1 r ⟨256 * n + k.val, by omega⟩ * x2 (ix2 0 ⟨256 * n + k.val, by omega⟩) * x3 (ix2 ⟨256 * n + k.val, by omega⟩ q) :=
  congrArg₂ (fun a b : EReal => a * b) (congrArg₂ (fun a b : EReal => a * b) (gates_apply x0 x1 r n hn k) (scaleAt_apply x2 n hn k)) (rowsAt_apply x3 n hn k q)

/-- The sum of the squares, and the accumulator, after chunk `n`: those of the columns of chunks 0 to `n`. -/
theorem squares_apply (n : ℕ) (hn : n < 8) :
    squares (F := Ideal) x0 x1 n hn (ix2 r 0)
      = ∑ i : Fin (n + 1), ∑ k : Fin 256, row x0 x1 r ⟨256 * i.val + k.val, by omega⟩ * row x0 x1 r ⟨256 * i.val + k.val, by omega⟩ := by
  induction n with
  | zero =>
    rw [Fin.sum_univ_one]
    exact (first_squares _ _ r).trans (Finset.sum_congr (M := EReal) rfl fun k _ => chunk_square x0 x1 r 0 hn k)
  | succ n ih =>
    rw [Fin.sum_univ_castSucc]
    exact (next_squares _ _ _ r).trans (congrArg₂ (fun a b : EReal => a + b) (ih (by omega))
      (Finset.sum_congr (M := EReal) rfl fun k _ => chunk_square x0 x1 r (n + 1) hn k))

theorem acc_apply (n : ℕ) (hn : n < 8) :
    acc (F := Ideal) x0 x1 x2 x3 n hn (ix2 r q)
      = ∑ i : Fin (n + 1), ∑ k : Fin 256, row x0 x1 r ⟨256 * i.val + k.val, by omega⟩ * x2 (ix2 0 ⟨256 * i.val + k.val, by omega⟩) * x3 (ix2 ⟨256 * i.val + k.val, by omega⟩ q) := by
  induction n with
  | zero =>
    rw [Fin.sum_univ_one]
    exact (first_acc _ _ _ _ r q).trans (Finset.sum_congr (M := EReal) rfl fun k _ => chunk_product x0 x1 x2 x3 r q 0 hn k)
  | succ n ih =>
    rw [Fin.sum_univ_castSucc]
    exact (next_acc _ _ _ _ r q).trans (congrArg₂ (fun a b : EReal => a + b) (ih (by omega))
      (Finset.sum_congr (M := EReal) rfl fun k _ => chunk_product x0 x1 x2 x3 r q (n + 1) hn k))

/-- What a point stores, at row `r` and column `q` of its block. -/
theorem stored_apply :
    k0_pay34 (F := Ideal) (squares x0 x1 7 (by decide)) x4 x5 (acc x0 x1 x2 x3 7 (by decide)) (ix3 0 r q)
      = gatedProj (row x0 x1 r) (fun k => x2 (ix2 0 k)) (fun k => x3 (ix2 k q)) (x4 (ix3 0 r q)) (x5 (ix3 0 0 q)) := by
  rw [result_apply, squares_apply, acc_apply, ← gatedProj_eq, sum_runs 8 256 2048 (by decide), sum_runs 8 256 2048 (by decide)]

end Cert.Kernel6Ideal.Gated

end
-- ==== Proof.Gated.Body.lean ====
/-
  What one point of the gated projection's grid stores, as the plain function of its blocks.
-/
module

public import proofs.«01_k».proof.Proof.Gated.Chunks
public import proofs.«01_k».proof.Proof.Gen.Kernel6Ideal.Frame
public import Idealize.ShloMosaic.Lib.Pipeline.ValueKit.Basic

@[expose] public section

set_option maxRecDepth 16384

noncomputable section

namespace Cert.Kernel6Ideal.Gated

open Cert.Kernel6Ideal.Gen
open Idealize.ShloMosaic Idealize.ShloMosaic.TcCoe Idealize.ShloMosaic.Tactic
open Idealize.SL.Sem

variable {F : FTy → Type} [FloatOps F]

/-! The last store of the accumulator is what it holds, and what a load of it reads. -/

theorem load_stored {e : EltTy} (v : View sig .tc .vmem S512x1024 e) (w : S512x1024.Idx → Elt F e) (L : List (View.Piece (Elt F) S512x1024 e)) :
    v.readCov (⟨Rect.unit ![0, 0] ![512, 1024] inb_S512x1024_S512x1024_0_0, w⟩ :: L)
      (Rect.unit (s := S512x1024) ![0, 0] ![512, 1024] inb_S512x1024_S512x1024_0_0).toLoadRect = w :=
  View.readCov_full v inb_S512x1024_S512x1024_0_0 inb_S512x1024_S512x1024_0_0 w L

theorem load_unread {S : Shape} {e : EltTy} (M : Memref sig .tc .vmem S e) (h : M.IsWhole) (X : S.Idx → Elt F e) (r : Rect S) :
    M.view.readAt (Elt F) r.toLoadRect (h.unread X) = View.ld X r := by
  rw [View.readAt_eq_ld, h.read_unread]

theorem load3 {e : EltTy} (X : S1x512x1024.Idx → Elt F e) :
    View.ld X (Rect.unit (s := S1x512x1024) ![0, 0, 0] ![1, 512, 1024] inb_S1x512x1024_S1x512x1024_0_0_0) = X :=
  View.ld_unit_lit inb_S1x512x1024_S1x512x1024_0_0_0 X (by decide)
theorem loadv {e : EltTy} (X : S1x1x1024.Idx → Elt F e) :
    View.ld X (Rect.unit (s := S1x1x1024) ![0, 0, 0] ![1, 1, 1024] inb_S1x1x1024_S1x1x1024_0_0_0) = X :=
  View.ld_unit_lit inb_S1x1x1024_S1x1x1024_0_0_0 X (by decide)

variable (c : Dev nD) (i : grid0.Coords)
variable (arg2 : Memref sig .tc .vmem S1x512x2048 .bf16) (harg2 : arg2.IsWhole)
variable (arg3 : Memref sig .tc .vmem S1x512x2048 .bf16) (harg3 : arg3.IsWhole)
variable (arg4 : Memref sig .tc .vmem S1x2048 .f32) (harg4 : arg4.IsWhole)
variable (arg5 : Memref sig .tc .vmem S2048x1024 .bf16) (harg5 : arg5.IsWhole)
variable (arg6 : Memref sig .tc .vmem S1x512x1024 .f32) (harg6 : arg6.IsWhole)
variable (arg7 : Memref sig .tc .vmem S1x1x1024 .f32) (harg7 : arg7.IsWhole)
variable (arg8 : Memref sig .tc .vmem S1x1024 .f32) (harg8 : arg8.IsWhole)
variable (arg9 : Memref sig .tc .vmem S1x1x1024 .f32) (harg9 : arg9.IsWhole)
variable (arg10 : Memref sig .tc .vmem S1x1x1024 .f32) (harg10 : arg10.IsWhole)
variable (arg11 : Memref sig .tc .vmem S8x1024 .f32) (harg11 : arg11.IsWhole)
variable (arg12 : Memref sig .tc .vmem S8x1 .f32) (harg12 : arg12.IsWhole)
variable (arg13 : Memref sig .tc .vmem S512x1024 .bf16) (harg13 : arg13.IsWhole)
variable (arg14 : Memref sig .tc .vmem S1x512x1024 .f32) (harg14 : arg14.IsWhole)
variable (arg15 : Memref sig .tc .vmem S2x512 .i32) (harg15 : arg15.IsWhole)
variable (arg16 : Memref sig .tc .vmem S2x512 .f32) (harg16 : arg16.IsWhole)
variable (arg17 : Memref sig .tc .vmem S1x8x128 .i32) (harg17 : arg17.IsWhole)
variable (arg18 : Memref sig .tc .vmem S512x1024 .f32) (harg18 : arg18.IsWhole)
variable (x0 x1 : Vec F S1x512x2048 .bf16) (x2 : Vec F S1x2048 .f32) (x3 : Vec F S2048x1024 .bf16) (x4 : Vec F S1x512x1024 .f32) (x5 : Vec F S1x1x1024 .f32)
variable (x6 : Vec F S1x1024 .f32) (x7 x8 : Vec F S1x1x1024 .f32) (x9 : Vec F S8x1024 .f32) (x10 : Vec F S8x1 .f32) (x11 : Vec F S512x1024 .bf16)

set_option maxHeartbeats 1000000 in
/-- What a point stores: the gated residual of the eight chunks. -/
theorem out_eq : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11
    = k0_pay34 (squares x0 x1 7 (by decide)) x4 x5 (acc x0 x1 x2 x3 7 (by decide)) := by
  unfold out0_A_12 kernelRun0_A
  dsimp only
  refine (View.read_writes_full VO0_12 _ inb_S1x512x1024_S1x512x1024_0_0_0 _ []).trans ?_
  simp only [load_stored, load_unread, load3, loadv, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.HS0_1, kernelRun0_A.sl.HS0_2, kernelRun0_A.sl.HS0_3, kernelRun0_A.sl.HS0_4, kernelRun0_A.sl.HS0_5, kernelRun0_A.sl.HS0_6, kernelRun0_A.sl.HS0_7, kernelRun0_A.sl.HS0_8, kernelRun0_A.sl.v58, kernelRun0_A.sl.v90, kernelRun0_A.sl.v122, kernelRun0_A.sl.v154, kernelRun0_A.sl.v186, kernelRun0_A.sl.v218, kernelRun0_A.sl.v250, kernelRun0_A.sl.v259]
  rfl

end Cert.Kernel6Ideal.Gated

end
-- ==== Proof.Gated.Value.lean ====
/-
  The gated projection's result over the extended reals: the array that its grid's points make up is the plain function of
  the arguments' entries.
-/
module

public import proofs.«01_k».proof.Proof.Grid
public import proofs.«01_k».proof.Proof.Gated.Body
public import proofs.«01_k».proof.Proof.Gen.Kernel6Ideal.Value

@[expose] public section

set_option maxRecDepth 16384

noncomputable section

namespace Cert.Kernel6Ideal.Gated

open Cert.Kernel6Ideal.Gen Cert.Rows
open Cert.Halves (whole_eq block_idx array_idx)
open Idealize.ShloMosaic Idealize.ShloMosaic.TcCoe Idealize.SL.Sem

/-! The grid of this call, eight batches by four runs of 512 rows, and where a point's blocks lie. -/

theorem points : grid0.N = 32 := by decide

theorem coords0 (t : Fin grid0.N) : (grid0.coords t 0).val = t.val / 4 := by
  have ht : t.val < 32 := Nat.lt_of_lt_of_eq t.isLt points
  have e : (grid0.coords t 0).val = t.val / 4 % 8 := Pipeline.Grid.coords_val t 0 (by decide) rfl
  omega
theorem coords1 (t : Fin grid0.N) : (grid0.coords t 1).val = t.val % 4 := by
  have e : (grid0.coords t 1).val = t.val / 1 % 4 := Pipeline.Grid.coords_val t 1 (by decide) rfl
  omega

abbrev batchAt (t : Fin grid0.N) : Fin 8 := ⟨t.val / 4, by have : t.val < 32 := Nat.lt_of_lt_of_eq t.isLt points; omega⟩
abbrev rowAt (t : Fin grid0.N) (r : Fin 512) : Fin 2048 := ⟨512 * (t.val % 4) + r.val, by omega⟩

/-- The point that holds batch `b`'s row `R`. -/
theorem exists_point (b : Fin 8) (R : Fin 2048) : ∃ (t : Fin grid0.N) (r : Fin 512), batchAt t = b ∧ rowAt t r = R :=
  ⟨⟨4 * b.val + R.val / 512, by rw [points]; omega⟩, ⟨R.val % 512, Nat.mod_lt _ (by decide)⟩,
    Fin.ext (by show (4 * b.val + R.val / 512) / 4 = b.val; omega),
    Fin.ext (by show 512 * ((4 * b.val + R.val / 512) % 4) + R.val % 512 = R.val; omega)⟩

theorem rows_eq {W : ℕ} (t : Fin grid0.N) (r : Fin 512) (j : Fin W) (y : Shape.Idx ⟨3, ![8, 2048, W]⟩)
    (h0 : (y 0).val = (BitVec.ofNat 32 (grid0.coords t 0).val).toNat * 1 + 1 * 0)
    (h1 : (y 1).val = (BitVec.ofNat 32 (grid0.coords t 1).val).toNat * 512 + 1 * r.val)
    (h2 : (y 2).val = 0 * W + 1 * j.val) : y = ix3 (batchAt t) (rowAt t r) j := by
  have ht : t.val < 32 := Nat.lt_of_lt_of_eq t.isLt points
  rw [coords0, BitVec.toNat_ofNat] at h0
  rw [coords1, BitVec.toNat_ofNat] at h1
  refine funext fun a => Fin.ext ?_
  match a with
  | ⟨0, _⟩ => show (y 0).val = t.val / 4; omega
  | ⟨1, _⟩ => show (y 1).val = 512 * (t.val % 4) + r.val; omega
  | ⟨2, _⟩ => show (y 2).val = j.val; omega

theorem batch_eq {W : ℕ} (t : Fin grid0.N) (j : Fin W) (y : Shape.Idx ⟨3, ![8, 1, W]⟩)
    (h0 : (y 0).val = (BitVec.ofNat 32 (grid0.coords t 0).val).toNat * 1 + 1 * 0)
    (h2 : (y 2).val = 0 * W + 1 * j.val) : y = ix3 (batchAt t) 0 j := by
  have ht : t.val < 32 := Nat.lt_of_lt_of_eq t.isLt points
  rw [coords0, BitVec.toNat_ofNat] at h0
  refine funext fun a => Fin.ext ?_
  match a with
  | ⟨0, _⟩ => show (y 0).val = t.val / 4; omega
  | ⟨1, _⟩ => exact congrArg Fin.val (Subsingleton.elim (α := Fin 1) _ _)
  | ⟨2, _⟩ => show (y 2).val = j.val; omega

variable (m : (ℓ : Loc nD τ sig) → Buf (Elt Ideal) ℓ) (c : Dev nD)

/-- The result. -/
def result : Vec Ideal S8x2048x1024 .f32 := fun i =>
  gatedAt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (i 0) (i 1) (i 2)

theorem rows_emb (t : Fin grid0.N) (r : Fin 512) (q : Fin 1024) :
    (win0_12.blk t).view.emb (ix3 0 r q : S1x512x1024.Idx) = (ix3 (batchAt t) (rowAt t r) q : S8x2048x1024.Idx) := rows_eq t r q _ rfl rfl rfl

theorem scale_apply (k : Fin 2048) : (V m c main_v6 : Vec Ideal S1x2048 .f32) (ix2 0 k) = (m ((c.tc : Thread nD τ).loc main_arg2) : Vec Ideal S2048 .f32) (ix1 k) := by
  show (shapeCast S1x2048 (m ((c.tc : Thread nD τ).loc main_arg2) : Vec Ideal S2048 .f32) shapeCasts_S2048_S1x2048) (ix2 0 k) = _
  pointwise

/-- What point `t` stores is its rows of the result. -/
theorem block_apply (t : Fin grid0.N) (r : Fin 512) (q : Fin 1024) : (outsAt0 m c t).1 (ix3 0 r q) = result m c (ix3 (batchAt t) (rowAt t r) q) := by
  dsimp only [outsAt0]
  rw [out_eq]
  refine (stored_apply (iblk m c 0 t) (iblk m c 1 t) (iblk m c 2 t) (iblk m c 3 t) (iblk m c 4 t) (iblk m c 5 t) r q).trans ?_
  have e0 : row (iblk m c 0 t) (iblk m c 1 t) r = gatedRow (m ((c.tc : Thread nD τ).loc main_arg0)) (m ((c.tc : Thread nD τ).loc main_arg1)) (batchAt t) (rowAt t r) :=
    funext fun k => congrArg₂ (fun a b : EReal => a * silu b)
      ((congrArg (V m c main_arg0 : Vec Ideal S8x2048x2048 .bf16) (rows_eq t r k _ rfl rfl rfl)).trans (congrFun (V_main_arg0 m c) _))
      ((congrArg (V m c main_arg1 : Vec Ideal S8x2048x2048 .bf16) (rows_eq t r k _ rfl rfl rfl)).trans (congrFun (V_main_arg1 m c) _))
  have e2 : (fun k => (iblk m c 2 t : Vec Ideal S1x2048 .f32) (ix2 0 k)) = fun k => (m ((c.tc : Thread nD τ).loc main_arg2) : Vec Ideal S2048 .f32) (ix1 k) :=
    funext fun k => (congrArg (V m c main_v6 : Vec Ideal S1x2048 .f32) (whole_eq 0 k _ rfl rfl)).trans (scale_apply m c k)
  have e3 : (fun k => (iblk m c 3 t : Vec Ideal S2048x1024 .bf16) (ix2 k q)) = fun k => (m ((c.tc : Thread nD τ).loc main_arg3) : Vec Ideal S2048x1024 .f32) (ix2 k q) :=
    funext fun k => congrArg (V m c main_v0 : Vec Ideal S2048x1024 .bf16) (whole_eq k q _ rfl rfl)
  have e4 : (iblk m c 4 t : Vec Ideal S1x512x1024 .f32) (ix3 0 r q) = (m ((c.tc : Thread nD τ).loc main_arg4) : Vec Ideal S8x2048x1024 .f32) (ix3 (batchAt t) (rowAt t r) q) :=
    (congrArg (V m c main_arg4 : Vec Ideal S8x2048x1024 .f32) (rows_emb t r q)).trans (congrFun (V_main_arg4 m c) _)
  have e5 : (iblk m c 5 t : Vec Ideal S1x1x1024 .f32) (ix3 0 0 q) = (m ((c.tc : Thread nD τ).loc main_arg5) : Vec Ideal S8x1x1024 .f32) (ix3 (batchAt t) 0 q) :=
    (congrArg (V m c main_arg5 : Vec Ideal S8x1x1024 .f32) (batch_eq t q _ rfl rfl)).trans (congrFun (V_main_arg5 m c) _)
  rw [e0, e2, e3, e4, e5]
  rfl

/-- The array that the points' blocks make up. -/
theorem arr_result : (dats m 0 c).arrAt 12 cfg0.N = result m c := by
  refine (dats m 0 c).arrAt_eq_of_emb 12 (result m c) (fun t _ (y : S1x512x1024.Idx) => ?_) fun (i : S8x2048x1024.Idx) => ?_
  · obtain ⟨r, q, rfl⟩ := block_idx y
    refine Eq.trans ?_ (congrArg (result m c) (rows_emb t r q)).symm
    exact (congrFun (after0_12 m c t) _).trans (block_apply m c t r q)
  · obtain ⟨b, R, q, rfl⟩ := array_idx i
    obtain ⟨t, r, rfl, rfl⟩ := exists_point b R
    exact ⟨t, flush0_12 t, rows_emb t r q ▸ (win0_12.blk t).view.emb_mem_set _⟩

end Cert.Kernel6Ideal.Gated

end
-- ==== Proof.Gated.Equal.lean ====
/-
  The claim that over the extended reals the gated projection and its reference end with equal results, and the reference's
  frame.
-/
module

public import proofs.«01_k».proof.Defs
public import proofs.«01_k».proof.Proof.Gated.Value
public import proofs.«01_k».proof.Proof.Gen.Reference6Ideal.Run

@[expose] public section

set_option maxRecDepth 16384

noncomputable section

namespace Cert.Kernel6Ideal.Gated

open Cert.Rows
open Cert.Halves (array_idx)
open Idealize.ShloMosaic Idealize.ShloMosaic.TcCoe Idealize.SL.Sem

theorem reference_frame : Cert.quiescent_Reference6Ideal (hReference6Ideal := Cert.Reference6Ideal.Gen.facts) :=
  fun m ρ _ => (θ_run Cert.Reference6Ideal.defs _ _).mono (fun r h => ⟨fun c => (h c).2, sem_eq_zero_of_no_sems (by decide) r.2⟩)
    (Cert.Reference6Ideal.Value.run m ρ)

/-- Over the extended reals the kernel and the reference end with equal results. -/
theorem equal : Cert.algebraic_Kernel6Ideal_Reference6Ideal (hKernel6Ideal := Gen.facts) (hReference6Ideal := Cert.Reference6Ideal.Gen.facts) := by
  intro m ρ m' ρ' _ hargs
  refine ⟨fun c => result m c, ?_, ?_⟩
  · exact (θ_run Cert.Kernel6Ideal.defs _ _).mono (fun r hr c => ⟨(hr c).1.trans (arr_result m c), (hr c).2.2.2.2⟩) (Cert.Kernel6Ideal.Value.run_blocks m ρ)
  · refine (θ_run Cert.Reference6Ideal.defs _ _).mono (fun r hr c => ⟨(hr c).1.trans ?_, (hr c).2⟩) (Cert.Reference6Ideal.Value.run m' ρ')
    obtain ⟨e0, e1, e2, e3, e4, e5, -⟩ := hargs c
    rw [e0, e1, e2, e3, e4, e5]
    funext (i : S8x2048x1024.Idx)
    obtain ⟨b, R, q, rfl⟩ := array_idx i
    pointwise
    unfold result gatedAt gatedProj gatedRow factor silu
    simp only [zero_sub]
    rfl

end Cert.Kernel6Ideal.Gated

end
-- ==== Proof.Ada.lean ====
/-
  The conditioning vector's projection: over the extended reals a point stores, for each batch, its 1024 columns of the
  product of the gated vector with the weights, plus the bias.
-/
module

public import proofs.«01_k».proof.Defs
public import proofs.«01_k».proof.Proof.Grid
public import proofs.«01_k».proof.Proof.Gated.Rows
public import proofs.«01_k».proof.Proof.Gen.Kernel7Ideal.Value
public import proofs.«01_k».proof.Proof.Gen.Reference7Ideal.Run
public import Idealize.ShloMosaic.Lib.Pipeline.ValueKit.Basic
public import Idealize.ShloMosaic.Lib.ValueLayout

@[expose] public section

set_option maxRecDepth 16384

noncomputable section

namespace Cert.Kernel7Ideal.Ada

open Cert.Kernel7Ideal.Gen Cert.Rows
open Cert.Halves (whole_eq)
open Idealize.ShloMosaic Idealize.ShloMosaic.TcCoe Idealize.SL.Sem

/-- The product of the gated vector `v` with a column of the weights, plus the column's bias. -/
def modAt (v w : Fin 1024 → EReal) (b : EReal) : EReal := (∑ j, silu (v j) * w j) + b

/-- What a point stores. -/
theorem out_apply (x0 : Vec Ideal S8x1024 .f32) (x1 : Vec Ideal S1024x1024 .f32) (x2 : Vec Ideal S1x1024 .f32) (p : Fin 8) (q : Fin 1024) :
    out0_3 (F := Ideal) x0 x1 x2 (ix4 0 p 0 q) = modAt (fun j => x0 (ix2 p j)) (fun j => x1 (ix2 j q)) (x2 (ix2 0 q)) := by
  have z2 : ∀ a, (![0, 0] : Fin 2 → ℕ) a = 0 := by decide
  unfold out0_3 k0_pay11
  rw [View.ld_unit_lit _ x0 z2, View.ld_unit_lit _ x1 z2, View.ld_unit_lit _ x2 z2]
  refine (Value.canon3_eq x0 x1 x2 (ix4 0 p 0 q)).trans ?_
  have e : Value.ix3_0 (ix4 0 p 0 q) = ix2 p q := whole_eq p q _ (by show p.val = _; omega) (by show q.val = _; omega)
  show k0_pay6 x0 x1 x2 (Value.ix3_0 (ix4 0 p 0 q)) = _
  rw [e]
  unfold k0_pay6 modAt silu
  pointwise

/-! ## The grid: point `t` holds the columns from `1024 t` on -/

theorem points : grid0.N = 6 := by decide
theorem coords (t : Fin grid0.N) : (grid0.coords t 0).val = t.val := by
  have ht : t.val < 6 := Nat.lt_of_lt_of_eq t.isLt points
  have e : (grid0.coords t 0).val = t.val / 1 % 6 := Pipeline.Grid.coords_val t 0 (by decide) rfl
  omega

abbrev partAt (t : Fin grid0.N) : Fin 6 := ⟨t.val, Nat.lt_of_lt_of_eq t.isLt points⟩
/-- Column `q` of part `k`. -/
abbrev colAt (k : Fin 6) (q : Fin 1024) : Fin 6144 := ⟨1024 * k.val + q.val, by omega⟩

theorem cols_eq {H : ℕ} (t : Fin grid0.N) (i : Fin H) (q : Fin 1024) (y : Shape.Idx ⟨2, ![H, 6144]⟩)
    (h0 : (y 0).val = 0 * H + 1 * i.val)
    (h1 : (y 1).val = (BitVec.ofNat 32 (grid0.coords t 0).val).toNat * 1024 + 1 * q.val) : y = ix2 i (colAt (partAt t) q) := by
  have ht : t.val < 6 := Nat.lt_of_lt_of_eq t.isLt points
  rw [coords, BitVec.toNat_ofNat] at h1
  refine funext fun a => Fin.ext ?_
  match a with
  | ⟨0, _⟩ => show (y 0).val = i.val; omega
  | ⟨1, _⟩ => show (y 1).val = 1024 * t.val + q.val; omega

theorem part_emb (t : Fin grid0.N) (p : Fin 8) (q : Fin 1024) :
    (win0_3.blk t).view.emb (ix4 0 p 0 q : S1x8x1x1024.Idx) = (ix4 (partAt t) p 0 q : S6x8x1x1024.Idx) := by
  have ht : t.val < 6 := Nat.lt_of_lt_of_eq t.isLt points
  have h0 : ((win0_3.blk t).view.emb (ix4 0 p 0 q : S1x8x1x1024.Idx) 0).val = (BitVec.ofNat 32 (grid0.coords t 0).val).toNat * 1 + 1 * 0 := rfl
  have h1 : ((win0_3.blk t).view.emb (ix4 0 p 0 q : S1x8x1x1024.Idx) 1).val = 0 * 8 + 1 * p.val := rfl
  have h3 : ((win0_3.blk t).view.emb (ix4 0 p 0 q : S1x8x1x1024.Idx) 3).val = 0 * 1024 + 1 * q.val := rfl
  rw [coords, BitVec.toNat_ofNat] at h0
  refine funext fun a => Fin.ext ?_
  match a with
  | ⟨0, _⟩ => exact h0.trans (by show _ = t.val; omega)
  | ⟨1, _⟩ => exact h1.trans (by show _ = p.val; omega)
  | ⟨2, _⟩ => exact congrArg Fin.val (Subsingleton.elim (α := Fin 1) _ _)
  | ⟨3, _⟩ => exact h3.trans (by show _ = q.val; omega)

theorem array_idx {A : ℕ} (y : Shape.Idx ⟨4, ![A, 8, 1, 1024]⟩) : ∃ (k : Fin A) (p : Fin 8) (q : Fin 1024), y = ix4 k p 0 q :=
  ⟨y 0, y 1, y 3, funext fun a => by
    match a with
    | ⟨0, _⟩ => rfl
    | ⟨1, _⟩ => rfl
    | ⟨2, _⟩ => exact Subsingleton.elim (α := Fin 1) _ _
    | ⟨3, _⟩ => rfl⟩

variable (m : (ℓ : Loc nD τ sig) → Buf (Elt Ideal) ℓ) (c : Dev nD)

/-- The result at part `k`, batch `p`, column `q`. -/
def resultAt (k : Fin 6) (p : Fin 8) (q : Fin 1024) : EReal := modAt
  (fun j => (m ((c.tc : Thread nD τ).loc main_arg0) : Vec Ideal S8x1024 .f32) (ix2 p j))
  (fun j => (m ((c.tc : Thread nD τ).loc main_arg1) : Vec Ideal S1024x6144 .f32) (ix2 j (colAt k q)))
  ((m ((c.tc : Thread nD τ).loc main_arg2) : Vec Ideal S6144 .f32) (ix1 (colAt k q)))

def result : Vec Ideal S6x8x1x1024 .f32 := fun i => resultAt m c (i 0) (i 1) (i 3)

/-- The bias reaches the call as one row. -/
theorem V_bias (j : Fin 6144) : (V m c main_v0 : Vec Ideal S1x6144 .f32) (ix2 0 j) = (m ((c.tc : Thread nD τ).loc main_arg2) : Vec Ideal S6144 .f32) (ix1 j) := by
  show (shapeCast S1x6144 (m ((c.tc : Thread nD τ).loc main_arg2) : Vec Ideal S6144 .f32) shapeCasts_S6144_S1x6144) (ix2 0 j) = _
  exact ValueIdx.shapeCast_a_1a_apply _ _ 0 j

/-- What point `t` stores is its part of the result. -/
theorem block_apply (t : Fin grid0.N) (p : Fin 8) (q : Fin 1024) :
    out0_3 (F := Ideal) (iblk m c 0 t) (iblk m c 1 t) (iblk m c 2 t) (ix4 0 p 0 q) = resultAt m c (partAt t) p q := by
  refine (out_apply (iblk m c 0 t) (iblk m c 1 t) (iblk m c 2 t) p q).trans ?_
  have e0 : (fun j => (iblk m c 0 t : Vec Ideal S8x1024 .f32) (ix2 p j)) = fun j => (m ((c.tc : Thread nD τ).loc main_arg0) : Vec Ideal S8x1024 .f32) (ix2 p j) :=
    funext fun j => (congrArg (V m c main_arg0 : Vec Ideal S8x1024 .f32) (whole_eq p j _ rfl rfl)).trans (congrFun (V_main_arg0 m c) _)
  have e1 : (fun j => (iblk m c 1 t : Vec Ideal S1024x1024 .f32) (ix2 j q)) = fun j => (m ((c.tc : Thread nD τ).loc main_arg1) : Vec Ideal S1024x6144 .f32) (ix2 j (colAt (partAt t) q)) :=
    funext fun j => (congrArg (V m c main_arg1 : Vec Ideal S1024x6144 .f32) (cols_eq t j q _ rfl rfl)).trans (congrFun (V_main_arg1 m c) _)
  have e2 : (iblk m c 2 t : Vec Ideal S1x1024 .f32) (ix2 0 q) = (m ((c.tc : Thread nD τ).loc main_arg2) : Vec Ideal S6144 .f32) (ix1 (colAt (partAt t) q)) :=
    (congrArg (V m c main_v0 : Vec Ideal S1x6144 .f32) (cols_eq t 0 q _ rfl rfl)).trans (V_bias m c _)
  unfold resultAt
  rw [← e0, ← e1, ← e2]

/-- The array that the points' blocks make up. -/
theorem arr_result : (dats m 0 c).arrAt 3 cfg0.N = result m c := by
  refine (dats m 0 c).arrAt_eq_of_emb 3 (result m c) (fun t _ (y : S1x8x1x1024.Idx) => ?_) fun (i : S6x8x1x1024.Idx) => ?_
  · obtain ⟨z, p, q, rfl⟩ := array_idx y
    obtain rfl : z = 0 := Subsingleton.elim _ _
    refine Eq.trans ?_ (congrArg (result m c) (part_emb t p q)).symm
    exact (congrFun (after0_3 m c t) _).trans (block_apply m c t p q)
  · obtain ⟨k, p, q, rfl⟩ := array_idx i
    obtain ⟨t, rfl⟩ : ∃ t : Fin grid0.N, partAt t = k := ⟨⟨k.val, by rw [points]; exact k.isLt⟩, rfl⟩
    exact ⟨t, flush0_3 t, part_emb t p q ▸ (win0_3.blk t).view.emb_mem_set _⟩

theorem reference_frame : Cert.quiescent_Reference7Ideal (hReference7Ideal := Cert.Reference7Ideal.Gen.facts) :=
  fun m ρ _ => (θ_run Cert.Reference7Ideal.defs _ _).mono (fun r h => ⟨fun c => (h c).2, sem_eq_zero_of_no_sems (by decide) r.2⟩)
    (Cert.Reference7Ideal.Value.run m ρ)

/-- The reference's result: part `k` is the `k`-th piece of 1024 columns. -/
theorem reference_apply (m : (ℓ : Loc Cert.Reference7Ideal.nD Cert.Reference7Ideal.τ Cert.Reference7Ideal.sig) → Buf (Elt Ideal) ℓ) (c : Dev Cert.Reference7Ideal.nD)
    (k : Fin 6) (p : Fin 8) (q : Fin 1024) (x : Fin 6144) (hx : x.val = 1024 * k.val + q.val) :
    (Cert.Reference7Ideal.Value.res_main_v18 m c : Vec Ideal S6x8x1x1024 .f32) (ix4 k p 0 q) = modAt
      (fun j => (m ((c.tc : Thread Cert.Reference7Ideal.nD Cert.Reference7Ideal.τ).loc Cert.Reference7Ideal.main_arg0) : Vec Ideal S8x1024 .f32) (ix2 p j))
      (fun j => (m ((c.tc : Thread Cert.Reference7Ideal.nD Cert.Reference7Ideal.τ).loc Cert.Reference7Ideal.main_arg1) : Vec Ideal S1024x6144 .f32) (ix2 j x))
      ((m ((c.tc : Thread Cert.Reference7Ideal.nD Cert.Reference7Ideal.τ).loc Cert.Reference7Ideal.main_arg2) : Vec Ideal S6144 .f32) (ix1 x)) := by
  unfold Cert.Reference7Ideal.Value.res_main_v18
  by_cases h : k = 0
  · subst h
    obtain rfl : x = ⟨q.val, Nat.lt_trans q.isLt (by decide)⟩ := Fin.ext (hx.trans (Nat.zero_add _))
    pointwise
    unfold modAt silu
    simp only [zero_sub]
  · obtain rfl : x = colAt k q := Fin.ext hx
    fin_cases k
    · exact absurd rfl h
    all_goals (pointwise; unfold modAt silu; simp only [zero_sub]; rfl)

/-- Over the extended reals the kernel and the reference end with equal results. -/
theorem equal : Cert.algebraic_Kernel7Ideal_Reference7Ideal (hKernel7Ideal := Gen.facts) (hReference7Ideal := Cert.Reference7Ideal.Gen.facts) := by
  intro m ρ m' ρ' _ hargs
  refine ⟨fun c => result m c, ?_, ?_⟩
  · exact (θ_run Cert.Kernel7Ideal.defs _ _).mono (fun r hr c => ⟨(hr c).1.trans (arr_result m c), (hr c).2⟩) (Cert.Kernel7Ideal.Value.run_blocks m ρ)
  · refine (θ_run Cert.Reference7Ideal.defs _ _).mono (fun r hr c => ⟨(hr c).1.trans ?_, (hr c).2⟩) (Cert.Reference7Ideal.Value.run m' ρ')
    obtain ⟨e0, e1, e2⟩ := hargs c
    funext (i : S6x8x1x1024.Idx)
    obtain ⟨k, p, q, rfl⟩ := array_idx i
    refine (reference_apply m' c k p q (colAt k q) rfl).trans ?_
    show _ = resultAt m c k p q
    unfold resultAt
    rw [e0, e1, e2]

end Cert.Kernel7Ideal.Ada

end
-- ==== Proof.Fourier.Body.lean ====
/-
  What one point of the Fourier mixer's grid stores: its rows of the table of the rows' transform times the scratch, which
  the first point of a batch fills with the channels' transform of the batch.
-/
module
public import proofs.«01_k».proof.Proof.Gen.Kernel8Ideal.Frame
public import proofs.«01_k».proof.Proof.Grid
public import Idealize.ShloMosaic.Lib.VecWindow
public import Idealize.ShloMosaic.Lib.Pipeline.ValueKit.Basic
public import Idealize.ShloMosaic.Lib.Pipeline.ValueKit.Tiles

@[expose] public section

set_option maxRecDepth 16384

noncomputable section

namespace Cert.Kernel8Ideal.Fourier

open Cert.Kernel8Ideal.Gen
open Idealize.ShloMosaic Idealize.ShloMosaic.TcCoe Idealize.ShloMosaic.Tactic
open Idealize.SL.Sem

theorem load_unread {S : Shape} {e : EltTy} (M : Memref sig .tc .vmem S e) (h : M.IsWhole) (X : S.Idx → Elt Ideal e) (r : Rect S) :
    M.view.readAt (Elt Ideal) r.toLoadRect (h.unread X) = View.ld X r := by
  rw [View.readAt_eq_ld, h.read_unread]

theorem load_chan (X : S128x256.Idx → Elt Ideal .bf16) : View.ld X (Rect.unit (s := S128x256) ![0, 0] ![128, 256] inb_S128x256_S128x256_0_0) = X :=
  View.ld_unit_lit inb_S128x256_S128x256_0_0 X (by decide)
theorem load_seq (X : S1024x4096.Idx → Elt Ideal .bf16) : View.ld X (Rect.unit (s := S1024x4096) ![0, 0] ![1024, 4096] inb_S1024x4096_S1024x4096_0_0) = X :=
  View.ld_unit_lit inb_S1024x4096_S1024x4096_0_0 X (by decide)
theorem load_scratch (X : S4096x512.Idx → Elt Ideal .bf16) : View.ld X (Rect.unit (s := S4096x512) ![0, 0] ![4096, 512] inb_S4096x512_S4096x512_0_0) = X :=
  View.ld_unit_lit inb_S4096x512_S4096x512_0_0 X (by decide)

/-- The channels' transform at row `t`, column `q`: the product of group `q / 128` of the batch's row `t % 2048` with column
    `q % 128` of the table's left half, or, for the last 2048 rows, of its right half. -/
def mixedAt (x0 : Vec Ideal S1x2048x512 .bf16) (x1 : Vec Ideal S128x256 .bf16) (t : Fin 4096) (q : Fin 512) : EReal :=
  ∑ j : Fin 128, x0 (ix3 0 ⟨t.val % 2048, Nat.mod_lt _ (by decide)⟩ ⟨128 * (q.val / 128) + j.val, by omega⟩)
    * x1 (ix2 j ⟨128 * (t.val / 2048) + q.val % 128, by omega⟩)

/-- Piece `h`, `g` of the scratch holds the channels' transform where it lies. -/
theorem chunk (x0 : Vec Ideal S1x2048x512 .bf16) (x1 : Vec Ideal S128x256 .bf16) (h g : ℕ) (hh : h < 2) (hg : g < 4)
    (w : Vec Ideal S2048x128 .bf16)
    (hw : ∀ (s : Fin 2048) (k : Fin 128), w (ix2 s k) = ∑ j : Fin 128, x0 (ix3 0 s ⟨128 * g + j.val, by omega⟩) * x1 (ix2 j ⟨128 * h + k.val, by omega⟩))
    (y : S4096x512.Idx) :
    View.TileAt (Val := Elt Ideal) (S := S4096x512) (e := .bf16) y ![2048 * h, 128 * g] S2048x128.size w (mixedAt x0 x1 (y 0) (y 1)) := by
  intro (x : S2048x128.Idx) hx
  obtain ⟨s, k, rfl⟩ : ∃ (s : Fin 2048) (k : Fin 128), x = ix2 s k := ⟨x 0, x 1, funext fun a => by match a with | ⟨0, _⟩ => rfl | ⟨1, _⟩ => rfl⟩
  have e0 : (y 0).val = 2048 * h + s.val := hx 0
  have e1 : (y 1).val = 128 * g + k.val := hx 1
  rw [hw]
  refine Finset.sum_congr rfl fun j _ => congrArg₂ (fun a b : EReal => a * b)
    (congrArg₂ (fun a b => x0 (ix3 0 a b)) (Fin.ext ?_) (Fin.ext ?_)) (congrArg (fun b => x1 (ix2 j b)) (Fin.ext ?_))
  · show s.val = (y 0).val % 2048; omega
  · show 128 * g + j.val = 128 * ((y 1).val / 128) + j.val; omega
  · show 128 * h + k.val = 128 * ((y 0).val / 2048) + (y 1).val % 128; omega

/-- The groups of 128 columns of a batch. -/
theorem group_inb (g : ℕ) (hg : g < 4) : ∀ a, (![0, 0, 128 * g] : Fin 3 → ℕ) a + S1x2048x128.size a ≤ S1x2048x512.size a := fun a => by
  match a with
  | ⟨0, _⟩ => exact Nat.le_refl 1
  | ⟨1, _⟩ => exact Nat.le_refl 2048
  | ⟨2, _⟩ => show 128 * g + 128 ≤ 512; omega
def groupAt (x0 : Vec Ideal S1x2048x512 .bf16) (g : ℕ) (hg : g < 4) : Vec Ideal S1x2048x128 .bf16 :=
  View.ld x0 (Rect.unit (s := S1x2048x512) ![0, 0, 128 * g] S1x2048x128.size (group_inb g hg))
theorem groupAt_apply (x0 : Vec Ideal S1x2048x512 .bf16) (g : ℕ) (hg : g < 4) (s : Fin 2048) (j : Fin 128) :
    groupAt x0 g hg (ix3 0 s j) = x0 (ix3 0 s ⟨128 * g + j.val, by omega⟩) :=
  congrArg x0 (funext fun a => Fin.ext (by
    match a with
    | ⟨0, _⟩ => rfl
    | ⟨1, _⟩ => show 0 + 1 * s.val = s.val; omega
    | ⟨2, _⟩ => show 128 * g + 1 * j.val = 128 * g + j.val; omega))

theorem pay9_apply (u : Vec Ideal S1x2048x128 .bf16) (x1 : Vec Ideal S128x256 .bf16) (s : Fin 2048) (k : Fin 128) :
    k0_pay9 (F := Ideal) u x1 (ix2 s k) = ∑ j : Fin 128, u (ix3 0 s j) * x1 (ix2 j ⟨128 * 0 + k.val, by omega⟩) := by
  unfold k0_pay9 k0_pay8
  pointwise
theorem pay10_apply (u : Vec Ideal S1x2048x128 .bf16) (x1 : Vec Ideal S128x256 .bf16) (s : Fin 2048) (k : Fin 128) :
    k0_pay10 (F := Ideal) u x1 (ix2 s k) = ∑ j : Fin 128, u (ix3 0 s j) * x1 (ix2 j ⟨128 * 1 + k.val, by omega⟩) := by
  unfold k0_pay10 k0_pay8
  pointwise

theorem cos_group (x0 : Vec Ideal S1x2048x512 .bf16) (x1 : Vec Ideal S128x256 .bf16) (g : ℕ) (hg : g < 4) (s : Fin 2048) (k : Fin 128) :
    k0_pay9 (F := Ideal) (groupAt x0 g hg) x1 (ix2 s k) = ∑ j : Fin 128, x0 (ix3 0 s ⟨128 * g + j.val, by omega⟩) * x1 (ix2 j ⟨128 * 0 + k.val, by omega⟩) :=
  (pay9_apply _ x1 s k).trans (Finset.sum_congr rfl fun j _ => congrArg (fun a : EReal => a * _) (groupAt_apply x0 g hg s j))
theorem sin_group (x0 : Vec Ideal S1x2048x512 .bf16) (x1 : Vec Ideal S128x256 .bf16) (g : ℕ) (hg : g < 4) (s : Fin 2048) (k : Fin 128) :
    k0_pay10 (F := Ideal) (groupAt x0 g hg) x1 (ix2 s k) = ∑ j : Fin 128, x0 (ix3 0 s ⟨128 * g + j.val, by omega⟩) * x1 (ix2 j ⟨128 * 1 + k.val, by omega⟩) :=
  (pay10_apply _ x1 s k).trans (Finset.sum_congr rfl fun j _ => congrArg (fun a : EReal => a * _) (groupAt_apply x0 g hg s j))

theorem pay7_apply (x2 : Vec Ideal S1024x4096 .bf16) (ab : Vec Ideal S4096x512 .bf16) (r : Fin 1024) (q : Fin 512) :
    k0_pay7 (F := Ideal) x2 ab (ix3 0 r q) = ∑ t : Fin 4096, x2 (ix2 r t) * ab (ix2 t q) := by
  unfold k0_pay7
  pointwise

section
variable (c : Dev nD) (i : grid0.Coords)
variable (arg2 : Memref sig .tc .vmem S1x2048x512 .bf16) (harg2 : arg2.IsWhole)
variable (arg3 : Memref sig .tc .vmem S128x256 .bf16) (harg3 : arg3.IsWhole)
variable (arg4 : Memref sig .tc .vmem S1024x4096 .bf16) (harg4 : arg4.IsWhole)
variable (arg5 : Memref sig .tc .vmem S1x1024x512 .bf16) (harg5 : arg5.IsWhole)
variable (arg6 : Memref sig .tc .vmem S4096x512 .bf16) (harg6 : arg6.IsWhole)
variable (x0 : Vec Ideal S1x2048x512 .bf16) (x1 : Vec Ideal S128x256 .bf16) (x2 : Vec Ideal S1024x4096 .bf16) (xs0 : Vec Ideal S4096x512 .bf16)

theorem out_A (h : cond0_0 i) : out0_A_3 (F := Ideal) c i arg2 harg2 arg3 harg3 arg4 harg4 arg5 harg5 arg6 harg6 h x0 x1 x2
    = k0_pay7 x2 (sout0_A_0 (F := Ideal) c i arg2 harg2 arg3 harg3 arg4 harg4 arg5 harg5 arg6 harg6 h x0 x1 x2) := by
  unfold out0_A_3 sout0_A_0 kernelRun0_A
  dsimp only
  refine (View.read_writes_full VO0_3 _ inb_S1x1024x512_S1x1024x512_0_0_0 _ []).trans ?_
  rw [load_unread, load_seq, View.read_writes_junk_eq_canon]
  unfold kernelRun0_A.sl.v5
  rw [View.readCov_eq_canon']
  exact congrArg (k0_pay7 x2) (load_scratch _)

theorem out_B (h : ¬cond0_0 i) : out0_B_3 (F := Ideal) c i arg2 harg2 arg3 harg3 arg4 harg4 arg5 harg5 arg6 harg6 h x0 x1 x2 xs0
    = k0_pay7 x2 xs0 := by
  unfold out0_B_3 kernelRun0_B
  dsimp only
  refine (View.read_writes_full VO0_3 _ inb_S1x1024x512_S1x1024x512_0_0_0 _ []).trans ?_
  rw [load_unread, load_seq, load_unread, load_scratch]

/-- What the first point of a batch leaves in the scratch. -/
theorem scratch_A (h : cond0_0 i) (y : S4096x512.Idx) : sout0_A_0 (F := Ideal) c i arg2 harg2 arg3 harg3 arg4 harg4 arg5 harg5 arg6 harg6 h x0 x1 x2 y
    = mixedAt x0 x1 (y 0) (y 1) := by
  unfold sout0_A_0
  rw [View.read_writes_junk_eq_canon]
  refine View.canon_eq_of_allAt _ _ _ (scover0_A_0 c i arg2 harg2 arg3 harg3 arg4 harg4 arg5 harg5 arg6 harg6 h x0 x1 x2 y) ?_
  unfold kernelRun0_A
  dsimp only
  unfold kernelRun0_A.sl.HS0_8
  simp only [load_unread, kernelRun0_A.sl.r]
  erw [load_chan x1]
  exact View.allAt_cons_unit _ _ _ _ _ (chunk x0 x1 1 3 (by decide) (by decide) _ (sin_group x0 x1 3 (by decide)) y) (
    View.allAt_cons_unit _ _ _ _ _ (chunk x0 x1 0 3 (by decide) (by decide) _ (cos_group x0 x1 3 (by decide)) y) (
    View.allAt_cons_unit _ _ _ _ _ (chunk x0 x1 1 2 (by decide) (by decide) _ (sin_group x0 x1 2 (by decide)) y) (
    View.allAt_cons_unit _ _ _ _ _ (chunk x0 x1 0 2 (by decide) (by decide) _ (cos_group x0 x1 2 (by decide)) y) (
    View.allAt_cons_unit _ _ _ _ _ (chunk x0 x1 1 1 (by decide) (by decide) _ (sin_group x0 x1 1 (by decide)) y) (
    View.allAt_cons_unit _ _ _ _ _ (chunk x0 x1 0 1 (by decide) (by decide) _ (cos_group x0 x1 1 (by decide)) y) (
    View.allAt_cons_unit _ _ _ _ _ (chunk x0 x1 1 0 (by decide) (by decide) _ (sin_group x0 x1 0 (by decide)) y) (
    View.allAt_cons_unit _ _ _ _ _ (chunk x0 x1 0 0 (by decide) (by decide) _ (cos_group x0 x1 0 (by decide)) y) (View.allAt_nil _ _))))))))

end

end Cert.Kernel8Ideal.Fourier

end
-- ==== Proof.Fourier.Tables.lean ====
/-
  The tables of cosines and sines that the Fourier mixer's call builds, entry by entry.
-/
module
public import proofs.«01_k».proof.Proof.Fourier.Body
public import proofs.«01_k».proof.Proof.Gen.Kernel8Ideal.Value
public import Idealize.ShloMosaic.Lib.ValueLayout

@[expose] public section

set_option maxRecDepth 16384

noncomputable section

namespace Cert.Kernel8Ideal.Fourier

open Cert.Kernel8Ideal.Gen
open Idealize.ShloMosaic Idealize.ShloMosaic.TcCoe Idealize.SL.Sem

/-- The tables that the call builds: cosines and sines of the channels' transform and of the rows'. -/
def turnWord : FVec Ideal S_ .f32 := mulf (constant S_ .f32 0x40000000#32) (mulf (constant S_ .f32 0x40800000#32) (Host.atan (constant S_ .f32 0x3F800000#32)))
def chanAngle : FVec Ideal S128x128 .f32 :=
  mulf (sitofp .f32 (Host.remsi (muli (iotaInDim S128x128 32 0) (iotaInDim S128x128 32 1)) (broadcastInDim S128x128 ![] bcast_S_S128x128 (constantI S_ 32 128#32))))
    (broadcastInDim S128x128 ![] bcast_S_S128x128 (Host.divf turnWord (constant S_ .f32 0x43000000#32)))
def chanScale : FVec Ideal S128x128 .f32 :=
  broadcastInDim S128x128 ![] bcast_S_S128x128 (Host.divf (constant S_ .f32 0x3F800000#32) (Host.sqrt (constant S_ .f32 0x43000000#32)))
def seqAngle : FVec Ideal S2048x2048 .f32 :=
  mulf (sitofp .f32 (Host.remsi (muli (iotaInDim S2048x2048 32 0) (iotaInDim S2048x2048 32 1)) (broadcastInDim S2048x2048 ![] bcast_S_S2048x2048 (constantI S_ 32 2048#32))))
    (broadcastInDim S2048x2048 ![] bcast_S_S2048x2048 (Host.divf turnWord (constant S_ .f32 0x45000000#32)))
def seqScale : FVec Ideal S2048x2048 .f32 :=
  broadcastInDim S2048x2048 ![] bcast_S_S2048x2048 (Host.divf (constant S_ .f32 0x3F800000#32) (Host.sqrt (constant S_ .f32 0x45000000#32)))
def chanTable : Vec Ideal S128x256 .bf16 :=
  truncf .bf16 (concatenate S128x256 1 [⟨S128x128, mulf (Host.cos chanAngle) chanScale⟩, ⟨S128x128, mulf (Host.sin chanAngle) chanScale⟩] concatenates_S128x128_S128x128_S128x256_d1) bitsLt_bf16_f32
def seqTable : Vec Ideal S2048x4096 .bf16 :=
  truncf .bf16 (concatenate S2048x4096 1 [⟨S2048x2048, mulf (Host.cos seqAngle) seqScale⟩, ⟨S2048x2048, Host.negf (mulf (Host.sin seqAngle) seqScale)⟩] concatenates_S2048x2048_S2048x2048_S2048x4096_d1) bitsLt_bf16_f32

/-- A full turn: eight times the arc tangent of one. -/
def turn : EReal := Ideal.ofBits FTy.f32 1073741824#32 * (Ideal.ofBits FTy.f32 1082130432#32 * Ideal.atan 1)
/-- The angle at entry `j`, `k` of a transform of size `n`, `l` being its float word: the remainder of `j k` by `n`, times the
    `n`-th part of a turn. -/
def angleAt (n l : BitVec 32) (j k : ℕ) : EReal :=
  FloatOps.sitofp (F := Ideal) FTy.f32 (IntOp.remsi ArithUnit.host (IntOp.muli (BitVec.ofNat 32 j) (BitVec.ofNat 32 k)) n) * Ideal.div turn (Ideal.ofBits FTy.f32 l)
/-- Its cosine and its sine, over the root of `n`. -/
def cosAt (n l : BitVec 32) (j k : ℕ) : EReal := Ideal.cos (angleAt n l j k) * Ideal.div 1 (Ideal.sqrt (Ideal.ofBits FTy.f32 l))
def sinAt (n l : BitVec 32) (j k : ℕ) : EReal := Ideal.sin (angleAt n l j k) * Ideal.div 1 (Ideal.sqrt (Ideal.ofBits FTy.f32 l))

/-- The entries of the two transforms: of size 128, over the root of 128, and of size 2048, over the root of 2048. -/
abbrev chanCosAt (j k : ℕ) : EReal := cosAt 128#32 1124073472#32 j k
abbrev chanSinAt (j k : ℕ) : EReal := sinAt 128#32 1124073472#32 j k
abbrev seqCosAt (j k : ℕ) : EReal := cosAt 2048#32 1157627904#32 j k
abbrev seqSinAt (j k : ℕ) : EReal := sinAt 2048#32 1157627904#32 j k

/-- The channels' table holds the cosines in its left half and the sines in its right half. -/
theorem chan_cos (j k : Fin 128) : chanTable (ix2 j ⟨128 * 0 + k.val, by omega⟩) = chanCosAt j k := by
  unfold chanTable chanAngle chanScale turnWord
  pointwise
  rfl
theorem chan_sin (j k : Fin 128) : chanTable (ix2 j ⟨128 * 1 + k.val, by omega⟩) = chanSinAt j k := by
  unfold chanTable chanAngle chanScale turnWord
  pointwise
  rfl
/-- The rows' table holds the cosines in its left half and the negated sines in its right half. -/
theorem seq_cos (j k : Fin 2048) : seqTable (ix2 j ⟨2048 * 0 + k.val, by omega⟩) = seqCosAt j k := by
  unfold seqTable seqAngle seqScale turnWord
  pointwise
  rfl
theorem seq_sin (j k : Fin 2048) : seqTable (ix2 j ⟨2048 * 1 + k.val, by omega⟩) = -seqSinAt j k := by
  unfold seqTable seqAngle seqScale turnWord
  pointwise
  rfl

variable (m : (ℓ : Loc nD τ sig) → Buf (Elt Ideal) ℓ) (c : Dev nD)

/-- What the program holds in the two arrays that the grid reads. -/
theorem V_chan : (V m c main_v21 : Vec Ideal S128x256 .bf16) = chanTable := rfl
theorem V_seq : (V m c main_v44 : Vec Ideal S2048x4096 .bf16) = seqTable := rfl

end Cert.Kernel8Ideal.Fourier

end
-- ==== Proof.Fourier.Value.lean ====
/-
  The Fourier mixer's result over the extended reals: the array that its grid's points make up is the plain function of the
  argument's entries.
-/
module

public import proofs.«01_k».proof.Proof.Sums
public import proofs.«01_k».proof.Proof.Fourier.Tables

@[expose] public section

set_option maxRecDepth 16384

noncomputable section

namespace Cert.Kernel8Ideal.Fourier

open Cert.Kernel8Ideal.Gen
open Cert.Halves
open Idealize.ShloMosaic Idealize.ShloMosaic.TcCoe Idealize.SL.Sem

/-- The channels' transform, by the table `tab`, at row `s`, column `q` of batch `b`. -/
def channels (u : Vec Ideal S8x2048x1280 .bf16) (tab : ℕ → ℕ → EReal) (b : Fin 8) (q : Fin 512) (s : Fin 2048) : EReal :=
  ∑ j : Fin 128, u (ix3 b s ⟨128 * (q.val / 128) + j.val, by omega⟩) * tab j (q.val % 128)

/-- The mixed entry at batch `b`, row `R`, column `q`. -/
def mixed (u : Vec Ideal S8x2048x1280 .bf16) (b : Fin 8) (R : Fin 2048) (q : Fin 512) : EReal :=
  (∑ s : Fin 2048, seqCosAt R s * channels u chanCosAt b q s) + ∑ s : Fin 2048, -seqSinAt R s * channels u chanSinAt b q s

variable (m : (ℓ : Loc nD τ sig) → Buf (Elt Ideal) ℓ) (c : Dev nD)

abbrev input : Vec Ideal S8x2048x1280 .bf16 := m ((c.tc : Thread nD τ).loc main_arg0)

/-- The result. -/
def result : Vec Ideal S8x2048x512 .bf16 := fun i => mixed (input m c) (i 0) (i 1) (i 2)

/-! ## A point's blocks -/

theorem rows_emb (t : Fin grid0.N) (r : Fin 1024) (q : Fin 512) :
    (win0_3.blk t).view.emb (ix3 0 r q : S1x1024x512.Idx) = (ix3 (batchAt t) (rowAt t r) q : S8x2048x512.Idx) := rows_eq t r q _ rfl rfl rfl

/-- A point's block of the argument is its batch's rows, in their first 512 columns. -/
theorem input_block (t : Fin grid0.N) (s : Fin 2048) (q : Fin 512) :
    (X0_0 m c t : Vec Ideal S1x2048x512 .bf16) (ix3 0 s q) = input m c (ix3 (batchAt t) s ⟨q.val, by omega⟩) := by
  have ht : t.val < 16 := Nat.lt_of_lt_of_eq t.isLt points
  unfold X0_0 Pipeline.Window.fill
  rw [dif_pos (moved0_0 t _)]
  refine (congrArg (V m c main_arg0 : Vec Ideal S8x2048x1280 .bf16) ?_).trans (congrFun (V_main_arg0 m c) _)
  have e0 := coords0 t
  refine funext fun a => Fin.ext ?_
  match a with
  | ⟨0, _⟩ =>
    show (BitVec.ofNat 32 (grid.coords t 0).val).toNat * 1 + 1 * 0 = t.val / 2
    rw [e0, BitVec.toNat_ofNat]
    omega
  | ⟨1, _⟩ => show 0 * 2048 + 1 * s.val = s.val; omega
  | ⟨2, _⟩ => show 0 * 512 + 1 * q.val = q.val; omega

theorem chan_block (t : Fin grid0.N) (j : Fin 128) (k : Fin 256) : (iblk m c 1 t : Vec Ideal S128x256 .bf16) (ix2 j k) = chanTable (ix2 j k) :=
  (congrArg (V m c main_v21 : Vec Ideal S128x256 .bf16) (whole_eq j k _ rfl rfl)).trans (congrFun (V_chan m c) _)

theorem seq_block (t : Fin grid0.N) (r : Fin 1024) (k : Fin 4096) :
    (iblk m c 2 t : Vec Ideal S1024x4096 .bf16) (ix2 r k) = seqTable (ix2 (rowAt t r) k) := by
  have ht : t.val < 16 := Nat.lt_of_lt_of_eq t.isLt points
  refine (congrArg (V m c main_v44 : Vec Ideal S2048x4096 .bf16) ?_).trans (congrFun (V_seq m c) _)
  have e1 := coords1 t
  refine funext fun a => Fin.ext ?_
  match a with
  | ⟨0, _⟩ =>
    show (BitVec.ofNat 32 (grid.coords t 1).val).toNat * 1024 + 1 * r.val = 1024 * (t.val % 2) + r.val
    rw [e1, BitVec.toNat_ofNat]
    omega
  | ⟨1, _⟩ => show 0 * 4096 + 1 * k.val = k.val; omega

/-! ## The scratch, filled at a batch's first point and kept to its second -/

theorem mixedAt_cos (t : Fin grid0.N) (s : Fin 2048) (q : Fin 512) :
    mixedAt (X0_0 m c t) (iblk m c 1 t) ⟨2048 * 0 + s.val, by omega⟩ q = channels (input m c) chanCosAt (batchAt t) q s := by
  unfold mixedAt channels
  refine Finset.sum_congr rfl fun j _ => congrArg₂ (fun a b : EReal => a * b) ?_ ?_
  · refine (input_block m c t _ _).trans (congrArg (fun r => input m c (ix3 (batchAt t) r _)) (Fin.ext ?_))
    show (2048 * 0 + s.val) % 2048 = s.val; omega
  · refine (chan_block m c t j _).trans (Eq.trans (congrArg (fun k => chanTable (ix2 j k)) (Fin.ext ?_)) (chan_cos j ⟨q.val % 128, Nat.mod_lt _ (by decide)⟩))
    show 128 * ((2048 * 0 + s.val) / 2048) + q.val % 128 = 128 * 0 + q.val % 128; omega

theorem mixedAt_sin (t : Fin grid0.N) (s : Fin 2048) (q : Fin 512) :
    mixedAt (X0_0 m c t) (iblk m c 1 t) ⟨2048 * 1 + s.val, by omega⟩ q = channels (input m c) chanSinAt (batchAt t) q s := by
  unfold mixedAt channels
  refine Finset.sum_congr rfl fun j _ => congrArg₂ (fun a b : EReal => a * b) ?_ ?_
  · refine (input_block m c t _ _).trans (congrArg (fun r => input m c (ix3 (batchAt t) r _)) (Fin.ext ?_))
    show (2048 * 1 + s.val) % 2048 = s.val; omega
  · refine (chan_block m c t j _).trans (Eq.trans (congrArg (fun k => chanTable (ix2 j k)) (Fin.ext ?_)) (chan_sin j ⟨q.val % 128, Nat.mod_lt _ (by decide)⟩))
    show 128 * ((2048 * 1 + s.val) / 2048) + q.val % 128 = 128 * 1 + q.val % 128; omega

/-- The product of a point's rows of the table with a scratch that holds the channels' transform. -/
theorem product (t : Fin grid0.N) (ab : Vec Ideal S4096x512 .bf16) (r : Fin 1024) (q : Fin 512)
    (hcos : ∀ s : Fin 2048, ab (ix2 ⟨2048 * 0 + s.val, by omega⟩ q) = channels (input m c) chanCosAt (batchAt t) q s)
    (hsin : ∀ s : Fin 2048, ab (ix2 ⟨2048 * 1 + s.val, by omega⟩ q) = channels (input m c) chanSinAt (batchAt t) q s) :
    k0_pay7 (F := Ideal) (iblk m c 2 t) ab (ix3 0 r q) = result m c (ix3 (batchAt t) (rowAt t r) q) := by
  refine (pay7_apply (iblk m c 2 t) ab r q).trans ((Cert.Sums.sum_runs 2 2048 4096 rfl _).trans ((Fin.sum_univ_two _).trans ?_))
  refine congrArg₂ (fun a b : EReal => a + b) (Finset.sum_congr rfl fun s _ => congrArg₂ (fun a b : EReal => a * b) ?_ (hcos s))
    (Finset.sum_congr rfl fun s _ => congrArg₂ (fun a b : EReal => a * b) ?_ (hsin s))
  · exact (seq_block m c t r _).trans (seq_cos (rowAt t r) s)
  · exact (seq_block m c t r _).trans (seq_sin (rowAt t r) s)

theorem scratch_cos (t : Fin grid0.N) (h0 : t.val % 2 = 0) (s : Fin 2048) (q : Fin 512) :
    (outsAt0 m c t.val t.isLt).2 (ix2 ⟨2048 * 0 + s.val, by omega⟩ q) = channels (input m c) chanCosAt (batchAt t) q s := by
  rw [outsAt0_A m c t h0]
  dsimp only
  exact (scratch_A c _ _ _ _ _ _ _ _ _ _ _ _ _ _ _ _).trans (mixedAt_cos m c t s q)
theorem scratch_sin (t : Fin grid0.N) (h0 : t.val % 2 = 0) (s : Fin 2048) (q : Fin 512) :
    (outsAt0 m c t.val t.isLt).2 (ix2 ⟨2048 * 1 + s.val, by omega⟩ q) = channels (input m c) chanSinAt (batchAt t) q s := by
  rw [outsAt0_A m c t h0]
  dsimp only
  exact (scratch_A c _ _ _ _ _ _ _ _ _ _ _ _ _ _ _ _).trans (mixedAt_sin m c t s q)

/-- What point `t` stores is its rows of the result. -/
theorem block_apply (t : Fin grid0.N) (r : Fin 1024) (q : Fin 512) :
    (outsAt0 m c t.val t.isLt).1 (ix3 0 r q) = result m c (ix3 (batchAt t) (rowAt t r) q) := by
  by_cases h0 : t.val % 2 = 0
  · rw [outsAt0_A m c t h0]
    dsimp only
    rw [out_A]
    exact product m c t _ r q
      (fun s => (scratch_A c _ _ _ _ _ _ _ _ _ _ _ _ _ _ _ _).trans (mixedAt_cos m c t s q))
      (fun s => (scratch_A c _ _ _ _ _ _ _ _ _ _ _ _ _ _ _ _).trans (mixedAt_sin m c t s q))
  · rw [outsAt0_B m c t h0]
    dsimp only
    rw [out_B]
    have hlt : t.val - 1 < grid0.N := Nat.lt_of_le_of_lt (Nat.sub_le _ _) t.isLt
    have hb : batchAt ⟨t.val - 1, hlt⟩ = batchAt t := Fin.ext (by show (t.val - 1) / 2 = t.val / 2; omega)
    have h1 : (⟨t.val - 1, hlt⟩ : Fin grid0.N).val % 2 = 0 := by show (t.val - 1) % 2 = 0; omega
    exact product m c t _ r q
      (fun s => (scratch_cos m c ⟨t.val - 1, hlt⟩ h1 s q).trans (congrArg (fun b => channels (input m c) chanCosAt b q s) hb))
      (fun s => (scratch_sin m c ⟨t.val - 1, hlt⟩ h1 s q).trans (congrArg (fun b => channels (input m c) chanSinAt b q s) hb))

/-- The array that the points' blocks make up. -/
theorem arr_result : (dats m 0 c).arrAt 3 cfg0.N = result m c := by
  refine (dats m 0 c).arrAt_eq_of_emb 3 (result m c) (fun t _ (y : S1x1024x512.Idx) => ?_) fun (i : S8x2048x512.Idx) => ?_
  · obtain ⟨r, q, rfl⟩ := block_idx y
    refine Eq.trans ?_ (congrArg (result m c) (rows_emb t r q)).symm
    exact (congrFun (after0_3 m c t) _).trans (block_apply m c t r q)
  · obtain ⟨b, R, q, rfl⟩ := array_idx i
    obtain ⟨t, r, rfl, rfl⟩ := exists_point b R
    exact ⟨t, flush0_3 t, rows_emb t r q ▸ (win0_3.blk t).view.emb_mem_set _⟩

end Cert.Kernel8Ideal.Fourier

end
-- ==== Proof.Fourier.Angle.lean ====
/-
  The angles of a discrete Fourier transform over the extended reals: the full turn is `2 π`, and the cosine and the sine of
  a multiple of its `n`-th part do not change when the multiple is reduced modulo `n`.
-/
module
public import proofs.«01_k».proof.Proof.Fourier.Tables
public import Idealize.ShloMosaic.Lib.Routing.Words
public import Idealize.ShloMosaic.Lib.WordArith
public import Mathlib.Analysis.SpecialFunctions.Trigonometric.Arctan

@[expose] public section

noncomputable section

namespace Cert.Kernel8Ideal.Fourier

open Idealize.ShloMosaic

theorem turn_eq : turn = ((2 * Real.pi : ℝ) : EReal) := by
  have h2 : Ideal.ofBits FTy.f32 1073741824#32 = ((2 : ℝ) : EReal) := by simp [Ideal.ofBits, Ideal.ieee]; rw [← EReal.coe_mul]; norm_num
  have h4 : Ideal.ofBits FTy.f32 1082130432#32 = ((4 : ℝ) : EReal) := by simp [Ideal.ofBits, Ideal.ieee]; rw [← EReal.coe_mul]; norm_num
  have h1 : Ideal.atan 1 = ((Real.pi / 4 : ℝ) : EReal) := by
    refine (Ideal.atan_coe (r := 1)).trans ?_
    rw [Real.arctan_one]
  unfold turn
  rw [h2, h4, h1, ← EReal.coe_mul, ← EReal.coe_mul]
  congr 1; ring

theorem word_128 : Ideal.ofBits FTy.f32 1124073472#32 = (((128 : ℕ) : ℝ) : EReal) := by simp [Ideal.ofBits, Ideal.ieee]; rw [← EReal.coe_mul]; norm_num
theorem word_2048 : Ideal.ofBits FTy.f32 1157627904#32 = (((2048 : ℕ) : ℝ) : EReal) := by simp [Ideal.ofBits, Ideal.ieee]; rw [← EReal.coe_mul]; norm_num

/-- A word below `2 ^ 31` is cast to the number that it stands for. -/
theorem cast_word (a : ℕ) (ha : a < 2 ^ 31) : FloatOps.sitofp (F := Ideal) FTy.f32 (BitVec.ofNat 32 a) = ((a : ℝ) : EReal) := by
  have h : (BitVec.ofNat 32 a).toInt = (a : ℤ) := by
    exact WordArith.toInt_ofNat_small a ha
  show (((BitVec.ofNat 32 a).toInt : ℝ) : EReal) = _
  rw [h, Int.cast_natCast]

theorem mul_word (a b : ℕ) : IntOp.muli (BitVec.ofNat 32 a) (BitVec.ofNat 32 b) = BitVec.ofNat 32 (a * b) := by
  show BitVec.ofNat 32 a * BitVec.ofNat 32 b = _
  rw [← BitVec.ofNat_mul]

/-- The angle that is not reduced: the product of the turn with `j k`, over `n`. -/
def fullAngleAt (l : BitVec 32) (j k : ℕ) : EReal :=
  Ideal.div (turn * FloatOps.sitofp (F := Ideal) FTy.f32 (IntOp.muli (BitVec.ofNat 32 j) (BitVec.ofNat 32 k))) (Ideal.ofBits FTy.f32 l)

theorem fullAngle_eq (n : ℕ) (l : BitVec 32) (hl : Ideal.ofBits FTy.f32 l = ((n : ℝ) : EReal)) (hn : 0 < n) (j k : ℕ) (h : j * k < 2 ^ 31) :
    fullAngleAt l j k = ((2 * Real.pi * (j * k : ℕ) * (1 / (n : ℝ)) : ℝ) : EReal) := by
  have h0 : (n : ℝ) ≠ 0 := Nat.cast_ne_zero.mpr hn.ne'
  unfold fullAngleAt
  rw [mul_word, cast_word _ h, turn_eq, hl, ← EReal.coe_mul, Ideal.div_coe h0, ← EReal.coe_mul]

theorem angle_eq (n : ℕ) (l : BitVec 32) (hl : Ideal.ofBits FTy.f32 l = ((n : ℝ) : EReal)) (hn : 0 < n) (hn' : n < 2 ^ 31) (j k : ℕ) (h : j * k < 2 ^ 31) :
    angleAt (BitVec.ofNat 32 n) l j k = (((j * k % n : ℕ) * (2 * Real.pi * (1 / (n : ℝ))) : ℝ) : EReal) := by
  have h0 : (n : ℝ) ≠ 0 := Nat.cast_ne_zero.mpr hn.ne'
  unfold angleAt
  rw [mul_word, Idealize.ShloMosaic.Routing.remsi_word _ h hn hn', cast_word _ (lt_trans (Nat.mod_lt _ hn) hn'), turn_eq, hl, Ideal.div_coe h0, ← EReal.coe_mul, ← EReal.coe_mul]

/-- The two angles differ by whole turns. -/
theorem turns (n : ℕ) (hn : 0 < n) (a : ℕ) :
    2 * Real.pi * a * (1 / (n : ℝ)) = ((a % n : ℕ) : ℝ) * (2 * Real.pi * (1 / (n : ℝ))) + ((a / n : ℕ) : ℝ) * (2 * Real.pi) := by
  have h0 : (n : ℝ) ≠ 0 := Nat.cast_ne_zero.mpr hn.ne'
  have e : (a : ℝ) = (n : ℝ) * ((a / n : ℕ) : ℝ) + ((a % n : ℕ) : ℝ) := by exact_mod_cast (Nat.div_add_mod a n).symm
  rw [show 2 * Real.pi * (a : ℝ) * (1 / (n : ℝ)) = 2 * Real.pi * ((n : ℝ) * ((a / n : ℕ) : ℝ) + ((a % n : ℕ) : ℝ)) * (1 / (n : ℝ)) from by rw [← e]]
  field_simp
  ring

theorem cos_full (n : ℕ) (l : BitVec 32) (hl : Ideal.ofBits FTy.f32 l = ((n : ℝ) : EReal)) (hn : 0 < n) (hn' : n < 2 ^ 31) (j k : ℕ) (h : j * k < 2 ^ 31) :
    Ideal.cos (fullAngleAt l j k) = Ideal.cos (angleAt (BitVec.ofNat 32 n) l j k) := by
  rw [fullAngle_eq n l hl hn j k h, angle_eq n l hl hn hn' j k h, turns n hn]
  exact congrArg (fun r : ℝ => (r : EReal)) (Real.cos_add_nat_mul_two_pi _ _)

theorem sin_full (n : ℕ) (l : BitVec 32) (hl : Ideal.ofBits FTy.f32 l = ((n : ℝ) : EReal)) (hn : 0 < n) (hn' : n < 2 ^ 31) (j k : ℕ) (h : j * k < 2 ^ 31) :
    Ideal.sin (fullAngleAt l j k) = Ideal.sin (angleAt (BitVec.ofNat 32 n) l j k) := by
  rw [fullAngle_eq n l hl hn j k h, angle_eq n l hl hn hn' j k h, turns n hn]
  exact congrArg (fun r : ℝ => (r : EReal)) (Real.sin_add_nat_mul_two_pi _ _)

theorem product_lt (n : ℕ) (hn : n ≤ 2048) (j k : Fin n) : j.val * k.val < 2 ^ 31 :=
  lt_of_le_of_lt (Nat.mul_le_mul (le_trans j.isLt.le hn) (le_trans k.isLt.le hn)) (by norm_num)

end Cert.Kernel8Ideal.Fourier

end
-- ==== Proof.Fourier.Equal.lean ====
/-
  The claim that over the extended reals the Fourier mixer and its reference end with equal results, and the reference's
  frame.
-/
module

public import proofs.«01_k».proof.Defs
public import proofs.«01_k».proof.Proof.Fourier.Value
public import proofs.«01_k».proof.Proof.Fourier.Angle
public import proofs.«01_k».proof.Proof.Gen.Reference8Ideal.Run

@[expose] public section

set_option maxRecDepth 16384

noncomputable section

namespace Cert.Kernel8Ideal.Fourier

open Cert.Halves (array_idx)
open Idealize.ShloMosaic Idealize.ShloMosaic.TcCoe Idealize.SL.Sem

theorem reference_frame : Cert.quiescent_Reference8Ideal (hReference8Ideal := Cert.Reference8Ideal.Gen.facts) :=
  fun m ρ _ => (θ_run Cert.Reference8Ideal.defs _ _).mono (fun r h => ⟨fun c => (h c).2, sem_eq_zero_of_no_sems (by decide) r.2⟩)
    (Cert.Reference8Ideal.Value.run m ρ)

/-- The reference does not reduce its angles. Its cosines and sines are the kernel's. -/
theorem chan_cos_full (j k : Fin 128) : Ideal.cos (fullAngleAt 1124073472#32 j k) = Ideal.cos (angleAt 128#32 1124073472#32 j k) :=
  cos_full 128 1124073472#32 word_128 (by norm_num) (by norm_num) j k (product_lt 128 (by norm_num) j k)
theorem chan_sin_full (j k : Fin 128) : Ideal.sin (fullAngleAt 1124073472#32 j k) = Ideal.sin (angleAt 128#32 1124073472#32 j k) :=
  sin_full 128 1124073472#32 word_128 (by norm_num) (by norm_num) j k (product_lt 128 (by norm_num) j k)
theorem seq_cos_full (j k : Fin 2048) : Ideal.cos (fullAngleAt 1157627904#32 j k) = Ideal.cos (angleAt 2048#32 1157627904#32 j k) :=
  cos_full 2048 1157627904#32 word_2048 (by norm_num) (by norm_num) j k (product_lt 2048 (by norm_num) j k)
theorem seq_sin_full (j k : Fin 2048) : Ideal.sin (fullAngleAt 1157627904#32 j k) = Ideal.sin (angleAt 2048#32 1157627904#32 j k) :=
  sin_full 2048 1157627904#32 word_2048 (by norm_num) (by norm_num) j k (product_lt 2048 (by norm_num) j k)

/-- Over the extended reals the kernel and the reference end with equal results. -/
theorem equal : Cert.algebraic_Kernel8Ideal_Reference8Ideal (hKernel8Ideal := Gen.facts) (hReference8Ideal := Cert.Reference8Ideal.Gen.facts) := by
  intro m ρ m' ρ' _ hargs
  refine ⟨fun c => result m c, ?_, ?_⟩
  · exact (θ_run Cert.Kernel8Ideal.defs _ _).mono (fun r hr c => ⟨(hr c).1.trans (arr_result m c), (hr c).2⟩) (Cert.Kernel8Ideal.Value.run_blocks m ρ)
  · refine (θ_run Cert.Reference8Ideal.defs _ _).mono (fun r hr c => ⟨(hr c).1.trans ?_, (hr c).2⟩) (Cert.Reference8Ideal.Value.run m' ρ')
    have e0 := hargs c
    rw [e0]
    funext (i : S8x2048x512.Idx)
    obtain ⟨b, R, q, rfl⟩ := array_idx i
    pointwise
    refine congrArg₂ (fun a b : EReal => a + b) (Finset.sum_congr rfl fun s _ => (mul_comm _ _).trans ?_)
      (Finset.sum_congr rfl fun s _ => (mul_comm _ _).trans ?_)
    · refine congrArg₂ (fun a b : EReal => (a * Ideal.div 1 (Ideal.sqrt (Ideal.ofBits FTy.f32 1157627904#32))) * b) (seq_cos_full R s) (Finset.sum_congr rfl fun j _ => ?_)
      exact congrArg₂ (fun k (a : EReal) => (input m c (ix3 b s k) : EReal) * (a * Ideal.div 1 (Ideal.sqrt (Ideal.ofBits FTy.f32 1124073472#32))))
        (Fin.ext (by show q.val / 128 * 128 + j.val = 128 * (q.val / 128) + j.val; omega)) (chan_cos_full j ⟨q.val % 128, Nat.mod_lt _ (by decide)⟩)
    · refine congrArg₂ (fun a b : EReal => -(a * Ideal.div 1 (Ideal.sqrt (Ideal.ofBits FTy.f32 1157627904#32))) * b) (seq_sin_full R s) (Finset.sum_congr rfl fun j _ => ?_)
      exact congrArg₂ (fun k (a : EReal) => (input m c (ix3 b s k) : EReal) * (a * Ideal.div 1 (Ideal.sqrt (Ideal.ofBits FTy.f32 1124073472#32))))
        (Fin.ext (by show q.val / 128 * 128 + j.val = 128 * (q.val / 128) + j.val; omega)) (chan_sin_full j ⟨q.val % 128, Nat.mod_lt _ (by decide)⟩)

end Cert.Kernel8Ideal.Fourier

end
-- ==== Proof.lean ====
module

public import proofs.«01_k».proof.Defs
public import proofs.«01_k».proof.Proof.Moe.Equal
public import proofs.«01_k».proof.Proof.Gen.Kernel2.Frame
public import proofs.«01_k».proof.Proof.Ffn.Equal
public import proofs.«01_k».proof.Proof.Gen.Kernel3.Frame
public import proofs.«01_k».proof.Proof.Gen.Kernel4.Frame
public import proofs.«01_k».proof.Proof.Proj.In
public import proofs.«01_k».proof.Proof.Proj.Out
public import proofs.«01_k».proof.Proof.Gen.Kernel5.Frame
public import proofs.«01_k».proof.Proof.Conv.Equal
public import proofs.«01_k».proof.Proof.Gen.Kernel6.Frame
public import proofs.«01_k».proof.Proof.Gated.Equal
public import proofs.«01_k».proof.Proof.Gen.Kernel7.Frame
public import proofs.«01_k».proof.Proof.Ada
public import proofs.«01_k».proof.Proof.Gen.Kernel8.Frame
public import proofs.«01_k».proof.Proof.Fourier.Equal

@[expose] public section

noncomputable section

namespace Cert.Proof

open Idealize.ShloMosaic Idealize.SL.Sem Cert.Kernel

/-- All claims of the experts' kernel, the feed-forward kernel, the two projections, the projection with the
    convolution, the gated projection, the modulation and the Fourier mixer: they run, over words and over the extended
    reals, and so do their references; the idealization rewrote nothing; and over the extended reals each kernel and its reference end with equal results. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_names_an_expert.Gen.facts,
  Cert.KernelIdeal.Moe.word_frame, Cert.KernelIdeal.Moe.ideal_frame, Cert.KernelIdeal.Moe.reference_frame,
  fun m ρ _ => Cert.Kernel2.Gen.frame m ρ, fun m ρ _ => Cert.Kernel2Ideal.Gen.frame m ρ, Cert.Kernel2Ideal.Ffn.reference_frame,
  fun m ρ _ => Cert.Kernel3.Gen.frame m ρ, fun m ρ _ => Cert.Kernel3Ideal.Gen.frame m ρ, Cert.Kernel3Ideal.Proj.reference_frame,
  fun m ρ _ => Cert.Kernel4.Gen.frame m ρ, fun m ρ _ => Cert.Kernel4Ideal.Gen.frame m ρ, Cert.Kernel4Ideal.Proj.reference_frame,
  fun m ρ _ => Cert.Kernel5.Gen.frame m ρ, fun m ρ _ => Cert.Kernel5Ideal.Gen.frame m ρ, Cert.Kernel5Ideal.Conv.reference_frame,
  fun m ρ _ => Cert.Kernel6.Gen.frame m ρ, fun m ρ _ => Cert.Kernel6Ideal.Gen.frame m ρ, Cert.Kernel6Ideal.Gated.reference_frame,
  fun m ρ _ => Cert.Kernel7.Gen.frame m ρ, fun m ρ _ => Cert.Kernel7Ideal.Gen.frame m ρ, Cert.Kernel7Ideal.Ada.reference_frame,
  fun m ρ _ => Cert.Kernel8.Gen.frame m ρ, fun m ρ _ => Cert.Kernel8Ideal.Gen.frame m ρ, Cert.Kernel8Ideal.Fourier.reference_frame,
  trivial, Cert.KernelIdeal.Moe.equal, trivial, Cert.Kernel2Ideal.Ffn.equal, trivial, Cert.Kernel3Ideal.Proj.equal,
  trivial, Cert.Kernel4Ideal.Proj.equal, trivial, Cert.Kernel5Ideal.Conv.equal, trivial, Cert.Kernel6Ideal.Gated.equal,
  trivial, Cert.Kernel7Ideal.Ada.equal, trivial, Cert.Kernel8Ideal.Fourier.equal⟩

end Cert.Proof

end
